-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def Pre_Fold (m : (ℓ : Loc Cert.Fold.nD Cert.Fold.τ Cert.Fold.sig) → Buf (Elt Bits) ℓ) : Prop :=
  True

def Pre_FoldIdeal (m : (ℓ : Loc Cert.FoldIdeal.nD Cert.FoldIdeal.τ Cert.FoldIdeal.sig) → Buf (Elt Ideal) ℓ) : Prop :=
  True

def Pre_FoldReferenceIdeal (m : (ℓ : Loc Cert.FoldReferenceIdeal.nD Cert.FoldReferenceIdeal.τ Cert.FoldReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Fold [hFold : Cert.Fold.Facts] : Prop :=
  ∀ (m : (ℓ : Loc Cert.Fold.nD Cert.Fold.τ Cert.Fold.sig) → Buf (Elt Bits) ℓ) (g : Dev Cert.Fold.nD → PrngReg), Pre_Fold m →
    θ_run (Cert.Fold.defs (F := Bits)) (onTc (τ := Cert.Fold.τ) (Cert.Fold.main (F := Bits))) ⟨m, fun _ => 0, g⟩ (fun r => (∀ c : Dev Cert.Fold.nD,
      r.2.mem ((c.tc : Thread Cert.Fold.nD Cert.Fold.τ).loc Cert.Fold.main_arg0) = m ((c.tc : Thread Cert.Fold.nD Cert.Fold.τ).loc Cert.Fold.main_arg0)
      ∧ r.2.mem ((c.tc : Thread Cert.Fold.nD Cert.Fold.τ).loc Cert.Fold.main_arg1) = m ((c.tc : Thread Cert.Fold.nD Cert.Fold.τ).loc Cert.Fold.main_arg1)
      ∧ r.2.mem ((c.tc : Thread Cert.Fold.nD Cert.Fold.τ).loc Cert.Fold.main_arg2) = m ((c.tc : Thread Cert.Fold.nD Cert.Fold.τ).loc Cert.Fold.main_arg2))
      ∧ r.2.sem = fun _ => 0)

def quiescent_FoldIdeal [hFoldIdeal : Cert.FoldIdeal.Facts] : Prop :=
  ∀ (m : (ℓ : Loc Cert.FoldIdeal.nD Cert.FoldIdeal.τ Cert.FoldIdeal.sig) → Buf (Elt Ideal) ℓ) (g : Dev Cert.FoldIdeal.nD → PrngReg), Pre_FoldIdeal m →
    θ_run (Cert.FoldIdeal.defs (F := Ideal)) (onTc (τ := Cert.FoldIdeal.τ) (Cert.FoldIdeal.main (F := Ideal))) ⟨m, fun _ => 0, g⟩ (fun r => (∀ c : Dev Cert.FoldIdeal.nD,
      r.2.mem ((c.tc : Thread Cert.FoldIdeal.nD Cert.FoldIdeal.τ).loc Cert.FoldIdeal.main_arg0) = m ((c.tc : Thread Cert.FoldIdeal.nD Cert.FoldIdeal.τ).loc Cert.FoldIdeal.main_arg0)
      ∧ r.2.mem ((c.tc : Thread Cert.FoldIdeal.nD Cert.FoldIdeal.τ).loc Cert.FoldIdeal.main_arg1) = m ((c.tc : Thread Cert.FoldIdeal.nD Cert.FoldIdeal.τ).loc Cert.FoldIdeal.main_arg1)
      ∧ r.2.mem ((c.tc : Thread Cert.FoldIdeal.nD Cert.FoldIdeal.τ).loc Cert.FoldIdeal.main_arg2) = m ((c.tc : Thread Cert.FoldIdeal.nD Cert.FoldIdeal.τ).loc Cert.FoldIdeal.main_arg2))
      ∧ r.2.sem = fun _ => 0)

def quiescent_FoldReferenceIdeal [hFoldReferenceIdeal : Cert.FoldReferenceIdeal.Facts] : Prop :=
  ∀ (m : (ℓ : Loc Cert.FoldReferenceIdeal.nD Cert.FoldReferenceIdeal.τ Cert.FoldReferenceIdeal.sig) → Buf (Elt Ideal) ℓ) (g : Dev Cert.FoldReferenceIdeal.nD → PrngReg), Pre_FoldReferenceIdeal m →
    θ_run (Cert.FoldReferenceIdeal.defs (F := Ideal)) (onTc (τ := Cert.FoldReferenceIdeal.τ) (Cert.FoldReferenceIdeal.main (F := Ideal))) ⟨m, fun _ => 0, g⟩ (fun r => (∀ c : Dev Cert.FoldReferenceIdeal.nD,
      r.2.mem ((c.tc : Thread Cert.FoldReferenceIdeal.nD Cert.FoldReferenceIdeal.τ).loc Cert.FoldReferenceIdeal.main_arg0) = m ((c.tc : Thread Cert.FoldReferenceIdeal.nD Cert.FoldReferenceIdeal.τ).loc Cert.FoldReferenceIdeal.main_arg0)
      ∧ r.2.mem ((c.tc : Thread Cert.FoldReferenceIdeal.nD Cert.FoldReferenceIdeal.τ).loc Cert.FoldReferenceIdeal.main_arg1) = m ((c.tc : Thread Cert.FoldReferenceIdeal.nD Cert.FoldReferenceIdeal.τ).loc Cert.FoldReferenceIdeal.main_arg1)
      ∧ r.2.mem ((c.tc : Thread Cert.FoldReferenceIdeal.nD Cert.FoldReferenceIdeal.τ).loc Cert.FoldReferenceIdeal.main_arg2) = m ((c.tc : Thread Cert.FoldReferenceIdeal.nD Cert.FoldReferenceIdeal.τ).loc Cert.FoldReferenceIdeal.main_arg2))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v489) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Fold_FoldIdeal : Prop :=
  True

def algebraic_FoldIdeal_FoldReferenceIdeal_on_image_lanes [hFoldIdeal : Cert.FoldIdeal.Facts] [hFoldReferenceIdeal : Cert.FoldReferenceIdeal.Facts] [hOn_image_lanes : Cert.On_image_lanes.Facts] : Prop :=
  ∀ (m : (ℓ : Loc Cert.FoldIdeal.nD Cert.FoldIdeal.τ Cert.FoldIdeal.sig) → Buf (Elt Ideal) ℓ) (g : Dev Cert.FoldIdeal.nD → PrngReg)
    (m' : (ℓ : Loc Cert.FoldReferenceIdeal.nD Cert.FoldReferenceIdeal.τ Cert.FoldReferenceIdeal.sig) → Buf (Elt Ideal) ℓ) (g' : Dev Cert.FoldReferenceIdeal.nD → PrngReg), Pre_FoldIdeal m →
    (∀ c : Dev Cert.FoldIdeal.nD,
      m' ((c.tc : Thread Cert.FoldReferenceIdeal.nD Cert.FoldReferenceIdeal.τ).loc Cert.FoldReferenceIdeal.main_arg0) = m ((c.tc : Thread Cert.FoldIdeal.nD Cert.FoldIdeal.τ).loc Cert.FoldIdeal.main_arg0)
      ∧ m' ((c.tc : Thread Cert.FoldReferenceIdeal.nD Cert.FoldReferenceIdeal.τ).loc Cert.FoldReferenceIdeal.main_arg1) = m ((c.tc : Thread Cert.FoldIdeal.nD Cert.FoldIdeal.τ).loc Cert.FoldIdeal.main_arg1)
      ∧ m' ((c.tc : Thread Cert.FoldReferenceIdeal.nD Cert.FoldReferenceIdeal.τ).loc Cert.FoldReferenceIdeal.main_arg2) = m ((c.tc : Thread Cert.FoldIdeal.nD Cert.FoldIdeal.τ).loc Cert.FoldIdeal.main_arg2)) →
    ∃ (v0 : (c : Dev Cert.FoldIdeal.nD) → Buf (Elt Ideal) ((c.tc : Thread Cert.FoldIdeal.nD Cert.FoldIdeal.τ).loc Cert.FoldIdeal.main_v6)),
      θ_run (Cert.FoldIdeal.defs (F := Ideal)) (onTc (τ := Cert.FoldIdeal.τ) (Cert.FoldIdeal.main (F := Ideal))) ⟨m, fun _ => 0, g⟩ (fun r => ∀ c : Dev Cert.FoldIdeal.nD,
          (∀ i : (⟨3, ![3, 96, 128]⟩ : Shape).Idx, (Cert.On_image_lanes.fn (F := Ideal) (m ((c.tc : Thread Cert.FoldIdeal.nD Cert.FoldIdeal.τ).loc Cert.FoldIdeal.main_arg0)) (m ((c.tc : Thread Cert.FoldIdeal.nD Cert.FoldIdeal.τ).loc Cert.FoldIdeal.main_arg1)) (m ((c.tc : Thread Cert.FoldIdeal.nD Cert.FoldIdeal.τ).loc Cert.FoldIdeal.main_arg2))) i = 1#1 → r.2.mem ((c.tc : Thread Cert.FoldIdeal.nD Cert.FoldIdeal.τ).loc Cert.FoldIdeal.main_v6) i = v0 c i)
          ∧ r.2.mem ((c.tc : Thread Cert.FoldIdeal.nD Cert.FoldIdeal.τ).loc Cert.FoldIdeal.main_arg0) = m ((c.tc : Thread Cert.FoldIdeal.nD Cert.FoldIdeal.τ).loc Cert.FoldIdeal.main_arg0)
          ∧ r.2.mem ((c.tc : Thread Cert.FoldIdeal.nD Cert.FoldIdeal.τ).loc Cert.FoldIdeal.main_arg1) = m ((c.tc : Thread Cert.FoldIdeal.nD Cert.FoldIdeal.τ).loc Cert.FoldIdeal.main_arg1)
          ∧ r.2.mem ((c.tc : Thread Cert.FoldIdeal.nD Cert.FoldIdeal.τ).loc Cert.FoldIdeal.main_arg2) = m ((c.tc : Thread Cert.FoldIdeal.nD Cert.FoldIdeal.τ).loc Cert.FoldIdeal.main_arg2))
      ∧ θ_run (Cert.FoldReferenceIdeal.defs (F := Ideal)) (onTc (τ := Cert.FoldReferenceIdeal.τ) (Cert.FoldReferenceIdeal.main (F := Ideal))) ⟨m', fun _ => 0, g'⟩ (fun r => ∀ c : Dev Cert.FoldReferenceIdeal.nD,
          (∀ i : (⟨3, ![3, 96, 128]⟩ : Shape).Idx, (Cert.On_image_lanes.fn (F := Ideal) (m ((c.tc : Thread Cert.FoldIdeal.nD Cert.FoldIdeal.τ).loc Cert.FoldIdeal.main_arg0)) (m ((c.tc : Thread Cert.FoldIdeal.nD Cert.FoldIdeal.τ).loc Cert.FoldIdeal.main_arg1)) (m ((c.tc : Thread Cert.FoldIdeal.nD Cert.FoldIdeal.τ).loc Cert.FoldIdeal.main_arg2))) i = 1#1 → r.2.mem ((c.tc : Thread Cert.FoldReferenceIdeal.nD Cert.FoldReferenceIdeal.τ).loc Cert.FoldReferenceIdeal.main_v367) i = v0 c i)
          ∧ r.2.mem ((c.tc : Thread Cert.FoldReferenceIdeal.nD Cert.FoldReferenceIdeal.τ).loc Cert.FoldReferenceIdeal.main_arg0) = m' ((c.tc : Thread Cert.FoldReferenceIdeal.nD Cert.FoldReferenceIdeal.τ).loc Cert.FoldReferenceIdeal.main_arg0)
          ∧ r.2.mem ((c.tc : Thread Cert.FoldReferenceIdeal.nD Cert.FoldReferenceIdeal.τ).loc Cert.FoldReferenceIdeal.main_arg1) = m' ((c.tc : Thread Cert.FoldReferenceIdeal.nD Cert.FoldReferenceIdeal.τ).loc Cert.FoldReferenceIdeal.main_arg1)
          ∧ r.2.mem ((c.tc : Thread Cert.FoldReferenceIdeal.nD Cert.FoldReferenceIdeal.τ).loc Cert.FoldReferenceIdeal.main_arg2) = m' ((c.tc : Thread Cert.FoldReferenceIdeal.nD Cert.FoldReferenceIdeal.τ).loc Cert.FoldReferenceIdeal.main_arg2))

def Claim : Prop :=
  ∃ (hKernel : Cert.Kernel.Facts) (hKernelIdeal : Cert.KernelIdeal.Facts) (hReferenceIdeal : Cert.ReferenceIdeal.Facts) (hFold : Cert.Fold.Facts) (hFoldIdeal : Cert.FoldIdeal.Facts) (hFoldReferenceIdeal : Cert.FoldReferenceIdeal.Facts) (hPre_separated : Cert.Pre_separated.Facts) (hOn_image_lanes : Cert.On_image_lanes.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ quiescent_Fold (hFold := hFold)
    ∧ quiescent_FoldIdeal (hFoldIdeal := hFoldIdeal)
    ∧ quiescent_FoldReferenceIdeal (hFoldReferenceIdeal := hFoldReferenceIdeal)
    ∧ preserves_Kernel_KernelIdeal
    ∧ algebraic_KernelIdeal_ReferenceIdeal_pre_separated (hKernelIdeal := hKernelIdeal) (hReferenceIdeal := hReferenceIdeal) (hPre_separated := hPre_separated)
    ∧ preserves_Fold_FoldIdeal
    ∧ algebraic_FoldIdeal_FoldReferenceIdeal_on_image_lanes (hFoldIdeal := hFoldIdeal) (hFoldReferenceIdeal := hFoldReferenceIdeal) (hOn_image_lanes := hOn_image_lanes)
-- ==== On_image_lanes.lean ====
abbrev S128x8704 : Shape := ⟨2, ![128, 8704]⟩
abbrev S75 : Shape := ⟨1, ![75]⟩
abbrev S1x3x1x1 : Shape := ⟨4, ![1, 3, 1, 1]⟩
abbrev S3x96x128 : Shape := ⟨3, ![3, 96, 128]⟩
abbrev S_ : Shape := ⟨0, ![]⟩

class Facts : Prop where
  bcast_S_S3x96x128 : S_.BroadcastsInDim S3x96x128 (![] : Fin 0 → Fin S3x96x128.rank)

variable [Facts]

def fn {F : FTy → Type} [FloatOps F] (main_arg0 : FVec F S128x8704 .f32) (main_arg1 : FVec F S75 .f32) (main_arg2 : FVec F S1x3x1x1 .f32) : IVec S3x96x128 1 :=
  let main_v0 : IVec S3x96x128 32 := iotaInDim S3x96x128 32 2
  let main_c : IVec S_ 32 := constantI S_ 32 96#32
  let main_v1 : IVec S3x96x128 32 := broadcastInDim S3x96x128 ![] bcast_S_S3x96x128 main_c
  let main_v2 : IVec S3x96x128 1 := cmpi .slt main_v0 main_v1
  main_v2
-- ==== Pre_separated.lean ====
abbrev S1x3x96x96 : Shape := ⟨4, ![1, 3, 96, 96]⟩
abbrev S75 : Shape := ⟨1, ![75]⟩
abbrev S_ : Shape := ⟨0, ![]⟩
abbrev S1x3 : Shape := ⟨2, ![1, 3]⟩
abbrev S1x3x1x1 : Shape := ⟨4, ![1, 3, 1, 1]⟩
abbrev S1x3x92x92 : Shape := ⟨4, ![1, 3, 92, 92]⟩
abbrev S3x92x92 : Shape := ⟨3, ![3, 92, 92]⟩
abbrev S16x3x92x92 : Shape := ⟨4, ![16, 3, 92, 92]⟩
abbrev S9x3x92x92 : Shape := ⟨4, ![9, 3, 92, 92]⟩
abbrev S25x3x92x92 : Shape := ⟨4, ![25, 3, 92, 92]⟩
abbrev S92x92x3x25 : Shape := ⟨4, ![92, 92, 3, 25]⟩
abbrev S8464x3x25 : Shape := ⟨3, ![8464, 3, 25]⟩
abbrev S8464 : Shape := ⟨1, ![8464]⟩
abbrev S8464x1 : Shape := ⟨2, ![8464, 1]⟩
abbrev S1x8464 : Shape := ⟨2, ![1, 8464]⟩
abbrev S8464x8464 : Shape := ⟨2, ![8464, 8464]⟩
abbrev S8464x15 : Shape := ⟨2, ![8464, 15]⟩
abbrev S8464x14 : Shape := ⟨2, ![8464, 14]⟩
abbrev S8464x14x14 : Shape := ⟨3, ![8464, 14, 14]⟩
abbrev S8464x14x1 : Shape := ⟨3, ![8464, 14, 1]⟩
abbrev S8464x1x14 : Shape := ⟨3, ![8464, 1, 14]⟩

class Facts : Prop where
  bcast_S_S1x3x96x96 : S_.BroadcastsInDim S1x3x96x96 (![] : Fin 0 → Fin S1x3x96x96.rank)
  reducesTo_S1x3x96x96_S1x3_d2_3 : S1x3x96x96.ReducesTo [2, 3] S1x3
  h_S_ : 0 < S_.numel
  bcast_S1x3_S1x3x1x1_0_1 : S1x3.BroadcastsInDim S1x3x1x1 (![0, 1] : Fin 2 → Fin S1x3x1x1.rank)
  bcast_S_S1x3x1x1 : S_.BroadcastsInDim S1x3x1x1 (![] : Fin 0 → Fin S1x3x1x1.rank)
  bcast_S1x3x1x1_S1x3x96x96_0_1_2_3 : S1x3x1x1.BroadcastsInDim S1x3x96x96 (![0, 1, 2, 3] : Fin 4 → Fin S1x3x96x96.rank)
  slices_S1x3x96x96_S1x3x92x92_0_0_0_0 : S1x3x96x96.Slices ![0, 0, 0, 0] S1x3x92x92
  shapeCasts_S1x3x92x92_S3x92x92 : S1x3x92x92.ShapeCasts S3x92x92
  slices_S1x3x96x96_S1x3x92x92_0_0_0_1 : S1x3x96x96.Slices ![0, 0, 0, 1] S1x3x92x92
  slices_S1x3x96x96_S1x3x92x92_0_0_0_2 : S1x3x96x96.Slices ![0, 0, 0, 2] S1x3x92x92
  slices_S1x3x96x96_S1x3x92x92_0_0_0_3 : S1x3x96x96.Slices ![0, 0, 0, 3] S1x3x92x92
  slices_S1x3x96x96_S1x3x92x92_0_0_0_4 : S1x3x96x96.Slices ![0, 0, 0, 4] S1x3x92x92
  slices_S1x3x96x96_S1x3x92x92_0_0_1_0 : S1x3x96x96.Slices ![0, 0, 1, 0] S1x3x92x92
  slices_S1x3x96x96_S1x3x92x92_0_0_1_1 : S1x3x96x96.Slices ![0, 0, 1, 1] S1x3x92x92
  slices_S1x3x96x96_S1x3x92x92_0_0_1_2 : S1x3x96x96.Slices ![0, 0, 1, 2] S1x3x92x92
  slices_S1x3x96x96_S1x3x92x92_0_0_1_3 : S1x3x96x96.Slices ![0, 0, 1, 3] S1x3x92x92
  slices_S1x3x96x96_S1x3x92x92_0_0_1_4 : S1x3x96x96.Slices ![0, 0, 1, 4] S1x3x92x92
  slices_S1x3x96x96_S1x3x92x92_0_0_2_0 : S1x3x96x96.Slices ![0, 0, 2, 0] S1x3x92x92
  slices_S1x3x96x96_S1x3x92x92_0_0_2_1 : S1x3x96x96.Slices ![0, 0, 2, 1] S1x3x92x92
  slices_S1x3x96x96_S1x3x92x92_0_0_2_2 : S1x3x96x96.Slices ![0, 0, 2, 2] S1x3x92x92
  slices_S1x3x96x96_S1x3x92x92_0_0_2_3 : S1x3x96x96.Slices ![0, 0, 2, 3] S1x3x92x92
  slices_S1x3x96x96_S1x3x92x92_0_0_2_4 : S1x3x96x96.Slices ![0, 0, 2, 4] S1x3x92x92
  slices_S1x3x96x96_S1x3x92x92_0_0_3_0 : S1x3x96x96.Slices ![0, 0, 3, 0] S1x3x92x92
  slices_S1x3x96x96_S1x3x92x92_0_0_3_1 : S1x3x96x96.Slices ![0, 0, 3, 1] S1x3x92x92
  slices_S1x3x96x96_S1x3x92x92_0_0_3_2 : S1x3x96x96.Slices ![0, 0, 3, 2] S1x3x92x92
  slices_S1x3x96x96_S1x3x92x92_0_0_3_3 : S1x3x96x96.Slices ![0, 0, 3, 3] S1x3x92x92
  slices_S1x3x96x96_S1x3x92x92_0_0_3_4 : S1x3x96x96.Slices ![0, 0, 3, 4] S1x3x92x92
  slices_S1x3x96x96_S1x3x92x92_0_0_4_0 : S1x3x96x96.Slices ![0, 0, 4, 0] S1x3x92x92
  slices_S1x3x96x96_S1x3x92x92_0_0_4_1 : S1x3x96x96.Slices ![0, 0, 4, 1] S1x3x92x92
  slices_S1x3x96x96_S1x3x92x92_0_0_4_2 : S1x3x96x96.Slices ![0, 0, 4, 2] S1x3x92x92
  slices_S1x3x96x96_S1x3x92x92_0_0_4_3 : S1x3x96x96.Slices ![0, 0, 4, 3] S1x3x92x92
  slices_S1x3x96x96_S1x3x92x92_0_0_4_4 : S1x3x96x96.Slices ![0, 0, 4, 4] S1x3x92x92
  bcast_S3x92x92_S1x3x92x92_1_2_3 : S3x92x92.BroadcastsInDim S1x3x92x92 (![1, 2, 3] : Fin 3 → Fin S1x3x92x92.rank)
  concatenates_S1x3x92x92_S1x3x92x92_S1x3x92x92_S1x3x92x92_S1x3x92x92_S1x3x92x92_S1x3x92x92_S1x3x92x92_S1x3x92x92_S1x3x92x92_S1x3x92x92_S1x3x92x92_S1x3x92x92_S1x3x92x92_S1x3x92x92_S1x3x92x92_S16x3x92x92_d0 : Shape.Concatenates [S1x3x92x92, S1x3x92x92, S1x3x92x92, S1x3x92x92, S1x3x92x92, S1x3x92x92, S1x3x92x92, S1x3x92x92, S1x3x92x92, S1x3x92x92, S1x3x92x92, S1x3x92x92, S1x3x92x92, S1x3x92x92, S1x3x92x92, S1x3x92x92] S16x3x92x92 0
  concatenates_S1x3x92x92_S1x3x92x92_S1x3x92x92_S1x3x92x92_S1x3x92x92_S1x3x92x92_S1x3x92x92_S1x3x92x92_S1x3x92x92_S9x3x92x92_d0 : Shape.Concatenates [S1x3x92x92, S1x3x92x92, S1x3x92x92, S1x3x92x92, S1x3x92x92, S1x3x92x92, S1x3x92x92, S1x3x92x92, S1x3x92x92] S9x3x92x92 0
  concatenates_S16x3x92x92_S9x3x92x92_S25x3x92x92_d0 : Shape.Concatenates [S16x3x92x92, S9x3x92x92] S25x3x92x92 0
  transposes_S25x3x92x92_S92x92x3x25_2_3_1_0 : S25x3x92x92.Transposes [2, 3, 1, 0] S92x92x3x25
  shapeCasts_S92x92x3x25_S8464x3x25 : S92x92x3x25.ShapeCasts S8464x3x25
  reducesTo_S8464x3x25_S8464_d1_2 : S8464x3x25.ReducesTo [1, 2] S8464
  bcast_S8464_S8464x1_0 : S8464.BroadcastsInDim S8464x1 (![0] : Fin 1 → Fin S8464x1.rank)
  bcast_S8464_S1x8464_1 : S8464.BroadcastsInDim S1x8464 (![1] : Fin 1 → Fin S1x8464.rank)
  bcast_S8464x1_S8464x8464_0_1 : S8464x1.BroadcastsInDim S8464x8464 (![0, 1] : Fin 2 → Fin S8464x8464.rank)
  bcast_S1x8464_S8464x8464_0_1 : S1x8464.BroadcastsInDim S8464x8464 (![0, 1] : Fin 2 → Fin S8464x8464.rank)
  bcast_S_S8464x8464 : S_.BroadcastsInDim S8464x8464 (![] : Fin 0 → Fin S8464x8464.rank)
  sliceFits_S8464x8464_S8464x15 : S8464x8464.Slices (fun _ => 0) S8464x15
  slices_S8464x15_S8464x14_0_0 : S8464x15.Slices ![0, 0] S8464x14
  bcast_S_S8464x14 : S_.BroadcastsInDim S8464x14 (![] : Fin 0 → Fin S8464x14.rank)
  slices_S8464x15_S8464x14_0_1 : S8464x15.Slices ![0, 1] S8464x14
  bcast_S8464x14_S8464x14x1_0_1 : S8464x14.BroadcastsInDim S8464x14x1 (![0, 1] : Fin 2 → Fin S8464x14x1.rank)
  bcast_S8464x14_S8464x1x14_0_2 : S8464x14.BroadcastsInDim S8464x1x14 (![0, 2] : Fin 2 → Fin S8464x1x14.rank)
  bcast_S8464x14x1_S8464x14x14_0_1_2 : S8464x14x1.BroadcastsInDim S8464x14x14 (![0, 1, 2] : Fin 3 → Fin S8464x14x14.rank)
  bcast_S8464x1x14_S8464x14x14_0_1_2 : S8464x1x14.BroadcastsInDim S8464x14x14 (![0, 1, 2] : Fin 3 → Fin S8464x14x14.rank)
  dot_S8464x3x25_S8464x3x25_S8464x8464_12_12_0_0_n_n_wf : DotDims.WF S8464x3x25 S8464x3x25 S8464x8464 [1, 2] [1, 2] [0] [0] [] []

variable [Facts]

def dot_S8464x3x25_S8464x3x25_S8464x8464_12_12_0_0_n_n : DotDims S8464x3x25 S8464x3x25 S8464x8464 where
  lhsContracting := [1, 2]
  rhsContracting := [1, 2]
  lhsNonContracting := [0]
  rhsNonContracting := [0]
  lhsBatch := []
  rhsBatch := []
  wf := dot_S8464x3x25_S8464x3x25_S8464x8464_12_12_0_0_n_n_wf
def fn_part5 {F : FTy → Type} [FloatOps F] (main_arg2 : FVec F S_ .f32) (main_values : FVec F S8464x15 .f32) (main_v104 : IVec S8464x14 32) (main_v107 : IVec S8464x14x14 1) (main_v108 : FVec F S1x3x96x96 .f32) (main_v109 : FVec F S1x3x96x96 .f32) : IVec S1x3x96x96 1 × IVec S_ 1 × IVec S8464x14 1 × IVec S8464x14x14 1 :=
  let main_v110 : IVec S1x3x96x96 1 := cmpf .ole main_v108 main_v109
  let main_v111 : FVec F S_ .f32 := Host.absf main_arg2
  let main_cst_6 : FVec F S_ .f32 := constant S_ .f32 0x7F800000#32
  let main_v112 : IVec S_ 1 := cmpf .olt main_v111 main_cst_6
  let main_v113 : FVec F S8464x14 .f32 := (extractStridedSlice S8464x14 ![0, 0] · slices_S8464x15_S8464x14_0_0) main_values
  let main_v114 : FVec F S8464x14 .f32 := (extractStridedSlice S8464x14 ![0, 1] · slices_S8464x15_S8464x14_0_1) main_values
  let main_v115 : IVec S8464x14 1 := cmpf .ogt main_v113 main_v114
  let main_v116 : IVec S8464x14x14 1 := noti main_v107
  let main_v117 : IVec S8464x14x1 32 := broadcastInDim S8464x14x1 ![0, 1] bcast_S8464x14_S8464x14x1_0_1 main_v104
  let main_v118 : IVec S8464x1x14 32 := broadcastInDim S8464x1x14 ![0, 2] bcast_S8464x14_S8464x1x14_0_2 main_v104
  let main_v119 : IVec S8464x14x14 32 := broadcastInDim S8464x14x14 ![0, 1, 2] bcast_S8464x14x1_S8464x14x14_0_1_2 main_v117
  let main_v120 : IVec S8464x14x14 32 := broadcastInDim S8464x14x14 ![0, 1, 2] bcast_S8464x1x14_S8464x14x14_0_1_2 main_v118
  let main_v121 : IVec S8464x14x14 1 := cmpi .ne main_v119 main_v120
  let main_v122 : IVec S8464x14x14 1 := ori main_v116 main_v121
  (main_v110, main_v112, main_v115, main_v122)

def fn_part4 {F : FTy → Type} [FloatOps F] (main_arg0 : FVec F S1x3x96x96 .f32) (main_arg2 : FVec F S_ .f32) (main_v89 : FVec F S8464x3x25 .f32) (main_v90 : FVec F S8464x3x25 .f32) (main_cst_3 : FVec F S_ .f32) : IVec S1x3x96x96 1 × IVec S_ 1 × IVec S8464x14 1 × IVec S8464x14x14 1 :=
  let main_v91 : FVec F S8464 .f32 := (fun x v => Host.reduceAdd x v reducesTo_S8464x3x25_S8464_d1_2 h_S_) main_v90 main_cst_3
  let main_v92 : FVec F S8464x1 .f32 := broadcastInDim S8464x1 ![0] bcast_S8464_S8464x1_0 main_v91
  let main_v93 : FVec F S1x8464 .f32 := broadcastInDim S1x8464 ![1] bcast_S8464_S1x8464_1 main_v91
  let main_v94 : FVec F S8464x8464 .f32 := broadcastInDim S8464x8464 ![0, 1] bcast_S8464x1_S8464x8464_0_1 main_v92
  let main_v95 : FVec F S8464x8464 .f32 := broadcastInDim S8464x8464 ![0, 1] bcast_S1x8464_S8464x8464_0_1 main_v93
  let main_v96 : FVec F S8464x8464 .f32 := addf main_v94 main_v95
  let main_v97 : FVec F S8464x8464 .f32 := (fun l r => Host.dotGeneral dot_S8464x3x25_S8464x3x25_S8464x8464_12_12_0_0_n_n none l r) main_v89 main_v89
  let main_cst_4 : FVec F S_ .f32 := constant S_ .f32 0x40000000#32
  let main_v98 : FVec F S8464x8464 .f32 := broadcastInDim S8464x8464 ![] bcast_S_S8464x8464 main_cst_4
  let main_v99 : FVec F S8464x8464 .f32 := mulf main_v98 main_v97
  let main_v100 : FVec F S8464x8464 .f32 := subf main_v96 main_v99
  let main_v101 : FVec F S8464x8464 .f32 := Host.negf main_v100
  let main_values : FVec F S8464x15 .f32 := (fun x => (Host.topK S8464x15 1 (FloatOps.cmpfTotal .gt) x sliceFits_S8464x8464_S8464x15).1) main_v101
  let main_indices : IVec S8464x15 32 := (fun x => (Host.topK S8464x15 1 (FloatOps.cmpfTotal .gt) x sliceFits_S8464x8464_S8464x15).2) main_v101
  let main_v102 : IVec S8464x14 32 := (extractStridedSlice S8464x14 ![0, 0] · slices_S8464x15_S8464x14_0_0) main_indices
  let main_c : IVec S_ 32 := constantI S_ 32 128#32
  let main_v103 : IVec S8464x14 32 := broadcastInDim S8464x14 ![] bcast_S_S8464x14 main_c
  let main_v104 : IVec S8464x14 32 := Host.remsi main_v102 main_v103
  let main_v105 : IVec S8464x14x14 32 := iotaInDim S8464x14x14 32 1
  let main_v106 : IVec S8464x14x14 32 := iotaInDim S8464x14x14 32 2
  let main_v107 : IVec S8464x14x14 1 := cmpi .slt main_v105 main_v106
  let main_v108 : FVec F S1x3x96x96 .f32 := Host.absf main_arg0
  let main_cst_5 : FVec F S_ .f32 := constant S_ .f32 0x49742400#32
  let main_v109 : FVec F S1x3x96x96 .f32 := broadcastInDim S1x3x96x96 ![] bcast_S_S1x3x96x96 main_cst_5
  fn_part5 (F := F) main_arg2 main_values main_v104 main_v107 main_v108 main_v109

def fn_part3 {F : FTy → Type} [FloatOps F] (main_arg0 : FVec F S1x3x96x96 .f32) (main_arg2 : FVec F S_ .f32) (main_v27 : FVec F S3x92x92 .f32) (main_v29 : FVec F S3x92x92 .f32) (main_v31 : FVec F S3x92x92 .f32) (main_v33 : FVec F S3x92x92 .f32) (main_v35 : FVec F S3x92x92 .f32) (main_v37 : FVec F S3x92x92 .f32) (main_v39 : FVec F S3x92x92 .f32) (main_v41 : FVec F S3x92x92 .f32) (main_v43 : FVec F S3x92x92 .f32) (main_v45 : FVec F S3x92x92 .f32) (main_v47 : FVec F S3x92x92 .f32) (main_v49 : FVec F S3x92x92 .f32) (main_v51 : FVec F S3x92x92 .f32) (main_v53 : FVec F S3x92x92 .f32) (main_v55 : FVec F S3x92x92 .f32) (main_v57 : FVec F S3x92x92 .f32) (main_v59 : FVec F S3x92x92 .f32) (main_v60 : FVec F S1x3x92x92 .f32) (main_v61 : FVec F S1x3x92x92 .f32) (main_v62 : FVec F S1x3x92x92 .f32) (main_v63 : FVec F S1x3x92x92 .f32) (main_v64 : FVec F S1x3x92x92 .f32) (main_v65 : FVec F S1x3x92x92 .f32) (main_v66 : FVec F S1x3x92x92 .f32) (main_v67 : FVec F S1x3x92x92 .f32) : IVec S1x3x96x96 1 × IVec S_ 1 × IVec S8464x14 1 × IVec S8464x14x14 1 :=
  let main_v68 : FVec F S1x3x92x92 .f32 := broadcastInDim S1x3x92x92 ![1, 2, 3] bcast_S3x92x92_S1x3x92x92_1_2_3 main_v27
  let main_v69 : FVec F S1x3x92x92 .f32 := broadcastInDim S1x3x92x92 ![1, 2, 3] bcast_S3x92x92_S1x3x92x92_1_2_3 main_v29
  let main_v70 : FVec F S1x3x92x92 .f32 := broadcastInDim S1x3x92x92 ![1, 2, 3] bcast_S3x92x92_S1x3x92x92_1_2_3 main_v31
  let main_v71 : FVec F S1x3x92x92 .f32 := broadcastInDim S1x3x92x92 ![1, 2, 3] bcast_S3x92x92_S1x3x92x92_1_2_3 main_v33
  let main_v72 : FVec F S1x3x92x92 .f32 := broadcastInDim S1x3x92x92 ![1, 2, 3] bcast_S3x92x92_S1x3x92x92_1_2_3 main_v35
  let main_v73 : FVec F S1x3x92x92 .f32 := broadcastInDim S1x3x92x92 ![1, 2, 3] bcast_S3x92x92_S1x3x92x92_1_2_3 main_v37
  let main_v74 : FVec F S1x3x92x92 .f32 := broadcastInDim S1x3x92x92 ![1, 2, 3] bcast_S3x92x92_S1x3x92x92_1_2_3 main_v39
  let main_v75 : FVec F S1x3x92x92 .f32 := broadcastInDim S1x3x92x92 ![1, 2, 3] bcast_S3x92x92_S1x3x92x92_1_2_3 main_v41
  let main_v76 : FVec F S1x3x92x92 .f32 := broadcastInDim S1x3x92x92 ![1, 2, 3] bcast_S3x92x92_S1x3x92x92_1_2_3 main_v43
  let main_v77 : FVec F S1x3x92x92 .f32 := broadcastInDim S1x3x92x92 ![1, 2, 3] bcast_S3x92x92_S1x3x92x92_1_2_3 main_v45
  let main_v78 : FVec F S1x3x92x92 .f32 := broadcastInDim S1x3x92x92 ![1, 2, 3] bcast_S3x92x92_S1x3x92x92_1_2_3 main_v47
  let main_v79 : FVec F S1x3x92x92 .f32 := broadcastInDim S1x3x92x92 ![1, 2, 3] bcast_S3x92x92_S1x3x92x92_1_2_3 main_v49
  let main_v80 : FVec F S1x3x92x92 .f32 := broadcastInDim S1x3x92x92 ![1, 2, 3] bcast_S3x92x92_S1x3x92x92_1_2_3 main_v51
  let main_v81 : FVec F S1x3x92x92 .f32 := broadcastInDim S1x3x92x92 ![1, 2, 3] bcast_S3x92x92_S1x3x92x92_1_2_3 main_v53
  let main_v82 : FVec F S1x3x92x92 .f32 := broadcastInDim S1x3x92x92 ![1, 2, 3] bcast_S3x92x92_S1x3x92x92_1_2_3 main_v55
  let main_v83 : FVec F S1x3x92x92 .f32 := broadcastInDim S1x3x92x92 ![1, 2, 3] bcast_S3x92x92_S1x3x92x92_1_2_3 main_v57
  let main_v84 : FVec F S1x3x92x92 .f32 := broadcastInDim S1x3x92x92 ![1, 2, 3] bcast_S3x92x92_S1x3x92x92_1_2_3 main_v59
  let main_v85 : FVec F S16x3x92x92 .f32 := concatenate S16x3x92x92 0 [⟨S1x3x92x92, main_v60⟩, ⟨S1x3x92x92, main_v61⟩, ⟨S1x3x92x92, main_v62⟩, ⟨S1x3x92x92, main_v63⟩, ⟨S1x3x92x92, main_v64⟩, ⟨S1x3x92x92, main_v65⟩, ⟨S1x3x92x92, main_v66⟩, ⟨S1x3x92x92, main_v67⟩, ⟨S1x3x92x92, main_v68⟩, ⟨S1x3x92x92, main_v69⟩, ⟨S1x3x92x92, main_v70⟩, ⟨S1x3x92x92, main_v71⟩, ⟨S1x3x92x92, main_v72⟩, ⟨S1x3x92x92, main_v73⟩, ⟨S1x3x92x92, main_v74⟩, ⟨S1x3x92x92, main_v75⟩] concatenates_S1x3x92x92_S1x3x92x92_S1x3x92x92_S1x3x92x92_S1x3x92x92_S1x3x92x92_S1x3x92x92_S1x3x92x92_S1x3x92x92_S1x3x92x92_S1x3x92x92_S1x3x92x92_S1x3x92x92_S1x3x92x92_S1x3x92x92_S1x3x92x92_S16x3x92x92_d0
  let main_v86 : FVec F S9x3x92x92 .f32 := concatenate S9x3x92x92 0 [⟨S1x3x92x92, main_v76⟩, ⟨S1x3x92x92, main_v77⟩, ⟨S1x3x92x92, main_v78⟩, ⟨S1x3x92x92, main_v79⟩, ⟨S1x3x92x92, main_v80⟩, ⟨S1x3x92x92, main_v81⟩, ⟨S1x3x92x92, main_v82⟩, ⟨S1x3x92x92, main_v83⟩, ⟨S1x3x92x92, main_v84⟩] concatenates_S1x3x92x92_S1x3x92x92_S1x3x92x92_S1x3x92x92_S1x3x92x92_S1x3x92x92_S1x3x92x92_S1x3x92x92_S1x3x92x92_S9x3x92x92_d0
  let main_v87 : FVec F S25x3x92x92 .f32 := (fun a b => concatenate S25x3x92x92 0 [⟨S16x3x92x92, a⟩, ⟨S9x3x92x92, b⟩] concatenates_S16x3x92x92_S9x3x92x92_S25x3x92x92_d0) main_v85 main_v86
  let main_v88 : FVec F S92x92x3x25 .f32 := (transpose S92x92x3x25 [2, 3, 1, 0] · transposes_S25x3x92x92_S92x92x3x25_2_3_1_0) main_v87
  let main_v89 : FVec F S8464x3x25 .f32 := shapeCast S8464x3x25 main_v88 shapeCasts_S92x92x3x25_S8464x3x25
  let main_v90 : FVec F S8464x3x25 .f32 := mulf main_v89 main_v89
  let main_cst_3 : FVec F S_ .f32 := constant S_ .f32 0x00000000#32
  fn_part4 (F := F) main_arg0 main_arg2 main_v89 main_v90 main_cst_3

def fn_part2 {F : FTy → Type} [FloatOps F] (main_arg0 : FVec F S1x3x96x96 .f32) (main_arg2 : FVec F S_ .f32) (main_v9 : FVec F S1x3x96x96 .f32) (main_v11 : FVec F S3x92x92 .f32) (main_v13 : FVec F S3x92x92 .f32) (main_v15 : FVec F S3x92x92 .f32) (main_v17 : FVec F S3x92x92 .f32) (main_v19 : FVec F S3x92x92 .f32) (main_v21 : FVec F S3x92x92 .f32) (main_v23 : FVec F S3x92x92 .f32) (main_v25 : FVec F S3x92x92 .f32) (main_v27 : FVec F S3x92x92 .f32) (main_v29 : FVec F S3x92x92 .f32) (main_v31 : FVec F S3x92x92 .f32) (main_v33 : FVec F S3x92x92 .f32) (main_v35 : FVec F S3x92x92 .f32) (main_v37 : FVec F S3x92x92 .f32) (main_v39 : FVec F S3x92x92 .f32) (main_v41 : FVec F S3x92x92 .f32) (main_v43 : FVec F S3x92x92 .f32) : IVec S1x3x96x96 1 × IVec S_ 1 × IVec S8464x14 1 × IVec S8464x14x14 1 :=
  let main_v44 : FVec F S1x3x92x92 .f32 := (extractStridedSlice S1x3x92x92 ![0, 0, 3, 2] · slices_S1x3x96x96_S1x3x92x92_0_0_3_2) main_v9
  let main_v45 : FVec F S3x92x92 .f32 := shapeCast S3x92x92 main_v44 shapeCasts_S1x3x92x92_S3x92x92
  let main_v46 : FVec F S1x3x92x92 .f32 := (extractStridedSlice S1x3x92x92 ![0, 0, 3, 3] · slices_S1x3x96x96_S1x3x92x92_0_0_3_3) main_v9
  let main_v47 : FVec F S3x92x92 .f32 := shapeCast S3x92x92 main_v46 shapeCasts_S1x3x92x92_S3x92x92
  let main_v48 : FVec F S1x3x92x92 .f32 := (extractStridedSlice S1x3x92x92 ![0, 0, 3, 4] · slices_S1x3x96x96_S1x3x92x92_0_0_3_4) main_v9
  let main_v49 : FVec F S3x92x92 .f32 := shapeCast S3x92x92 main_v48 shapeCasts_S1x3x92x92_S3x92x92
  let main_v50 : FVec F S1x3x92x92 .f32 := (extractStridedSlice S1x3x92x92 ![0, 0, 4, 0] · slices_S1x3x96x96_S1x3x92x92_0_0_4_0) main_v9
  let main_v51 : FVec F S3x92x92 .f32 := shapeCast S3x92x92 main_v50 shapeCasts_S1x3x92x92_S3x92x92
  let main_v52 : FVec F S1x3x92x92 .f32 := (extractStridedSlice S1x3x92x92 ![0, 0, 4, 1] · slices_S1x3x96x96_S1x3x92x92_0_0_4_1) main_v9
  let main_v53 : FVec F S3x92x92 .f32 := shapeCast S3x92x92 main_v52 shapeCasts_S1x3x92x92_S3x92x92
  let main_v54 : FVec F S1x3x92x92 .f32 := (extractStridedSlice S1x3x92x92 ![0, 0, 4, 2] · slices_S1x3x96x96_S1x3x92x92_0_0_4_2) main_v9
  let main_v55 : FVec F S3x92x92 .f32 := shapeCast S3x92x92 main_v54 shapeCasts_S1x3x92x92_S3x92x92
  let main_v56 : FVec F S1x3x92x92 .f32 := (extractStridedSlice S1x3x92x92 ![0, 0, 4, 3] · slices_S1x3x96x96_S1x3x92x92_0_0_4_3) main_v9
  let main_v57 : FVec F S3x92x92 .f32 := shapeCast S3x92x92 main_v56 shapeCasts_S1x3x92x92_S3x92x92
  let main_v58 : FVec F S1x3x92x92 .f32 := (extractStridedSlice S1x3x92x92 ![0, 0, 4, 4] · slices_S1x3x96x96_S1x3x92x92_0_0_4_4) main_v9
  let main_v59 : FVec F S3x92x92 .f32 := shapeCast S3x92x92 main_v58 shapeCasts_S1x3x92x92_S3x92x92
  let main_v60 : FVec F S1x3x92x92 .f32 := broadcastInDim S1x3x92x92 ![1, 2, 3] bcast_S3x92x92_S1x3x92x92_1_2_3 main_v11
  let main_v61 : FVec F S1x3x92x92 .f32 := broadcastInDim S1x3x92x92 ![1, 2, 3] bcast_S3x92x92_S1x3x92x92_1_2_3 main_v13
  let main_v62 : FVec F S1x3x92x92 .f32 := broadcastInDim S1x3x92x92 ![1, 2, 3] bcast_S3x92x92_S1x3x92x92_1_2_3 main_v15
  let main_v63 : FVec F S1x3x92x92 .f32 := broadcastInDim S1x3x92x92 ![1, 2, 3] bcast_S3x92x92_S1x3x92x92_1_2_3 main_v17
  let main_v64 : FVec F S1x3x92x92 .f32 := broadcastInDim S1x3x92x92 ![1, 2, 3] bcast_S3x92x92_S1x3x92x92_1_2_3 main_v19
  let main_v65 : FVec F S1x3x92x92 .f32 := broadcastInDim S1x3x92x92 ![1, 2, 3] bcast_S3x92x92_S1x3x92x92_1_2_3 main_v21
  let main_v66 : FVec F S1x3x92x92 .f32 := broadcastInDim S1x3x92x92 ![1, 2, 3] bcast_S3x92x92_S1x3x92x92_1_2_3 main_v23
  let main_v67 : FVec F S1x3x92x92 .f32 := broadcastInDim S1x3x92x92 ![1, 2, 3] bcast_S3x92x92_S1x3x92x92_1_2_3 main_v25
  fn_part3 (F := F) main_arg0 main_arg2 main_v27 main_v29 main_v31 main_v33 main_v35 main_v37 main_v39 main_v41 main_v43 main_v45 main_v47 main_v49 main_v51 main_v53 main_v55 main_v57 main_v59 main_v60 main_v61 main_v62 main_v63 main_v64 main_v65 main_v66 main_v67

def fn_part1 {F : FTy → Type} [FloatOps F] (main_arg0 : FVec F S1x3x96x96 .f32) (main_arg2 : FVec F S_ .f32) (main_v9 : FVec F S1x3x96x96 .f32) (main_v11 : FVec F S3x92x92 .f32) (main_v13 : FVec F S3x92x92 .f32) (main_v15 : FVec F S3x92x92 .f32) (main_v17 : FVec F S3x92x92 .f32) (main_v19 : FVec F S3x92x92 .f32) : IVec S1x3x96x96 1 × IVec S_ 1 × IVec S8464x14 1 × IVec S8464x14x14 1 :=
  let main_v20 : FVec F S1x3x92x92 .f32 := (extractStridedSlice S1x3x92x92 ![0, 0, 1, 0] · slices_S1x3x96x96_S1x3x92x92_0_0_1_0) main_v9
  let main_v21 : FVec F S3x92x92 .f32 := shapeCast S3x92x92 main_v20 shapeCasts_S1x3x92x92_S3x92x92
  let main_v22 : FVec F S1x3x92x92 .f32 := (extractStridedSlice S1x3x92x92 ![0, 0, 1, 1] · slices_S1x3x96x96_S1x3x92x92_0_0_1_1) main_v9
  let main_v23 : FVec F S3x92x92 .f32 := shapeCast S3x92x92 main_v22 shapeCasts_S1x3x92x92_S3x92x92
  let main_v24 : FVec F S1x3x92x92 .f32 := (extractStridedSlice S1x3x92x92 ![0, 0, 1, 2] · slices_S1x3x96x96_S1x3x92x92_0_0_1_2) main_v9
  let main_v25 : FVec F S3x92x92 .f32 := shapeCast S3x92x92 main_v24 shapeCasts_S1x3x92x92_S3x92x92
  let main_v26 : FVec F S1x3x92x92 .f32 := (extractStridedSlice S1x3x92x92 ![0, 0, 1, 3] · slices_S1x3x96x96_S1x3x92x92_0_0_1_3) main_v9
  let main_v27 : FVec F S3x92x92 .f32 := shapeCast S3x92x92 main_v26 shapeCasts_S1x3x92x92_S3x92x92
  let main_v28 : FVec F S1x3x92x92 .f32 := (extractStridedSlice S1x3x92x92 ![0, 0, 1, 4] · slices_S1x3x96x96_S1x3x92x92_0_0_1_4) main_v9
  let main_v29 : FVec F S3x92x92 .f32 := shapeCast S3x92x92 main_v28 shapeCasts_S1x3x92x92_S3x92x92
  let main_v30 : FVec F S1x3x92x92 .f32 := (extractStridedSlice S1x3x92x92 ![0, 0, 2, 0] · slices_S1x3x96x96_S1x3x92x92_0_0_2_0) main_v9
  let main_v31 : FVec F S3x92x92 .f32 := shapeCast S3x92x92 main_v30 shapeCasts_S1x3x92x92_S3x92x92
  let main_v32 : FVec F S1x3x92x92 .f32 := (extractStridedSlice S1x3x92x92 ![0, 0, 2, 1] · slices_S1x3x96x96_S1x3x92x92_0_0_2_1) main_v9
  let main_v33 : FVec F S3x92x92 .f32 := shapeCast S3x92x92 main_v32 shapeCasts_S1x3x92x92_S3x92x92
  let main_v34 : FVec F S1x3x92x92 .f32 := (extractStridedSlice S1x3x92x92 ![0, 0, 2, 2] · slices_S1x3x96x96_S1x3x92x92_0_0_2_2) main_v9
  let main_v35 : FVec F S3x92x92 .f32 := shapeCast S3x92x92 main_v34 shapeCasts_S1x3x92x92_S3x92x92
  let main_v36 : FVec F S1x3x92x92 .f32 := (extractStridedSlice S1x3x92x92 ![0, 0, 2, 3] · slices_S1x3x96x96_S1x3x92x92_0_0_2_3) main_v9
  let main_v37 : FVec F S3x92x92 .f32 := shapeCast S3x92x92 main_v36 shapeCasts_S1x3x92x92_S3x92x92
  let main_v38 : FVec F S1x3x92x92 .f32 := (extractStridedSlice S1x3x92x92 ![0, 0, 2, 4] · slices_S1x3x96x96_S1x3x92x92_0_0_2_4) main_v9
  let main_v39 : FVec F S3x92x92 .f32 := shapeCast S3x92x92 main_v38 shapeCasts_S1x3x92x92_S3x92x92
  let main_v40 : FVec F S1x3x92x92 .f32 := (extractStridedSlice S1x3x92x92 ![0, 0, 3, 0] · slices_S1x3x96x96_S1x3x92x92_0_0_3_0) main_v9
  let main_v41 : FVec F S3x92x92 .f32 := shapeCast S3x92x92 main_v40 shapeCasts_S1x3x92x92_S3x92x92
  let main_v42 : FVec F S1x3x92x92 .f32 := (extractStridedSlice S1x3x92x92 ![0, 0, 3, 1] · slices_S1x3x96x96_S1x3x92x92_0_0_3_1) main_v9
  let main_v43 : FVec F S3x92x92 .f32 := shapeCast S3x92x92 main_v42 shapeCasts_S1x3x92x92_S3x92x92
  fn_part2 (F := F) main_arg0 main_arg2 main_v9 main_v11 main_v13 main_v15 main_v17 main_v19 main_v21 main_v23 main_v25 main_v27 main_v29 main_v31 main_v33 main_v35 main_v37 main_v39 main_v41 main_v43

def fn {F : FTy → Type} [FloatOps F] (main_arg0 : FVec F S1x3x96x96 .f32) (main_arg1 : FVec F S75 .f32) (main_arg2 : FVec F S_ .f32) : IVec S1x3x96x96 1 × IVec S_ 1 × IVec S8464x14 1 × IVec S8464x14x14 1 :=
  let main_cst : FVec F S_ .f32 := constant S_ .f32 0x3F000000#32
  let main_v0 : FVec F S1x3x96x96 .f32 := broadcastInDim S1x3x96x96 ![] bcast_S_S1x3x96x96 main_cst
  let main_v1 : FVec F S1x3x96x96 .f32 := subf main_arg0 main_v0
  let main_cst_0 : FVec F S_ .f32 := constant S_ .f32 0x3F000000#32
  let main_v2 : FVec F S1x3x96x96 .f32 := broadcastInDim S1x3x96x96 ![] bcast_S_S1x3x96x96 main_cst_0
  let main_v3 : FVec F S1x3x96x96 .f32 := Host.divf main_v1 main_v2
  let main_cst_1 : FVec F S_ .f32 := constant S_ .f32 0x00000000#32
  let main_v4 : FVec F S1x3 .f32 := (fun x v => Host.reduceAdd x v reducesTo_S1x3x96x96_S1x3_d2_3 h_S_) main_v3 main_cst_1
  let main_v5 : FVec F S1x3x1x1 .f32 := broadcastInDim S1x3x1x1 ![0, 1] bcast_S1x3_S1x3x1x1_0_1 main_v4
  let main_cst_2 : FVec F S_ .f32 := constant S_ .f32 0x46100000#32
  let main_v6 : FVec F S1x3x1x1 .f32 := broadcastInDim S1x3x1x1 ![] bcast_S_S1x3x1x1 main_cst_2
  let main_v7 : FVec F S1x3x1x1 .f32 := Host.divf main_v5 main_v6
  let main_v8 : FVec F S1x3x96x96 .f32 := broadcastInDim S1x3x96x96 ![0, 1, 2, 3] bcast_S1x3x1x1_S1x3x96x96_0_1_2_3 main_v7
  let main_v9 : FVec F S1x3x96x96 .f32 := subf main_v3 main_v8
  let main_v10 : FVec F S1x3x92x92 .f32 := (extractStridedSlice S1x3x92x92 ![0, 0, 0, 0] · slices_S1x3x96x96_S1x3x92x92_0_0_0_0) main_v9
  let main_v11 : FVec F S3x92x92 .f32 := shapeCast S3x92x92 main_v10 shapeCasts_S1x3x92x92_S3x92x92
  let main_v12 : FVec F S1x3x92x92 .f32 := (extractStridedSlice S1x3x92x92 ![0, 0, 0, 1] · slices_S1x3x96x96_S1x3x92x92_0_0_0_1) main_v9
  let main_v13 : FVec F S3x92x92 .f32 := shapeCast S3x92x92 main_v12 shapeCasts_S1x3x92x92_S3x92x92
  let main_v14 : FVec F S1x3x92x92 .f32 := (extractStridedSlice S1x3x92x92 ![0, 0, 0, 2] · slices_S1x3x96x96_S1x3x92x92_0_0_0_2) main_v9
  let main_v15 : FVec F S3x92x92 .f32 := shapeCast S3x92x92 main_v14 shapeCasts_S1x3x92x92_S3x92x92
  let main_v16 : FVec F S1x3x92x92 .f32 := (extractStridedSlice S1x3x92x92 ![0, 0, 0, 3] · slices_S1x3x96x96_S1x3x92x92_0_0_0_3) main_v9
  let main_v17 : FVec F S3x92x92 .f32 := shapeCast S3x92x92 main_v16 shapeCasts_S1x3x92x92_S3x92x92
  let main_v18 : FVec F S1x3x92x92 .f32 := (extractStridedSlice S1x3x92x92 ![0, 0, 0, 4] · slices_S1x3x96x96_S1x3x92x92_0_0_0_4) main_v9
  let main_v19 : FVec F S3x92x92 .f32 := shapeCast S3x92x92 main_v18 shapeCasts_S1x3x92x92_S3x92x92
  fn_part1 (F := F) main_arg0 main_arg2 main_v9 main_v11 main_v13 main_v15 main_v17 main_v19
-- ==== Kernel.lean ====
abbrev S1x3x96x96 : Shape := ⟨4, ![1, 3, 96, 96]⟩
abbrev S75 : Shape := ⟨1, ![75]⟩
abbrev S_ : Shape := ⟨0, ![]⟩
abbrev S1x3 : Shape := ⟨2, ![1, 3]⟩
abbrev S1x3x1x1 : Shape := ⟨4, ![1, 3, 1, 1]⟩
abbrev S3x96x96 : Shape := ⟨3, ![3, 96, 96]⟩
abbrev S3x92x92 : Shape := ⟨3, ![3, 92, 92]⟩
abbrev S1x3x92x92 : Shape := ⟨4, ![1, 3, 92, 92]⟩
abbrev S16x3x92x92 : Shape := ⟨4, ![16, 3, 92, 92]⟩
abbrev S9x3x92x92 : Shape := ⟨4, ![9, 3, 92, 92]⟩
abbrev S25x3x92x92 : Shape := ⟨4, ![25, 3, 92, 92]⟩
abbrev S92x92x3x25 : Shape := ⟨4, ![92, 92, 3, 25]⟩
abbrev S8464x75 : Shape := ⟨2, ![8464, 75]⟩
abbrev S8464 : Shape := ⟨1, ![8464]⟩
abbrev S8704x75 : Shape := ⟨2, ![8704, 75]⟩
abbrev S8704 : Shape := ⟨1, ![8704]⟩
abbrev S8704x51 : Shape := ⟨2, ![8704, 51]⟩
abbrev S8704x1 : Shape := ⟨2, ![8704, 1]⟩
abbrev S8704x128 : Shape := ⟨2, ![8704, 128]⟩
abbrev S128 : Shape := ⟨1, ![128]⟩
abbrev S1x128 : Shape := ⟨2, ![1, 128]⟩
abbrev S8x128 : Shape := ⟨2, ![8, 128]⟩
abbrev S128x8704 : Shape := ⟨2, ![128, 8704]⟩
abbrev S256x128 : Shape := ⟨2, ![256, 128]⟩
abbrev S128x256 : Shape := ⟨2, ![128, 256]⟩
abbrev S128x128 : Shape := ⟨2, ![128, 128]⟩
abbrev S1x1 : Shape := ⟨2, ![1, 1]⟩
abbrev S256x8704 : Shape := ⟨2, ![256, 8704]⟩
abbrev S1x8704 : Shape := ⟨2, ![1, 8704]⟩
abbrev S256 : Shape := ⟨1, ![256]⟩
abbrev S256x1 : Shape := ⟨2, ![256, 1]⟩
abbrev S75x8464 : Shape := ⟨2, ![75, 8464]⟩
abbrev S75x92x92 : Shape := ⟨3, ![75, 92, 92]⟩
abbrev S75x1x1 : Shape := ⟨3, ![75, 1, 1]⟩
abbrev S75x8x128 : Shape := ⟨3, ![75, 8, 128]⟩
abbrev S3x1x1 : Shape := ⟨3, ![3, 1, 1]⟩
abbrev S3x8x128 : Shape := ⟨3, ![3, 8, 128]⟩
abbrev S3x96x128 : Shape := ⟨3, ![3, 96, 128]⟩
abbrev S1x92x92 : Shape := ⟨3, ![1, 92, 92]⟩
abbrev S92x92 : Shape := ⟨2, ![92, 92]⟩
abbrev S1x1x1 : Shape := ⟨3, ![1, 1, 1]⟩
abbrev S3x1x128 : Shape := ⟨3, ![3, 1, 128]⟩

abbrev nBuf : Space → Nat
  | .hbm => 105
  | .vmem => 14
  | .smem => 0
  | _ => 0

abbrev bufTy : (tb : Table) → Fin (tcTables nBuf tb) → BufTy
  | .hbm, ⟨0, _⟩ => ⟨S1x3x96x96, .f32⟩
  | .hbm, ⟨1, _⟩ => ⟨S75, .f32⟩
  | .hbm, ⟨2, _⟩ => ⟨S_, .f32⟩
  | .hbm, ⟨3, _⟩ => ⟨S_, .f32⟩
  | .hbm, ⟨4, _⟩ => ⟨S1x3x96x96, .f32⟩
  | .hbm, ⟨5, _⟩ => ⟨S1x3x96x96, .f32⟩
  | .hbm, ⟨6, _⟩ => ⟨S_, .f32⟩
  | .hbm, ⟨7, _⟩ => ⟨S1x3x96x96, .f32⟩
  | .hbm, ⟨8, _⟩ => ⟨S1x3x96x96, .f32⟩
  | .hbm, ⟨9, _⟩ => ⟨S_, .f32⟩
  | .hbm, ⟨10, _⟩ => ⟨S1x3, .f32⟩
  | .hbm, ⟨11, _⟩ => ⟨S1x3x1x1, .f32⟩
  | .hbm, ⟨12, _⟩ => ⟨S_, .f32⟩
  | .hbm, ⟨13, _⟩ => ⟨S1x3x1x1, .f32⟩
  | .hbm, ⟨14, _⟩ => ⟨S1x3x1x1, .f32⟩
  | .hbm, ⟨15, _⟩ => ⟨S1x3x96x96, .f32⟩
  | .hbm, ⟨16, _⟩ => ⟨S1x3x96x96, .f32⟩
  | .hbm, ⟨17, _⟩ => ⟨S3x96x96, .f32⟩
  | .hbm, ⟨18, _⟩ => ⟨S3x92x92, .f32⟩
  | .hbm, ⟨19, _⟩ => ⟨S3x92x92, .f32⟩
  | .hbm, ⟨20, _⟩ => ⟨S3x92x92, .f32⟩
  | .hbm, ⟨21, _⟩ => ⟨S3x92x92, .f32⟩
  | .hbm, ⟨22, _⟩ => ⟨S3x92x92, .f32⟩
  | .hbm, ⟨23, _⟩ => ⟨S3x92x92, .f32⟩
  | .hbm, ⟨24, _⟩ => ⟨S3x92x92, .f32⟩
  | .hbm, ⟨25, _⟩ => ⟨S3x92x92, .f32⟩
  | .hbm, ⟨26, _⟩ => ⟨S3x92x92, .f32⟩
  | .hbm, ⟨27, _⟩ => ⟨S3x92x92, .f32⟩
  | .hbm, ⟨28, _⟩ => ⟨S3x92x92, .f32⟩
  | .hbm, ⟨29, _⟩ => ⟨S3x92x92, .f32⟩
  | .hbm, ⟨30, _⟩ => ⟨S3x92x92, .f32⟩
  | .hbm, ⟨31, _⟩ => ⟨S3x92x92, .f32⟩
  | .hbm, ⟨32, _⟩ => ⟨S3x92x92, .f32⟩
  | .hbm, ⟨33, _⟩ => ⟨S3x92x92, .f32⟩
  | .hbm, ⟨34, _⟩ => ⟨S3x92x92, .f32⟩
  | .hbm, ⟨35, _⟩ => ⟨S3x92x92, .f32⟩
  | .hbm, ⟨36, _⟩ => ⟨S3x92x92, .f32⟩
  | .hbm, ⟨37, _⟩ => ⟨S3x92x92, .f32⟩
  | .hbm, ⟨38, _⟩ => ⟨S3x92x92, .f32⟩
  | .hbm, ⟨39, _⟩ => ⟨S3x92x92, .f32⟩
  | .hbm, ⟨40, _⟩ => ⟨S3x92x92, .f32⟩
  | .hbm, ⟨41, _⟩ => ⟨S3x92x92, .f32⟩
  | .hbm, ⟨42, _⟩ => ⟨S3x92x92, .f32⟩
  | .hbm, ⟨43, _⟩ => ⟨S1x3x92x92, .f32⟩
  | .hbm, ⟨44, _⟩ => ⟨S1x3x92x92, .f32⟩
  | .hbm, ⟨45, _⟩ => ⟨S1x3x92x92, .f32⟩
  | .hbm, ⟨46, _⟩ => ⟨S1x3x92x92, .f32⟩
  | .hbm, ⟨47, _⟩ => ⟨S1x3x92x92, .f32⟩
  | .hbm, ⟨48, _⟩ => ⟨S1x3x92x92, .f32⟩
  | .hbm, ⟨49, _⟩ => ⟨S1x3x92x92, .f32⟩
  | .hbm, ⟨50, _⟩ => ⟨S1x3x92x92, .f32⟩
  | .hbm, ⟨51, _⟩ => ⟨S1x3x92x92, .f32⟩
  | .hbm, ⟨52, _⟩ => ⟨S1x3x92x92, .f32⟩
  | .hbm, ⟨53, _⟩ => ⟨S1x3x92x92, .f32⟩
  | .hbm, ⟨54, _⟩ => ⟨S1x3x92x92, .f32⟩
  | .hbm, ⟨55, _⟩ => ⟨S1x3x92x92, .f32⟩
  | .hbm, ⟨56, _⟩ => ⟨S1x3x92x92, .f32⟩
  | .hbm, ⟨57, _⟩ => ⟨S1x3x92x92, .f32⟩
  | .hbm, ⟨58, _⟩ => ⟨S1x3x92x92, .f32⟩
  | .hbm, ⟨59, _⟩ => ⟨S1x3x92x92, .f32⟩
  | .hbm, ⟨60, _⟩ => ⟨S1x3x92x92, .f32⟩
  | .hbm, ⟨61, _⟩ => ⟨S1x3x92x92, .f32⟩
  | .hbm, ⟨62, _⟩ => ⟨S1x3x92x92, .f32⟩
  | .hbm, ⟨63, _⟩ => ⟨S1x3x92x92, .f32⟩
  | .hbm, ⟨64, _⟩ => ⟨S1x3x92x92, .f32⟩
  | .hbm, ⟨65, _⟩ => ⟨S1x3x92x92, .f32⟩
  | .hbm, ⟨66, _⟩ => ⟨S1x3x92x92, .f32⟩
  | .hbm, ⟨67, _⟩ => ⟨S1x3x92x92, .f32⟩
  | .hbm, ⟨68, _⟩ => ⟨S16x3x92x92, .f32⟩
  | .hbm, ⟨69, _⟩ => ⟨S9x3x92x92, .f32⟩
  | .hbm, ⟨70, _⟩ => ⟨S25x3x92x92, .f32⟩
  | .hbm, ⟨71, _⟩ => ⟨S92x92x3x25, .f32⟩
  | .hbm, ⟨72, _⟩ => ⟨S8464x75, .f32⟩
  | .hbm, ⟨73, _⟩ => ⟨S8464x75, .f32⟩
  | .hbm, ⟨74, _⟩ => ⟨S_, .f32⟩
  | .hbm, ⟨75, _⟩ => ⟨S8464, .f32⟩
  | .hbm, ⟨76, _⟩ => ⟨S_, .i32⟩
  | .hbm, ⟨77, _⟩ => ⟨S_, .f32⟩
  | .hbm, ⟨78, _⟩ => ⟨S8704x75, .f32⟩
  | .hbm, ⟨79, _⟩ => ⟨S_, .f32⟩
  | .hbm, ⟨80, _⟩ => ⟨S_, .f32⟩
  | .hbm, ⟨81, _⟩ => ⟨S8704, .f32⟩
  | .hbm, ⟨82, _⟩ => ⟨S_, .f32⟩
  | .hbm, ⟨83, _⟩ => ⟨S8704x51, .f32⟩
  | .hbm, ⟨84, _⟩ => ⟨S8704x1, .f32⟩
  | .hbm, ⟨85, _⟩ => ⟨S_, .f32⟩
  | .hbm, ⟨86, _⟩ => ⟨S8704x1, .f32⟩
  | .hbm, ⟨87, _⟩ => ⟨S8704x128, .f32⟩
  | .hbm, ⟨88, _⟩ => ⟨S8704x128, .bf16⟩
  | .hbm, ⟨89, _⟩ => ⟨S_, .i32⟩
  | .hbm, ⟨90, _⟩ => ⟨S_, .f32⟩
  | .hbm, ⟨91, _⟩ => ⟨S128, .f32⟩
  | .hbm, ⟨92, _⟩ => ⟨S1x128, .f32⟩
  | .hbm, ⟨93, _⟩ => ⟨S8x128, .f32⟩
  | .hbm, ⟨94, _⟩ => ⟨S8x128, .f32⟩
  | .hbm, ⟨95, _⟩ => ⟨S128x8704, .f32⟩
  | .hbm, ⟨96, _⟩ => ⟨S75x8464, .f32⟩
  | .hbm, ⟨97, _⟩ => ⟨S75x92x92, .f32⟩
  | .hbm, ⟨98, _⟩ => ⟨S75x1x1, .f32⟩
  | .hbm, ⟨99, _⟩ => ⟨S75x8x128, .f32⟩
  | .hbm, ⟨100, _⟩ => ⟨S3x1x1, .f32⟩
  | .hbm, ⟨101, _⟩ => ⟨S3x8x128, .f32⟩
  | .hbm, ⟨102, _⟩ => ⟨S3x96x128, .f32⟩
  | .hbm, ⟨103, _⟩ => ⟨S3x96x96, .f32⟩
  | .hbm, ⟨104, _⟩ => ⟨S1x3x96x96, .f32⟩
  | .local _ .vmem, ⟨0, _⟩ => ⟨S256x128, .bf16⟩
  | .local _ .vmem, ⟨1, _⟩ => ⟨S256x128, .bf16⟩
  | .local _ .vmem, ⟨2, _⟩ => ⟨S8704x128, .bf16⟩
  | .local _ .vmem, ⟨3, _⟩ => ⟨S8x128, .f32⟩
  | .local _ .vmem, ⟨4, _⟩ => ⟨S8x128, .f32⟩
  | .local _ .vmem, ⟨5, _⟩ => ⟨S128x256, .f32⟩
  | .local _ .vmem, ⟨6, _⟩ => ⟨S128x256, .f32⟩
  | .local _ .vmem, ⟨7, _⟩ => ⟨S128x8704, .bf16⟩
  | .local _ .vmem, ⟨8, _⟩ => ⟨S75x92x92, .f32⟩
  | .local _ .vmem, ⟨9, _⟩ => ⟨S75x8x128, .f32⟩
  | .local _ .vmem, ⟨10, _⟩ => ⟨S3x8x128, .f32⟩
  | .local _ .vmem, ⟨11, _⟩ => ⟨S3x96x128, .f32⟩
  | .local _ .vmem, ⟨12, _⟩ => ⟨S3x96x128, .f32⟩
  | .local _ .vmem, ⟨13, _⟩ => ⟨S3x96x128, .f32⟩
  | _, _ => ⟨S1x3x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_cst_3 : Ref sig .tc := ⟨.hbm, 74, rfl⟩
abbrev main_v67 : Ref sig .tc := ⟨.hbm, 75, rfl⟩
abbrev main_c : Ref sig .tc := ⟨.hbm, 76, rfl⟩
abbrev main_call0_v0 : Ref sig .tc := ⟨.hbm, 77, rfl⟩
abbrev main_v68 : Ref sig .tc := ⟨.hbm, 78, rfl⟩
abbrev main_cst_4 : Ref sig .tc := ⟨.hbm, 79, rfl⟩
abbrev main_call1_v0 : Ref sig .tc := ⟨.hbm, 80, rfl⟩
abbrev main_v69 : Ref sig .tc := ⟨.hbm, 81, rfl⟩
abbrev main_cst_5 : Ref sig .tc := ⟨.hbm, 82, rfl⟩
abbrev main_v70 : Ref sig .tc := ⟨.hbm, 83, rfl⟩
abbrev main_v71 : Ref sig .tc := ⟨.hbm, 84, rfl⟩
abbrev main_cst_6 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_c_7 : Ref sig .tc := ⟨.hbm, 89, rfl⟩
abbrev main_call2_v0 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_scratch0 : Ref sig .tc := ⟨.vmem, 12, rfl⟩
abbrev cc1_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem2_0 : DmaSem sig := 9
abbrev cc1_sem3_0 : DmaSem sig := 10

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8704x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

abbrev stage1_0 : Fin 1 → Memref sig .tc .vmem S75x92x92 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S75x8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S3x8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S3x96x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S1x3x96x96 : Shape := ⟨4, ![1, 3, 96, 96]⟩
abbrev S75 : Shape := ⟨1, ![75]⟩
abbrev S_ : Shape := ⟨0, ![]⟩
abbrev S1x3 : Shape := ⟨2, ![1, 3]⟩
abbrev S1x3x1x1 : Shape := ⟨4, ![1, 3, 1, 1]⟩
abbrev S1x3x92x92 : Shape := ⟨4, ![1, 3, 92, 92]⟩
abbrev S3x92x92 : Shape := ⟨3, ![3, 92, 92]⟩
abbrev S16x3x92x92 : Shape := ⟨4, ![16, 3, 92, 92]⟩
abbrev S9x3x92x92 : Shape := ⟨4, ![9, 3, 92, 92]⟩
abbrev S25x3x92x92 : Shape := ⟨4, ![25, 3, 92, 92]⟩
abbrev S92x92x3x25 : Shape := ⟨4, ![92, 92, 3, 25]⟩
abbrev S8464x75 : Shape := ⟨2, ![8464, 75]⟩
abbrev S8464 : Shape := ⟨1, ![8464]⟩
abbrev S8464x1 : Shape := ⟨2, ![8464, 1]⟩
abbrev S1x8464 : Shape := ⟨2, ![1, 8464]⟩
abbrev S8464x8464 : Shape := ⟨2, ![8464, 8464]⟩
abbrev S75x8464 : Shape := ⟨2, ![75, 8464]⟩
abbrev S8464x14 : Shape := ⟨2, ![8464, 14]⟩
abbrev S8464x14x1 : Shape := ⟨3, ![8464, 14, 1]⟩
abbrev S1 : Shape := ⟨1, ![1]⟩
abbrev S1x1x1 : Shape := ⟨3, ![1, 1, 1]⟩
abbrev S8464x14x75 : Shape := ⟨3, ![8464, 14, 75]⟩
abbrev S1x75 : Shape := ⟨2, ![1, 75]⟩
abbrev S92x92x3x5x5 : Shape := ⟨5, ![92, 92, 3, 5, 5]⟩
abbrev S3x96x96 : Shape := ⟨3, ![3, 96, 96]⟩
abbrev S92x92x3x1x1 : Shape := ⟨5, ![92, 92, 3, 1, 1]⟩
abbrev S92x92x3 : Shape := ⟨3, ![92, 92, 3]⟩
abbrev S2 : Shape := ⟨1, ![2]⟩

abbrev nBuf : Space → Nat
  | .hbm => 631
  | .vmem => 0
  | .smem => 0
  | _ => 0

abbrev hbmTy0_0 (i : Nat) : BufTy := match i % 128 with
  | 0 => ⟨S1x3x96x96, .f32⟩
  | 1 => ⟨S75, .f32⟩
  | 2 => ⟨S_, .f32⟩
  | 3 => ⟨S_, .f32⟩
  | 4 => ⟨S1x3x96x96, .f32⟩
  | 5 => ⟨S1x3x96x96, .f32⟩
  | 6 => ⟨S_, .f32⟩
  | 7 => ⟨S1x3x96x96, .f32⟩
  | 8 => ⟨S1x3x96x96, .f32⟩
  | 9 => ⟨S_, .f32⟩
  | 10 => ⟨S1x3, .f32⟩
  | 11 => ⟨S1x3x1x1, .f32⟩
  | 12 => ⟨S_, .f32⟩
  | 13 => ⟨S1x3x1x1, .f32⟩
  | 14 => ⟨S1x3x1x1, .f32⟩
  | 15 => ⟨S1x3x96x96, .f32⟩
  | 16 => ⟨S1x3x96x96, .f32⟩
  | 17 => ⟨S1x3x92x92, .f32⟩
  | 18 => ⟨S3x92x92, .f32⟩
  | 19 => ⟨S1x3x92x92, .f32⟩
  | 20 => ⟨S3x92x92, .f32⟩
  | 21 => ⟨S1x3x92x92, .f32⟩
  | 22 => ⟨S3x92x92, .f32⟩
  | 23 => ⟨S1x3x92x92, .f32⟩
  | 24 => ⟨S3x92x92, .f32⟩
  | 25 => ⟨S1x3x92x92, .f32⟩
  | 26 => ⟨S3x92x92, .f32⟩
  | 27 => ⟨S1x3x92x92, .f32⟩
  | 28 => ⟨S3x92x92, .f32⟩
  | 29 => ⟨S1x3x92x92, .f32⟩
  | 30 => ⟨S3x92x92, .f32⟩
  | 31 => ⟨S1x3x92x92, .f32⟩
  | 32 => ⟨S3x92x92, .f32⟩
  | 33 => ⟨S1x3x92x92, .f32⟩
  | 34 => ⟨S3x92x92, .f32⟩
  | 35 => ⟨S1x3x92x92, .f32⟩
  | 36 => ⟨S3x92x92, .f32⟩
  | 37 => ⟨S1x3x92x92, .f32⟩
  | 38 => ⟨S3x92x92, .f32⟩
  | 39 => ⟨S1x3x92x92, .f32⟩
  | 40 => ⟨S3x92x92, .f32⟩
  | 41 => ⟨S1x3x92x92, .f32⟩
  | 42 => ⟨S3x92x92, .f32⟩
  | 43 => ⟨S1x3x92x92, .f32⟩
  | 44 => ⟨S3x92x92, .f32⟩
  | 45 => ⟨S1x3x92x92, .f32⟩
  | 46 => ⟨S3x92x92, .f32⟩
  | 47 => ⟨S1x3x92x92, .f32⟩
  | 48 => ⟨S3x92x92, .f32⟩
  | 49 => ⟨S1x3x92x92, .f32⟩
  | 50 => ⟨S3x92x92, .f32⟩
  | 51 => ⟨S1x3x92x92, .f32⟩
  | 52 => ⟨S3x92x92, .f32⟩
  | 53 => ⟨S1x3x92x92, .f32⟩
  | 54 => ⟨S3x92x92, .f32⟩
  | 55 => ⟨S1x3x92x92, .f32⟩
  | 56 => ⟨S3x92x92, .f32⟩
  | 57 => ⟨S1x3x92x92, .f32⟩
  | 58 => ⟨S3x92x92, .f32⟩
  | 59 => ⟨S1x3x92x92, .f32⟩
  | 60 => ⟨S3x92x92, .f32⟩
  | 61 => ⟨S1x3x92x92, .f32⟩
  | 62 => ⟨S3x92x92, .f32⟩
  | 63 => ⟨S1x3x92x92, .f32⟩
  | 64 => ⟨S3x92x92, .f32⟩
  | 65 => ⟨S1x3x92x92, .f32⟩
  | 66 => ⟨S3x92x92, .f32⟩
  | 67 => ⟨S1x3x92x92, .f32⟩
  | 68 => ⟨S1x3x92x92, .f32⟩
  | 69 => ⟨S1x3x92x92, .f32⟩
  | 70 => ⟨S1x3x92x92, .f32⟩
  | 71 => ⟨S1x3x92x92, .f32⟩
  | 72 => ⟨S1x3x92x92, .f32⟩
  | 73 => ⟨S1x3x92x92, .f32⟩
  | 74 => ⟨S1x3x92x92, .f32⟩
  | 75 => ⟨S1x3x92x92, .f32⟩
  | 76 => ⟨S1x3x92x92, .f32⟩
  | 77 => ⟨S1x3x92x92, .f32⟩
  | 78 => ⟨S1x3x92x92, .f32⟩
  | 79 => ⟨S1x3x92x92, .f32⟩
  | 80 => ⟨S1x3x92x92, .f32⟩
  | 81 => ⟨S1x3x92x92, .f32⟩
  | 82 => ⟨S1x3x92x92, .f32⟩
  | 83 => ⟨S1x3x92x92, .f32⟩
  | 84 => ⟨S1x3x92x92, .f32⟩
  | 85 => ⟨S1x3x92x92, .f32⟩
  | 86 => ⟨S1x3x92x92, .f32⟩
  | 87 => ⟨S1x3x92x92, .f32⟩
  | 88 => ⟨S1x3x92x92, .f32⟩
  | 89 => ⟨S1x3x92x92, .f32⟩
  | 90 => ⟨S1x3x92x92, .f32⟩
  | 91 => ⟨S1x3x92x92, .f32⟩
  | 92 => ⟨S16x3x92x92, .f32⟩
  | 93 => ⟨S9x3x92x92, .f32⟩
  | 94 => ⟨S25x3x92x92, .f32⟩
  | 95 => ⟨S92x92x3x25, .f32⟩
  | 96 => ⟨S8464x75, .f32⟩
  | 97 => ⟨S8464x75, .f32⟩
  | 98 => ⟨S_, .f32⟩
  | 99 => ⟨S8464, .f32⟩
  | 100 => ⟨S8464x1, .f32⟩
  | 101 => ⟨S1x8464, .f32⟩
  | 102 => ⟨S8464x8464, .f32⟩
  | 103 => ⟨S8464x8464, .f32⟩
  | 104 => ⟨S8464x8464, .f32⟩
  | 105 => ⟨S75x8464, .f32⟩
  | 106 => ⟨S8464x8464, .f32⟩
  | 107 => ⟨S_, .f32⟩
  | 108 => ⟨S8464x8464, .f32⟩
  | 109 => ⟨S8464x8464, .f32⟩
  | 110 => ⟨S8464x8464, .f32⟩
  | 111 => ⟨S8464x8464, .f32⟩
  | 112 => ⟨S8464x14, .f32⟩
  | 113 => ⟨S8464x14, .i32⟩
  | 114 => ⟨S8464x14, .f32⟩
  | 115 => ⟨S_, .i32⟩
  | 116 => ⟨S8464x14, .i32⟩
  | 117 => ⟨S8464x14, .i1⟩
  | 118 => ⟨S_, .i32⟩
  | 119 => ⟨S8464x14, .i32⟩
  | 120 => ⟨S8464x14, .i32⟩
  | 121 => ⟨S8464x14, .i32⟩
  | 122 => ⟨S8464x14x1, .i32⟩
  | 123 => ⟨S1, .i32⟩
  | 124 => ⟨S_, .i32⟩
  | 125 => ⟨S8464x14x1, .i32⟩
  | 126 => ⟨S8464x14x1, .i1⟩
  | 127 => ⟨S1x1x1, .i32⟩
  | _ => ⟨S1x3x96x96, .f32⟩

abbrev hbmTy0_1 (i : Nat) : BufTy := match i % 128 with
  | 0 => ⟨S8464x14x1, .i32⟩
  | 1 => ⟨S8464x14x1, .i1⟩
  | 2 => ⟨S8464x14x1, .i1⟩
  | 3 => ⟨S_, .i1⟩
  | 4 => ⟨S8464x14, .i1⟩
  | 5 => ⟨S8464x14x75, .f32⟩
  | 6 => ⟨S8464x14x75, .i1⟩
  | 7 => ⟨S_, .f32⟩
  | 8 => ⟨S8464x14x75, .f32⟩
  | 9 => ⟨S8464x14x75, .f32⟩
  | 10 => ⟨S_, .f32⟩
  | 11 => ⟨S8464x14, .f32⟩
  | 12 => ⟨S8464x14, .f32⟩
  | 13 => ⟨S_, .f32⟩
  | 14 => ⟨S8464, .f32⟩
  | 15 => ⟨S_, .f32⟩
  | 16 => ⟨S8464, .f32⟩
  | 17 => ⟨S8464, .f32⟩
  | 18 => ⟨S8464x1, .f32⟩
  | 19 => ⟨S8464x14, .f32⟩
  | 20 => ⟨S8464x14, .f32⟩
  | 21 => ⟨S8464x14, .f32⟩
  | 22 => ⟨S_, .f32⟩
  | 23 => ⟨S8464, .f32⟩
  | 24 => ⟨S8464x1, .f32⟩
  | 25 => ⟨S8464x14, .f32⟩
  | 26 => ⟨S8464x14, .f32⟩
  | 27 => ⟨S8464x14x1, .f32⟩
  | 28 => ⟨S8464x14x75, .f32⟩
  | 29 => ⟨S8464x14x75, .f32⟩
  | 30 => ⟨S_, .f32⟩
  | 31 => ⟨S8464x75, .f32⟩
  | 32 => ⟨S1x75, .f32⟩
  | 33 => ⟨S8464x75, .f32⟩
  | 34 => ⟨S8464x75, .f32⟩
  | 35 => ⟨S92x92x3x5x5, .f32⟩
  | 36 => ⟨S_, .f32⟩
  | 37 => ⟨S3x96x96, .f32⟩
  | 38 => ⟨S92x92x3x1x1, .f32⟩
  | 39 => ⟨S92x92x3, .f32⟩
  | 40 => ⟨S3x92x92, .f32⟩
  | 41 => ⟨S_, .i32⟩
  | 42 => ⟨S1, .i32⟩
  | 43 => ⟨S_, .i32⟩
  | 44 => ⟨S1, .i32⟩
  | 45 => ⟨S2, .i32⟩
  | 46 => ⟨S3x96x96, .f32⟩
  | 47 => ⟨S92x92x3x1x1, .f32⟩
  | 48 => ⟨S92x92x3, .f32⟩
  | 49 => ⟨S3x92x92, .f32⟩
  | 50 => ⟨S_, .i32⟩
  | 51 => ⟨S1, .i32⟩
  | 52 => ⟨S_, .i32⟩
  | 53 => ⟨S1, .i32⟩
  | 54 => ⟨S2, .i32⟩
  | 55 => ⟨S3x96x96, .f32⟩
  | 56 => ⟨S92x92x3x1x1, .f32⟩
  | 57 => ⟨S92x92x3, .f32⟩
  | 58 => ⟨S3x92x92, .f32⟩
  | 59 => ⟨S_, .i32⟩
  | 60 => ⟨S1, .i32⟩
  | 61 => ⟨S_, .i32⟩
  | 62 => ⟨S1, .i32⟩
  | 63 => ⟨S2, .i32⟩
  | 64 => ⟨S3x96x96, .f32⟩
  | 65 => ⟨S92x92x3x1x1, .f32⟩
  | 66 => ⟨S92x92x3, .f32⟩
  | 67 => ⟨S3x92x92, .f32⟩
  | 68 => ⟨S_, .i32⟩
  | 69 => ⟨S1, .i32⟩
  | 70 => ⟨S_, .i32⟩
  | 71 => ⟨S1, .i32⟩
  | 72 => ⟨S2, .i32⟩
  | 73 => ⟨S3x96x96, .f32⟩
  | 74 => ⟨S92x92x3x1x1, .f32⟩
  | 75 => ⟨S92x92x3, .f32⟩
  | 76 => ⟨S3x92x92, .f32⟩
  | 77 => ⟨S_, .i32⟩
  | 78 => ⟨S1, .i32⟩
  | 79 => ⟨S_, .i32⟩
  | 80 => ⟨S1, .i32⟩
  | 81 => ⟨S2, .i32⟩
  | 82 => ⟨S3x96x96, .f32⟩
  | 83 => ⟨S92x92x3x1x1, .f32⟩
  | 84 => ⟨S92x92x3, .f32⟩
  | 85 => ⟨S3x92x92, .f32⟩
  | 86 => ⟨S_, .i32⟩
  | 87 => ⟨S1, .i32⟩
  | 88 => ⟨S_, .i32⟩
  | 89 => ⟨S1, .i32⟩
  | 90 => ⟨S2, .i32⟩
  | 91 => ⟨S3x96x96, .f32⟩
  | 92 => ⟨S92x92x3x1x1, .f32⟩
  | 93 => ⟨S92x92x3, .f32⟩
  | 94 => ⟨S3x92x92, .f32⟩
  | 95 => ⟨S_, .i32⟩
  | 96 => ⟨S1, .i32⟩
  | 97 => ⟨S_, .i32⟩
  | 98 => ⟨S1, .i32⟩
  | 99 => ⟨S2, .i32⟩
  | 100 => ⟨S3x96x96, .f32⟩
  | 101 => ⟨S92x92x3x1x1, .f32⟩
  | 102 => ⟨S92x92x3, .f32⟩
  | 103 => ⟨S3x92x92, .f32⟩
  | 104 => ⟨S_, .i32⟩
  | 105 => ⟨S1, .i32⟩
  | 106 => ⟨S_, .i32⟩
  | 107 => ⟨S1, .i32⟩
  | 108 => ⟨S2, .i32⟩
  | 109 => ⟨S3x96x96, .f32⟩
  | 110 => ⟨S92x92x3x1x1, .f32⟩
  | 111 => ⟨S92x92x3, .f32⟩
  | 112 => ⟨S3x92x92, .f32⟩
  | 113 => ⟨S_, .i32⟩
  | 114 => ⟨S1, .i32⟩
  | 115 => ⟨S_, .i32⟩
  | 116 => ⟨S1, .i32⟩
  | 117 => ⟨S2, .i32⟩
  | 118 => ⟨S3x96x96, .f32⟩
  | 119 => ⟨S92x92x3x1x1, .f32⟩
  | 120 => ⟨S92x92x3, .f32⟩
  | 121 => ⟨S3x92x92, .f32⟩
  | 122 => ⟨S_, .i32⟩
  | 123 => ⟨S1, .i32⟩
  | 124 => ⟨S_, .i32⟩
  | 125 => ⟨S1, .i32⟩
  | 126 => ⟨S2, .i32⟩
  | 127 => ⟨S3x96x96, .f32⟩
  | _ => ⟨S1x3x96x96, .f32⟩

abbrev hbmTy0_2 (i : Nat) : BufTy := match i % 128 with
  | 0 => ⟨S92x92x3x1x1, .f32⟩
  | 1 => ⟨S92x92x3, .f32⟩
  | 2 => ⟨S3x92x92, .f32⟩
  | 3 => ⟨S_, .i32⟩
  | 4 => ⟨S1, .i32⟩
  | 5 => ⟨S_, .i32⟩
  | 6 => ⟨S1, .i32⟩
  | 7 => ⟨S2, .i32⟩
  | 8 => ⟨S3x96x96, .f32⟩
  | 9 => ⟨S92x92x3x1x1, .f32⟩
  | 10 => ⟨S92x92x3, .f32⟩
  | 11 => ⟨S3x92x92, .f32⟩
  | 12 => ⟨S_, .i32⟩
  | 13 => ⟨S1, .i32⟩
  | 14 => ⟨S_, .i32⟩
  | 15 => ⟨S1, .i32⟩
  | 16 => ⟨S2, .i32⟩
  | 17 => ⟨S3x96x96, .f32⟩
  | 18 => ⟨S92x92x3x1x1, .f32⟩
  | 19 => ⟨S92x92x3, .f32⟩
  | 20 => ⟨S3x92x92, .f32⟩
  | 21 => ⟨S_, .i32⟩
  | 22 => ⟨S1, .i32⟩
  | 23 => ⟨S_, .i32⟩
  | 24 => ⟨S1, .i32⟩
  | 25 => ⟨S2, .i32⟩
  | 26 => ⟨S3x96x96, .f32⟩
  | 27 => ⟨S92x92x3x1x1, .f32⟩
  | 28 => ⟨S92x92x3, .f32⟩
  | 29 => ⟨S3x92x92, .f32⟩
  | 30 => ⟨S_, .i32⟩
  | 31 => ⟨S1, .i32⟩
  | 32 => ⟨S_, .i32⟩
  | 33 => ⟨S1, .i32⟩
  | 34 => ⟨S2, .i32⟩
  | 35 => ⟨S3x96x96, .f32⟩
  | 36 => ⟨S92x92x3x1x1, .f32⟩
  | 37 => ⟨S92x92x3, .f32⟩
  | 38 => ⟨S3x92x92, .f32⟩
  | 39 => ⟨S_, .i32⟩
  | 40 => ⟨S1, .i32⟩
  | 41 => ⟨S_, .i32⟩
  | 42 => ⟨S1, .i32⟩
  | 43 => ⟨S2, .i32⟩
  | 44 => ⟨S3x96x96, .f32⟩
  | 45 => ⟨S92x92x3x1x1, .f32⟩
  | 46 => ⟨S92x92x3, .f32⟩
  | 47 => ⟨S3x92x92, .f32⟩
  | 48 => ⟨S_, .i32⟩
  | 49 => ⟨S1, .i32⟩
  | 50 => ⟨S_, .i32⟩
  | 51 => ⟨S1, .i32⟩
  | 52 => ⟨S2, .i32⟩
  | 53 => ⟨S3x96x96, .f32⟩
  | 54 => ⟨S92x92x3x1x1, .f32⟩
  | 55 => ⟨S92x92x3, .f32⟩
  | 56 => ⟨S3x92x92, .f32⟩
  | 57 => ⟨S_, .i32⟩
  | 58 => ⟨S1, .i32⟩
  | 59 => ⟨S_, .i32⟩
  | 60 => ⟨S1, .i32⟩
  | 61 => ⟨S2, .i32⟩
  | 62 => ⟨S3x96x96, .f32⟩
  | 63 => ⟨S92x92x3x1x1, .f32⟩
  | 64 => ⟨S92x92x3, .f32⟩
  | 65 => ⟨S3x92x92, .f32⟩
  | 66 => ⟨S_, .i32⟩
  | 67 => ⟨S1, .i32⟩
  | 68 => ⟨S_, .i32⟩
  | 69 => ⟨S1, .i32⟩
  | 70 => ⟨S2, .i32⟩
  | 71 => ⟨S3x96x96, .f32⟩
  | 72 => ⟨S92x92x3x1x1, .f32⟩
  | 73 => ⟨S92x92x3, .f32⟩
  | 74 => ⟨S3x92x92, .f32⟩
  | 75 => ⟨S_, .i32⟩
  | 76 => ⟨S1, .i32⟩
  | 77 => ⟨S_, .i32⟩
  | 78 => ⟨S1, .i32⟩
  | 79 => ⟨S2, .i32⟩
  | 80 => ⟨S3x96x96, .f32⟩
  | 81 => ⟨S92x92x3x1x1, .f32⟩
  | 82 => ⟨S92x92x3, .f32⟩
  | 83 => ⟨S3x92x92, .f32⟩
  | 84 => ⟨S_, .i32⟩
  | 85 => ⟨S1, .i32⟩
  | 86 => ⟨S_, .i32⟩
  | 87 => ⟨S1, .i32⟩
  | 88 => ⟨S2, .i32⟩
  | 89 => ⟨S3x96x96, .f32⟩
  | 90 => ⟨S92x92x3x1x1, .f32⟩
  | 91 => ⟨S92x92x3, .f32⟩
  | 92 => ⟨S3x92x92, .f32⟩
  | 93 => ⟨S_, .i32⟩
  | 94 => ⟨S1, .i32⟩
  | 95 => ⟨S_, .i32⟩
  | 96 => ⟨S1, .i32⟩
  | 97 => ⟨S2, .i32⟩
  | 98 => ⟨S3x96x96, .f32⟩
  | 99 => ⟨S92x92x3x1x1, .f32⟩
  | 100 => ⟨S92x92x3, .f32⟩
  | 101 => ⟨S3x92x92, .f32⟩
  | 102 => ⟨S_, .i32⟩
  | 103 => ⟨S1, .i32⟩
  | 104 => ⟨S_, .i32⟩
  | 105 => ⟨S1, .i32⟩
  | 106 => ⟨S2, .i32⟩
  | 107 => ⟨S3x96x96, .f32⟩
  | 108 => ⟨S92x92x3x1x1, .f32⟩
  | 109 => ⟨S92x92x3, .f32⟩
  | 110 => ⟨S3x92x92, .f32⟩
  | 111 => ⟨S_, .i32⟩
  | 112 => ⟨S1, .i32⟩
  | 113 => ⟨S_, .i32⟩
  | 114 => ⟨S1, .i32⟩
  | 115 => ⟨S2, .i32⟩
  | 116 => ⟨S3x96x96, .f32⟩
  | 117 => ⟨S92x92x3x1x1, .f32⟩
  | 118 => ⟨S92x92x3, .f32⟩
  | 119 => ⟨S3x92x92, .f32⟩
  | 120 => ⟨S_, .i32⟩
  | 121 => ⟨S1, .i32⟩
  | 122 => ⟨S_, .i32⟩
  | 123 => ⟨S1, .i32⟩
  | 124 => ⟨S2, .i32⟩
  | 125 => ⟨S3x96x96, .f32⟩
  | 126 => ⟨S92x92x3x1x1, .f32⟩
  | 127 => ⟨S92x92x3, .f32⟩
  | _ => ⟨S1x3x96x96, .f32⟩

abbrev hbmTy0_3 (i : Nat) : BufTy := match i % 128 with
  | 0 => ⟨S3x92x92, .f32⟩
  | 1 => ⟨S_, .i32⟩
  | 2 => ⟨S1, .i32⟩
  | 3 => ⟨S_, .i32⟩
  | 4 => ⟨S1, .i32⟩
  | 5 => ⟨S2, .i32⟩
  | 6 => ⟨S3x96x96, .f32⟩
  | 7 => ⟨S1x75, .f32⟩
  | 8 => ⟨S8464x75, .f32⟩
  | 9 => ⟨S92x92x3x5x5, .f32⟩
  | 10 => ⟨S_, .f32⟩
  | 11 => ⟨S3x96x96, .f32⟩
  | 12 => ⟨S92x92x3x1x1, .f32⟩
  | 13 => ⟨S92x92x3, .f32⟩
  | 14 => ⟨S3x92x92, .f32⟩
  | 15 => ⟨S_, .i32⟩
  | 16 => ⟨S1, .i32⟩
  | 17 => ⟨S_, .i32⟩
  | 18 => ⟨S1, .i32⟩
  | 19 => ⟨S2, .i32⟩
  | 20 => ⟨S3x96x96, .f32⟩
  | 21 => ⟨S92x92x3x1x1, .f32⟩
  | 22 => ⟨S92x92x3, .f32⟩
  | 23 => ⟨S3x92x92, .f32⟩
  | 24 => ⟨S_, .i32⟩
  | 25 => ⟨S1, .i32⟩
  | 26 => ⟨S_, .i32⟩
  | 27 => ⟨S1, .i32⟩
  | 28 => ⟨S2, .i32⟩
  | 29 => ⟨S3x96x96, .f32⟩
  | 30 => ⟨S92x92x3x1x1, .f32⟩
  | 31 => ⟨S92x92x3, .f32⟩
  | 32 => ⟨S3x92x92, .f32⟩
  | 33 => ⟨S_, .i32⟩
  | 34 => ⟨S1, .i32⟩
  | 35 => ⟨S_, .i32⟩
  | 36 => ⟨S1, .i32⟩
  | 37 => ⟨S2, .i32⟩
  | 38 => ⟨S3x96x96, .f32⟩
  | 39 => ⟨S92x92x3x1x1, .f32⟩
  | 40 => ⟨S92x92x3, .f32⟩
  | 41 => ⟨S3x92x92, .f32⟩
  | 42 => ⟨S_, .i32⟩
  | 43 => ⟨S1, .i32⟩
  | 44 => ⟨S_, .i32⟩
  | 45 => ⟨S1, .i32⟩
  | 46 => ⟨S2, .i32⟩
  | 47 => ⟨S3x96x96, .f32⟩
  | 48 => ⟨S92x92x3x1x1, .f32⟩
  | 49 => ⟨S92x92x3, .f32⟩
  | 50 => ⟨S3x92x92, .f32⟩
  | 51 => ⟨S_, .i32⟩
  | 52 => ⟨S1, .i32⟩
  | 53 => ⟨S_, .i32⟩
  | 54 => ⟨S1, .i32⟩
  | 55 => ⟨S2, .i32⟩
  | 56 => ⟨S3x96x96, .f32⟩
  | 57 => ⟨S92x92x3x1x1, .f32⟩
  | 58 => ⟨S92x92x3, .f32⟩
  | 59 => ⟨S3x92x92, .f32⟩
  | 60 => ⟨S_, .i32⟩
  | 61 => ⟨S1, .i32⟩
  | 62 => ⟨S_, .i32⟩
  | 63 => ⟨S1, .i32⟩
  | 64 => ⟨S2, .i32⟩
  | 65 => ⟨S3x96x96, .f32⟩
  | 66 => ⟨S92x92x3x1x1, .f32⟩
  | 67 => ⟨S92x92x3, .f32⟩
  | 68 => ⟨S3x92x92, .f32⟩
  | 69 => ⟨S_, .i32⟩
  | 70 => ⟨S1, .i32⟩
  | 71 => ⟨S_, .i32⟩
  | 72 => ⟨S1, .i32⟩
  | 73 => ⟨S2, .i32⟩
  | 74 => ⟨S3x96x96, .f32⟩
  | 75 => ⟨S92x92x3x1x1, .f32⟩
  | 76 => ⟨S92x92x3, .f32⟩
  | 77 => ⟨S3x92x92, .f32⟩
  | 78 => ⟨S_, .i32⟩
  | 79 => ⟨S1, .i32⟩
  | 80 => ⟨S_, .i32⟩
  | 81 => ⟨S1, .i32⟩
  | 82 => ⟨S2, .i32⟩
  | 83 => ⟨S3x96x96, .f32⟩
  | 84 => ⟨S92x92x3x1x1, .f32⟩
  | 85 => ⟨S92x92x3, .f32⟩
  | 86 => ⟨S3x92x92, .f32⟩
  | 87 => ⟨S_, .i32⟩
  | 88 => ⟨S1, .i32⟩
  | 89 => ⟨S_, .i32⟩
  | 90 => ⟨S1, .i32⟩
  | 91 => ⟨S2, .i32⟩
  | 92 => ⟨S3x96x96, .f32⟩
  | 93 => ⟨S92x92x3x1x1, .f32⟩
  | 94 => ⟨S92x92x3, .f32⟩
  | 95 => ⟨S3x92x92, .f32⟩
  | 96 => ⟨S_, .i32⟩
  | 97 => ⟨S1, .i32⟩
  | 98 => ⟨S_, .i32⟩
  | 99 => ⟨S1, .i32⟩
  | 100 => ⟨S2, .i32⟩
  | 101 => ⟨S3x96x96, .f32⟩
  | 102 => ⟨S92x92x3x1x1, .f32⟩
  | 103 => ⟨S92x92x3, .f32⟩
  | 104 => ⟨S3x92x92, .f32⟩
  | 105 => ⟨S_, .i32⟩
  | 106 => ⟨S1, .i32⟩
  | 107 => ⟨S_, .i32⟩
  | 108 => ⟨S1, .i32⟩
  | 109 => ⟨S2, .i32⟩
  | 110 => ⟨S3x96x96, .f32⟩
  | 111 => ⟨S92x92x3x1x1, .f32⟩
  | 112 => ⟨S92x92x3, .f32⟩
  | 113 => ⟨S3x92x92, .f32⟩
  | 114 => ⟨S_, .i32⟩
  | 115 => ⟨S1, .i32⟩
  | 116 => ⟨S_, .i32⟩
  | 117 => ⟨S1, .i32⟩
  | 118 => ⟨S2, .i32⟩
  | 119 => ⟨S3x96x96, .f32⟩
  | 120 => ⟨S92x92x3x1x1, .f32⟩
  | 121 => ⟨S92x92x3, .f32⟩
  | 122 => ⟨S3x92x92, .f32⟩
  | 123 => ⟨S_, .i32⟩
  | 124 => ⟨S1, .i32⟩
  | 125 => ⟨S_, .i32⟩
  | 126 => ⟨S1, .i32⟩
  | 127 => ⟨S2, .i32⟩
  | _ => ⟨S1x3x96x96, .f32⟩

abbrev hbmTy0_4 (i : Nat) : BufTy := match i % 128 with
  | 0 => ⟨S3x96x96, .f32⟩
  | 1 => ⟨S92x92x3x1x1, .f32⟩
  | 2 => ⟨S92x92x3, .f32⟩
  | 3 => ⟨S3x92x92, .f32⟩
  | 4 => ⟨S_, .i32⟩
  | 5 => ⟨S1, .i32⟩
  | 6 => ⟨S_, .i32⟩
  | 7 => ⟨S1, .i32⟩
  | 8 => ⟨S2, .i32⟩
  | 9 => ⟨S3x96x96, .f32⟩
  | 10 => ⟨S92x92x3x1x1, .f32⟩
  | 11 => ⟨S92x92x3, .f32⟩
  | 12 => ⟨S3x92x92, .f32⟩
  | 13 => ⟨S_, .i32⟩
  | 14 => ⟨S1, .i32⟩
  | 15 => ⟨S_, .i32⟩
  | 16 => ⟨S1, .i32⟩
  | 17 => ⟨S2, .i32⟩
  | 18 => ⟨S3x96x96, .f32⟩
  | 19 => ⟨S92x92x3x1x1, .f32⟩
  | 20 => ⟨S92x92x3, .f32⟩
  | 21 => ⟨S3x92x92, .f32⟩
  | 22 => ⟨S_, .i32⟩
  | 23 => ⟨S1, .i32⟩
  | 24 => ⟨S_, .i32⟩
  | 25 => ⟨S1, .i32⟩
  | 26 => ⟨S2, .i32⟩
  | 27 => ⟨S3x96x96, .f32⟩
  | 28 => ⟨S92x92x3x1x1, .f32⟩
  | 29 => ⟨S92x92x3, .f32⟩
  | 30 => ⟨S3x92x92, .f32⟩
  | 31 => ⟨S_, .i32⟩
  | 32 => ⟨S1, .i32⟩
  | 33 => ⟨S_, .i32⟩
  | 34 => ⟨S1, .i32⟩
  | 35 => ⟨S2, .i32⟩
  | 36 => ⟨S3x96x96, .f32⟩
  | 37 => ⟨S92x92x3x1x1, .f32⟩
  | 38 => ⟨S92x92x3, .f32⟩
  | 39 => ⟨S3x92x92, .f32⟩
  | 40 => ⟨S_, .i32⟩
  | 41 => ⟨S1, .i32⟩
  | 42 => ⟨S_, .i32⟩
  | 43 => ⟨S1, .i32⟩
  | 44 => ⟨S2, .i32⟩
  | 45 => ⟨S3x96x96, .f32⟩
  | 46 => ⟨S92x92x3x1x1, .f32⟩
  | 47 => ⟨S92x92x3, .f32⟩
  | 48 => ⟨S3x92x92, .f32⟩
  | 49 => ⟨S_, .i32⟩
  | 50 => ⟨S1, .i32⟩
  | 51 => ⟨S_, .i32⟩
  | 52 => ⟨S1, .i32⟩
  | 53 => ⟨S2, .i32⟩
  | 54 => ⟨S3x96x96, .f32⟩
  | 55 => ⟨S92x92x3x1x1, .f32⟩
  | 56 => ⟨S92x92x3, .f32⟩
  | 57 => ⟨S3x92x92, .f32⟩
  | 58 => ⟨S_, .i32⟩
  | 59 => ⟨S1, .i32⟩
  | 60 => ⟨S_, .i32⟩
  | 61 => ⟨S1, .i32⟩
  | 62 => ⟨S2, .i32⟩
  | 63 => ⟨S3x96x96, .f32⟩
  | 64 => ⟨S92x92x3x1x1, .f32⟩
  | 65 => ⟨S92x92x3, .f32⟩
  | 66 => ⟨S3x92x92, .f32⟩
  | 67 => ⟨S_, .i32⟩
  | 68 => ⟨S1, .i32⟩
  | 69 => ⟨S_, .i32⟩
  | 70 => ⟨S1, .i32⟩
  | 71 => ⟨S2, .i32⟩
  | 72 => ⟨S3x96x96, .f32⟩
  | 73 => ⟨S92x92x3x1x1, .f32⟩
  | 74 => ⟨S92x92x3, .f32⟩
  | 75 => ⟨S3x92x92, .f32⟩
  | 76 => ⟨S_, .i32⟩
  | 77 => ⟨S1, .i32⟩
  | 78 => ⟨S_, .i32⟩
  | 79 => ⟨S1, .i32⟩
  | 80 => ⟨S2, .i32⟩
  | 81 => ⟨S3x96x96, .f32⟩
  | 82 => ⟨S92x92x3x1x1, .f32⟩
  | 83 => ⟨S92x92x3, .f32⟩
  | 84 => ⟨S3x92x92, .f32⟩
  | 85 => ⟨S_, .i32⟩
  | 86 => ⟨S1, .i32⟩
  | 87 => ⟨S_, .i32⟩
  | 88 => ⟨S1, .i32⟩
  | 89 => ⟨S2, .i32⟩
  | 90 => ⟨S3x96x96, .f32⟩
  | 91 => ⟨S92x92x3x1x1, .f32⟩
  | 92 => ⟨S92x92x3, .f32⟩
  | 93 => ⟨S3x92x92, .f32⟩
  | 94 => ⟨S_, .i32⟩
  | 95 => ⟨S1, .i32⟩
  | 96 => ⟨S_, .i32⟩
  | 97 => ⟨S1, .i32⟩
  | 98 => ⟨S2, .i32⟩
  | 99 => ⟨S3x96x96, .f32⟩
  | 100 => ⟨S92x92x3x1x1, .f32⟩
  | 101 => ⟨S92x92x3, .f32⟩
  | 102 => ⟨S3x92x92, .f32⟩
  | 103 => ⟨S_, .i32⟩
  | 104 => ⟨S1, .i32⟩
  | 105 => ⟨S_, .i32⟩
  | 106 => ⟨S1, .i32⟩
  | 107 => ⟨S2, .i32⟩
  | 108 => ⟨S3x96x96, .f32⟩
  | 109 => ⟨S3x96x96, .f32⟩
  | 110 => ⟨S1x3x96x96, .f32⟩
  | 111 => ⟨S1x3x96x96, .f32⟩
  | 112 => ⟨S1x3x96x96, .f32⟩
  | 113 => ⟨S_, .f32⟩
  | 114 => ⟨S1x3x96x96, .f32⟩
  | 115 => ⟨S1x3x96x96, .f32⟩
  | 116 => ⟨S_, .f32⟩
  | 117 => ⟨S1x3x96x96, .f32⟩
  | 118 => ⟨S1x3x96x96, .f32⟩
  | _ => ⟨S1x3x96x96, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x3x96x96, .f32⟩

abbrev bufTy : (tb : Table) → Fin (tcTables nBuf tb) → BufTy
  | .hbm, ⟨i, _⟩ => hbmTy i
  | _, _ => ⟨S1x3x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_cst_3 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_cst_4 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_values : Ref sig .tc := ⟨.hbm, 112, rfl⟩
abbrev main_indices : Ref sig .tc := ⟨.hbm, 113, rfl⟩
abbrev main_v103 : Ref sig .tc := ⟨.hbm, 114, rfl⟩
abbrev main_call0_c : Ref sig .tc := ⟨.hbm, 115, rfl⟩
abbrev main_call0_v0 : Ref sig .tc := ⟨.hbm, 116, rfl⟩
abbrev main_call0_v1 : Ref sig .tc := ⟨.hbm, 117, rfl⟩
abbrev main_call0_c_0 : Ref sig .tc := ⟨.hbm, 118, rfl⟩
abbrev main_call0_v2 : Ref sig .tc := ⟨.hbm, 119, rfl⟩
abbrev main_call0_v3 : Ref sig .tc := ⟨.hbm, 120, rfl⟩
abbrev main_call0_v4 : Ref sig .tc := ⟨.hbm, 121, rfl⟩
abbrev main_call0_v5 : Ref sig .tc := ⟨.hbm, 122, rfl⟩
abbrev main_call0_c_1 : Ref sig .tc := ⟨.hbm, 123, rfl⟩
abbrev main_call0_c_2 : Ref sig .tc := ⟨.hbm, 124, rfl⟩
abbrev main_call0_v6 : Ref sig .tc := ⟨.hbm, 125, rfl⟩
abbrev main_call0_v7 : Ref sig .tc := ⟨.hbm, 126, rfl⟩
abbrev main_call0_v8 : Ref sig .tc := ⟨.hbm, 127, rfl⟩
abbrev main_call0_v9 : Ref sig .tc := ⟨.hbm, 128, rfl⟩
abbrev main_call0_v10 : Ref sig .tc := ⟨.hbm, 129, rfl⟩
abbrev main_call0_v11 : Ref sig .tc := ⟨.hbm, 130, rfl⟩
abbrev main_call0_c_3 : Ref sig .tc := ⟨.hbm, 131, rfl⟩
abbrev main_call0_v12 : Ref sig .tc := ⟨.hbm, 132, rfl⟩
abbrev main_call0_v13 : Ref sig .tc := ⟨.hbm, 133, rfl⟩
abbrev main_call0_v14 : Ref sig .tc := ⟨.hbm, 134, rfl⟩
abbrev main_call0_cst : Ref sig .tc := ⟨.hbm, 135, rfl⟩
abbrev main_call0_v15 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_5 : Ref sig .tc := ⟨.hbm, 141, rfl⟩
abbrev main_v108 : Ref sig .tc := ⟨.hbm, 142, rfl⟩
abbrev main_cst_6 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_7 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_8 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_9 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_c : Ref sig .tc := ⟨.hbm, 169, rfl⟩
abbrev main_v131 : Ref sig .tc := ⟨.hbm, 170, rfl⟩
abbrev main_c_10 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_c_11 : Ref sig .tc := ⟨.hbm, 178, rfl⟩
abbrev main_v138 : Ref sig .tc := ⟨.hbm, 179, rfl⟩
abbrev main_c_12 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_c_13 : Ref sig .tc := ⟨.hbm, 187, rfl⟩
abbrev main_v145 : Ref sig .tc := ⟨.hbm, 188, rfl⟩
abbrev main_c_14 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_c_15 : Ref sig .tc := ⟨.hbm, 196, rfl⟩
abbrev main_v152 : Ref sig .tc := ⟨.hbm, 197, rfl⟩
abbrev main_c_16 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_c_17 : Ref sig .tc := ⟨.hbm, 205, rfl⟩
abbrev main_v159 : Ref sig .tc := ⟨.hbm, 206, rfl⟩
abbrev main_c_18 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_c_19 : Ref sig .tc := ⟨.hbm, 214, rfl⟩
abbrev main_v166 : Ref sig .tc := ⟨.hbm, 215, rfl⟩
abbrev main_c_20 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_c_21 : Ref sig .tc := ⟨.hbm, 223, rfl⟩
abbrev main_v173 : Ref sig .tc := ⟨.hbm, 224, rfl⟩
abbrev main_c_22 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_c_23 : Ref sig .tc := ⟨.hbm, 232, rfl⟩
abbrev main_v180 : Ref sig .tc := ⟨.hbm, 233, rfl⟩
abbrev main_c_24 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_c_25 : Ref sig .tc := ⟨.hbm, 241, rfl⟩
abbrev main_v187 : Ref sig .tc := ⟨.hbm, 242, rfl⟩
abbrev main_c_26 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_c_27 : Ref sig .tc := ⟨.hbm, 250, rfl⟩
abbrev main_v194 : Ref sig .tc := ⟨.hbm, 251, rfl⟩
abbrev main_c_28 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_c_29 : Ref sig .tc := ⟨.hbm, 259, rfl⟩
abbrev main_v201 : Ref sig .tc := ⟨.hbm, 260, rfl⟩
abbrev main_c_30 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_c_31 : Ref sig .tc := ⟨.hbm, 268, rfl⟩
abbrev main_v208 : Ref sig .tc := ⟨.hbm, 269, rfl⟩
abbrev main_c_32 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_c_33 : Ref sig .tc := ⟨.hbm, 277, rfl⟩
abbrev main_v215 : Ref sig .tc := ⟨.hbm, 278, rfl⟩
abbrev main_c_34 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_c_35 : Ref sig .tc := ⟨.hbm, 286, rfl⟩
abbrev main_v222 : Ref sig .tc := ⟨.hbm, 287, rfl⟩
abbrev main_c_36 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_c_37 : Ref sig .tc := ⟨.hbm, 295, rfl⟩
abbrev main_v229 : Ref sig .tc := ⟨.hbm, 296, rfl⟩
abbrev main_c_38 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_c_39 : Ref sig .tc := ⟨.hbm, 304, rfl⟩
abbrev main_v236 : Ref sig .tc := ⟨.hbm, 305, rfl⟩
abbrev main_c_40 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_c_41 : Ref sig .tc := ⟨.hbm, 313, rfl⟩
abbrev main_v243 : Ref sig .tc := ⟨.hbm, 314, rfl⟩
abbrev main_c_42 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_c_43 : Ref sig .tc := ⟨.hbm, 322, rfl⟩
abbrev main_v250 : Ref sig .tc := ⟨.hbm, 323, rfl⟩
abbrev main_c_44 : Ref sig .tc := ⟨.hbm, 324, rfl⟩
abbrev main_v251 : Ref sig .tc := ⟨.hbm, 325, rfl⟩
abbrev main_v252 : Ref sig .tc := ⟨.hbm, 326, rfl⟩
abbrev main_v253 : Ref sig .tc := ⟨.hbm, 327, rfl⟩
abbrev main_v254 : Ref sig .tc := ⟨.hbm, 328, rfl⟩
abbrev main_v255 : Ref sig .tc := ⟨.hbm, 329, rfl⟩
abbrev main_v256 : Ref sig .tc := ⟨.hbm, 330, rfl⟩
abbrev main_c_45 : Ref sig .tc := ⟨.hbm, 331, rfl⟩
abbrev main_v257 : Ref sig .tc := ⟨.hbm, 332, rfl⟩
abbrev main_c_46 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_c_47 : Ref sig .tc := ⟨.hbm, 340, rfl⟩
abbrev main_v264 : Ref sig .tc := ⟨.hbm, 341, rfl⟩
abbrev main_c_48 : Ref sig .tc := ⟨.hbm, 342, rfl⟩
abbrev main_v265 : Ref sig .tc := ⟨.hbm, 343, rfl⟩
abbrev main_v266 : Ref sig .tc := ⟨.hbm, 344, rfl⟩
abbrev main_v267 : Ref sig .tc := ⟨.hbm, 345, rfl⟩
abbrev main_v268 : Ref sig .tc := ⟨.hbm, 346, rfl⟩
abbrev main_v269 : Ref sig .tc := ⟨.hbm, 347, rfl⟩
abbrev main_v270 : Ref sig .tc := ⟨.hbm, 348, rfl⟩
abbrev main_c_49 : Ref sig .tc := ⟨.hbm, 349, rfl⟩
abbrev main_v271 : Ref sig .tc := ⟨.hbm, 350, rfl⟩
abbrev main_c_50 : Ref sig .tc := ⟨.hbm, 351, rfl⟩
abbrev main_v272 : Ref sig .tc := ⟨.hbm, 352, rfl⟩
abbrev main_v273 : Ref sig .tc := ⟨.hbm, 353, rfl⟩
abbrev main_v274 : Ref sig .tc := ⟨.hbm, 354, rfl⟩
abbrev main_v275 : Ref sig .tc := ⟨.hbm, 355, rfl⟩
abbrev main_v276 : Ref sig .tc := ⟨.hbm, 356, rfl⟩
abbrev main_v277 : Ref sig .tc := ⟨.hbm, 357, rfl⟩
abbrev main_c_51 : Ref sig .tc := ⟨.hbm, 358, rfl⟩
abbrev main_v278 : Ref sig .tc := ⟨.hbm, 359, rfl⟩
abbrev main_c_52 : Ref sig .tc := ⟨.hbm, 360, rfl⟩
abbrev main_v279 : Ref sig .tc := ⟨.hbm, 361, rfl⟩
abbrev main_v280 : Ref sig .tc := ⟨.hbm, 362, rfl⟩
abbrev main_v281 : Ref sig .tc := ⟨.hbm, 363, rfl⟩
abbrev main_v282 : Ref sig .tc := ⟨.hbm, 364, rfl⟩
abbrev main_v283 : Ref sig .tc := ⟨.hbm, 365, rfl⟩
abbrev main_v284 : Ref sig .tc := ⟨.hbm, 366, rfl⟩
abbrev main_c_53 : Ref sig .tc := ⟨.hbm, 367, rfl⟩
abbrev main_v285 : Ref sig .tc := ⟨.hbm, 368, rfl⟩
abbrev main_c_54 : Ref sig .tc := ⟨.hbm, 369, rfl⟩
abbrev main_v286 : Ref sig .tc := ⟨.hbm, 370, rfl⟩
abbrev main_v287 : Ref sig .tc := ⟨.hbm, 371, rfl⟩
abbrev main_v288 : Ref sig .tc := ⟨.hbm, 372, rfl⟩
abbrev main_v289 : Ref sig .tc := ⟨.hbm, 373, rfl⟩
abbrev main_v290 : Ref sig .tc := ⟨.hbm, 374, rfl⟩
abbrev main_v291 : Ref sig .tc := ⟨.hbm, 375, rfl⟩
abbrev main_c_55 : Ref sig .tc := ⟨.hbm, 376, rfl⟩
abbrev main_v292 : Ref sig .tc := ⟨.hbm, 377, rfl⟩
abbrev main_c_56 : Ref sig .tc := ⟨.hbm, 378, rfl⟩
abbrev main_v293 : Ref sig .tc := ⟨.hbm, 379, rfl⟩
abbrev main_v294 : Ref sig .tc := ⟨.hbm, 380, rfl⟩
abbrev main_v295 : Ref sig .tc := ⟨.hbm, 381, rfl⟩
abbrev main_v296 : Ref sig .tc := ⟨.hbm, 382, rfl⟩
abbrev main_v297 : Ref sig .tc := ⟨.hbm, 383, rfl⟩
abbrev main_v298 : Ref sig .tc := ⟨.hbm, 384, rfl⟩
abbrev main_c_57 : Ref sig .tc := ⟨.hbm, 385, rfl⟩
abbrev main_v299 : Ref sig .tc := ⟨.hbm, 386, rfl⟩
abbrev main_c_58 : Ref sig .tc := ⟨.hbm, 387, rfl⟩
abbrev main_v300 : Ref sig .tc := ⟨.hbm, 388, rfl⟩
abbrev main_v301 : Ref sig .tc := ⟨.hbm, 389, rfl⟩
abbrev main_v302 : Ref sig .tc := ⟨.hbm, 390, rfl⟩
abbrev main_v303 : Ref sig .tc := ⟨.hbm, 391, rfl⟩
abbrev main_v304 : Ref sig .tc := ⟨.hbm, 392, rfl⟩
abbrev main_v305 : Ref sig .tc := ⟨.hbm, 393, rfl⟩
abbrev main_cst_59 : Ref sig .tc := ⟨.hbm, 394, rfl⟩
abbrev main_v306 : Ref sig .tc := ⟨.hbm, 395, rfl⟩
abbrev main_v307 : Ref sig .tc := ⟨.hbm, 396, rfl⟩
abbrev main_v308 : Ref sig .tc := ⟨.hbm, 397, rfl⟩
abbrev main_v309 : Ref sig .tc := ⟨.hbm, 398, rfl⟩
abbrev main_c_60 : Ref sig .tc := ⟨.hbm, 399, rfl⟩
abbrev main_v310 : Ref sig .tc := ⟨.hbm, 400, rfl⟩
abbrev main_c_61 : Ref sig .tc := ⟨.hbm, 401, rfl⟩
abbrev main_v311 : Ref sig .tc := ⟨.hbm, 402, rfl⟩
abbrev main_v312 : Ref sig .tc := ⟨.hbm, 403, rfl⟩
abbrev main_v313 : Ref sig .tc := ⟨.hbm, 404, rfl⟩
abbrev main_v314 : Ref sig .tc := ⟨.hbm, 405, rfl⟩
abbrev main_v315 : Ref sig .tc := ⟨.hbm, 406, rfl⟩
abbrev main_v316 : Ref sig .tc := ⟨.hbm, 407, rfl⟩
abbrev main_c_62 : Ref sig .tc := ⟨.hbm, 408, rfl⟩
abbrev main_v317 : Ref sig .tc := ⟨.hbm, 409, rfl⟩
abbrev main_c_63 : Ref sig .tc := ⟨.hbm, 410, rfl⟩
abbrev main_v318 : Ref sig .tc := ⟨.hbm, 411, rfl⟩
abbrev main_v319 : Ref sig .tc := ⟨.hbm, 412, rfl⟩
abbrev main_v320 : Ref sig .tc := ⟨.hbm, 413, rfl⟩
abbrev main_v321 : Ref sig .tc := ⟨.hbm, 414, rfl⟩
abbrev main_v322 : Ref sig .tc := ⟨.hbm, 415, rfl⟩
abbrev main_v323 : Ref sig .tc := ⟨.hbm, 416, rfl⟩
abbrev main_c_64 : Ref sig .tc := ⟨.hbm, 417, rfl⟩
abbrev main_v324 : Ref sig .tc := ⟨.hbm, 418, rfl⟩
abbrev main_c_65 : Ref sig .tc := ⟨.hbm, 419, rfl⟩
abbrev main_v325 : Ref sig .tc := ⟨.hbm, 420, rfl⟩
abbrev main_v326 : Ref sig .tc := ⟨.hbm, 421, rfl⟩
abbrev main_v327 : Ref sig .tc := ⟨.hbm, 422, rfl⟩
abbrev main_v328 : Ref sig .tc := ⟨.hbm, 423, rfl⟩
abbrev main_v329 : Ref sig .tc := ⟨.hbm, 424, rfl⟩
abbrev main_v330 : Ref sig .tc := ⟨.hbm, 425, rfl⟩
abbrev main_c_66 : Ref sig .tc := ⟨.hbm, 426, rfl⟩
abbrev main_v331 : Ref sig .tc := ⟨.hbm, 427, rfl⟩
abbrev main_c_67 : Ref sig .tc := ⟨.hbm, 428, rfl⟩
abbrev main_v332 : Ref sig .tc := ⟨.hbm, 429, rfl⟩
abbrev main_v333 : Ref sig .tc := ⟨.hbm, 430, rfl⟩
abbrev main_v334 : Ref sig .tc := ⟨.hbm, 431, rfl⟩
abbrev main_v335 : Ref sig .tc := ⟨.hbm, 432, rfl⟩
abbrev main_v336 : Ref sig .tc := ⟨.hbm, 433, rfl⟩
abbrev main_v337 : Ref sig .tc := ⟨.hbm, 434, rfl⟩
abbrev main_c_68 : Ref sig .tc := ⟨.hbm, 435, rfl⟩
abbrev main_v338 : Ref sig .tc := ⟨.hbm, 436, rfl⟩
abbrev main_c_69 : Ref sig .tc := ⟨.hbm, 437, rfl⟩
abbrev main_v339 : Ref sig .tc := ⟨.hbm, 438, rfl⟩
abbrev main_v340 : Ref sig .tc := ⟨.hbm, 439, rfl⟩
abbrev main_v341 : Ref sig .tc := ⟨.hbm, 440, rfl⟩
abbrev main_v342 : Ref sig .tc := ⟨.hbm, 441, rfl⟩
abbrev main_v343 : Ref sig .tc := ⟨.hbm, 442, rfl⟩
abbrev main_v344 : Ref sig .tc := ⟨.hbm, 443, rfl⟩
abbrev main_c_70 : Ref sig .tc := ⟨.hbm, 444, rfl⟩
abbrev main_v345 : Ref sig .tc := ⟨.hbm, 445, rfl⟩
abbrev main_c_71 : Ref sig .tc := ⟨.hbm, 446, rfl⟩
abbrev main_v346 : Ref sig .tc := ⟨.hbm, 447, rfl⟩
abbrev main_v347 : Ref sig .tc := ⟨.hbm, 448, rfl⟩
abbrev main_v348 : Ref sig .tc := ⟨.hbm, 449, rfl⟩
abbrev main_v349 : Ref sig .tc := ⟨.hbm, 450, rfl⟩
abbrev main_v350 : Ref sig .tc := ⟨.hbm, 451, rfl⟩
abbrev main_v351 : Ref sig .tc := ⟨.hbm, 452, rfl⟩
abbrev main_c_72 : Ref sig .tc := ⟨.hbm, 453, rfl⟩
abbrev main_v352 : Ref sig .tc := ⟨.hbm, 454, rfl⟩
abbrev main_c_73 : Ref sig .tc := ⟨.hbm, 455, rfl⟩
abbrev main_v353 : Ref sig .tc := ⟨.hbm, 456, rfl⟩
abbrev main_v354 : Ref sig .tc := ⟨.hbm, 457, rfl⟩
abbrev main_v355 : Ref sig .tc := ⟨.hbm, 458, rfl⟩
abbrev main_v356 : Ref sig .tc := ⟨.hbm, 459, rfl⟩
abbrev main_v357 : Ref sig .tc := ⟨.hbm, 460, rfl⟩
abbrev main_v358 : Ref sig .tc := ⟨.hbm, 461, rfl⟩
abbrev main_c_74 : Ref sig .tc := ⟨.hbm, 462, rfl⟩
abbrev main_v359 : Ref sig .tc := ⟨.hbm, 463, rfl⟩
abbrev main_c_75 : Ref sig .tc := ⟨.hbm, 464, rfl⟩
abbrev main_v360 : Ref sig .tc := ⟨.hbm, 465, rfl⟩
abbrev main_v361 : Ref sig .tc := ⟨.hbm, 466, rfl⟩
abbrev main_v362 : Ref sig .tc := ⟨.hbm, 467, rfl⟩
abbrev main_v363 : Ref sig .tc := ⟨.hbm, 468, rfl⟩
abbrev main_v364 : Ref sig .tc := ⟨.hbm, 469, rfl⟩
abbrev main_v365 : Ref sig .tc := ⟨.hbm, 470, rfl⟩
abbrev main_c_76 : Ref sig .tc := ⟨.hbm, 471, rfl⟩
abbrev main_v366 : Ref sig .tc := ⟨.hbm, 472, rfl⟩
abbrev main_c_77 : Ref sig .tc := ⟨.hbm, 473, rfl⟩
abbrev main_v367 : Ref sig .tc := ⟨.hbm, 474, rfl⟩
abbrev main_v368 : Ref sig .tc := ⟨.hbm, 475, rfl⟩
abbrev main_v369 : Ref sig .tc := ⟨.hbm, 476, rfl⟩
abbrev main_v370 : Ref sig .tc := ⟨.hbm, 477, rfl⟩
abbrev main_v371 : Ref sig .tc := ⟨.hbm, 478, rfl⟩
abbrev main_v372 : Ref sig .tc := ⟨.hbm, 479, rfl⟩
abbrev main_c_78 : Ref sig .tc := ⟨.hbm, 480, rfl⟩
abbrev main_v373 : Ref sig .tc := ⟨.hbm, 481, rfl⟩
abbrev main_c_79 : Ref sig .tc := ⟨.hbm, 482, rfl⟩
abbrev main_v374 : Ref sig .tc := ⟨.hbm, 483, rfl⟩
abbrev main_v375 : Ref sig .tc := ⟨.hbm, 484, rfl⟩
abbrev main_v376 : Ref sig .tc := ⟨.hbm, 485, rfl⟩
abbrev main_v377 : Ref sig .tc := ⟨.hbm, 486, rfl⟩
abbrev main_v378 : Ref sig .tc := ⟨.hbm, 487, rfl⟩
abbrev main_v379 : Ref sig .tc := ⟨.hbm, 488, rfl⟩
abbrev main_c_80 : Ref sig .tc := ⟨.hbm, 489, rfl⟩
abbrev main_v380 : Ref sig .tc := ⟨.hbm, 490, rfl⟩
abbrev main_c_81 : Ref sig .tc := ⟨.hbm, 491, rfl⟩
abbrev main_v381 : Ref sig .tc := ⟨.hbm, 492, rfl⟩
abbrev main_v382 : Ref sig .tc := ⟨.hbm, 493, rfl⟩
abbrev main_v383 : Ref sig .tc := ⟨.hbm, 494, rfl⟩
abbrev main_v384 : Ref sig .tc := ⟨.hbm, 495, rfl⟩
abbrev main_v385 : Ref sig .tc := ⟨.hbm, 496, rfl⟩
abbrev main_v386 : Ref sig .tc := ⟨.hbm, 497, rfl⟩
abbrev main_c_82 : Ref sig .tc := ⟨.hbm, 498, rfl⟩
abbrev main_v387 : Ref sig .tc := ⟨.hbm, 499, rfl⟩
abbrev main_c_83 : Ref sig .tc := ⟨.hbm, 500, rfl⟩
abbrev main_v388 : Ref sig .tc := ⟨.hbm, 501, rfl⟩
abbrev main_v389 : Ref sig .tc := ⟨.hbm, 502, rfl⟩
abbrev main_v390 : Ref sig .tc := ⟨.hbm, 503, rfl⟩
abbrev main_v391 : Ref sig .tc := ⟨.hbm, 504, rfl⟩
abbrev main_v392 : Ref sig .tc := ⟨.hbm, 505, rfl⟩
abbrev main_v393 : Ref sig .tc := ⟨.hbm, 506, rfl⟩
abbrev main_c_84 : Ref sig .tc := ⟨.hbm, 507, rfl⟩
abbrev main_v394 : Ref sig .tc := ⟨.hbm, 508, rfl⟩
abbrev main_c_85 : Ref sig .tc := ⟨.hbm, 509, rfl⟩
abbrev main_v395 : Ref sig .tc := ⟨.hbm, 510, rfl⟩
abbrev main_v396 : Ref sig .tc := ⟨.hbm, 511, rfl⟩
abbrev main_v397 : Ref sig .tc := ⟨.hbm, 512, rfl⟩
abbrev main_v398 : Ref sig .tc := ⟨.hbm, 513, rfl⟩
abbrev main_v399 : Ref sig .tc := ⟨.hbm, 514, rfl⟩
abbrev main_v400 : Ref sig .tc := ⟨.hbm, 515, rfl⟩
abbrev main_c_86 : Ref sig .tc := ⟨.hbm, 516, rfl⟩
abbrev main_v401 : Ref sig .tc := ⟨.hbm, 517, rfl⟩
abbrev main_c_87 : Ref sig .tc := ⟨.hbm, 518, rfl⟩
abbrev main_v402 : Ref sig .tc := ⟨.hbm, 519, rfl⟩
abbrev main_v403 : Ref sig .tc := ⟨.hbm, 520, rfl⟩
abbrev main_v404 : Ref sig .tc := ⟨.hbm, 521, rfl⟩
abbrev main_v405 : Ref sig .tc := ⟨.hbm, 522, rfl⟩
abbrev main_v406 : Ref sig .tc := ⟨.hbm, 523, rfl⟩
abbrev main_v407 : Ref sig .tc := ⟨.hbm, 524, rfl⟩
abbrev main_c_88 : Ref sig .tc := ⟨.hbm, 525, rfl⟩
abbrev main_v408 : Ref sig .tc := ⟨.hbm, 526, rfl⟩
abbrev main_c_89 : Ref sig .tc := ⟨.hbm, 527, rfl⟩
abbrev main_v409 : Ref sig .tc := ⟨.hbm, 528, rfl⟩
abbrev main_v410 : Ref sig .tc := ⟨.hbm, 529, rfl⟩
abbrev main_v411 : Ref sig .tc := ⟨.hbm, 530, rfl⟩
abbrev main_v412 : Ref sig .tc := ⟨.hbm, 531, rfl⟩
abbrev main_v413 : Ref sig .tc := ⟨.hbm, 532, rfl⟩
abbrev main_v414 : Ref sig .tc := ⟨.hbm, 533, rfl⟩
abbrev main_c_90 : Ref sig .tc := ⟨.hbm, 534, rfl⟩
abbrev main_v415 : Ref sig .tc := ⟨.hbm, 535, rfl⟩
abbrev main_c_91 : Ref sig .tc := ⟨.hbm, 536, rfl⟩
abbrev main_v416 : Ref sig .tc := ⟨.hbm, 537, rfl⟩
abbrev main_v417 : Ref sig .tc := ⟨.hbm, 538, rfl⟩
abbrev main_v418 : Ref sig .tc := ⟨.hbm, 539, rfl⟩
abbrev main_v419 : Ref sig .tc := ⟨.hbm, 540, rfl⟩
abbrev main_v420 : Ref sig .tc := ⟨.hbm, 541, rfl⟩
abbrev main_v421 : Ref sig .tc := ⟨.hbm, 542, rfl⟩
abbrev main_c_92 : Ref sig .tc := ⟨.hbm, 543, rfl⟩
abbrev main_v422 : Ref sig .tc := ⟨.hbm, 544, rfl⟩
abbrev main_c_93 : Ref sig .tc := ⟨.hbm, 545, rfl⟩
abbrev main_v423 : Ref sig .tc := ⟨.hbm, 546, rfl⟩
abbrev main_v424 : Ref sig .tc := ⟨.hbm, 547, rfl⟩
abbrev main_v425 : Ref sig .tc := ⟨.hbm, 548, rfl⟩
abbrev main_v426 : Ref sig .tc := ⟨.hbm, 549, rfl⟩
abbrev main_v427 : Ref sig .tc := ⟨.hbm, 550, rfl⟩
abbrev main_v428 : Ref sig .tc := ⟨.hbm, 551, rfl⟩
abbrev main_c_94 : Ref sig .tc := ⟨.hbm, 552, rfl⟩
abbrev main_v429 : Ref sig .tc := ⟨.hbm, 553, rfl⟩
abbrev main_c_95 : Ref sig .tc := ⟨.hbm, 554, rfl⟩
abbrev main_v430 : Ref sig .tc := ⟨.hbm, 555, rfl⟩
abbrev main_v431 : Ref sig .tc := ⟨.hbm, 556, rfl⟩
abbrev main_v432 : Ref sig .tc := ⟨.hbm, 557, rfl⟩
abbrev main_v433 : Ref sig .tc := ⟨.hbm, 558, rfl⟩
abbrev main_v434 : Ref sig .tc := ⟨.hbm, 559, rfl⟩
abbrev main_v435 : Ref sig .tc := ⟨.hbm, 560, rfl⟩
abbrev main_c_96 : Ref sig .tc := ⟨.hbm, 561, rfl⟩
abbrev main_v436 : Ref sig .tc := ⟨.hbm, 562, rfl⟩
abbrev main_c_97 : Ref sig .tc := ⟨.hbm, 563, rfl⟩
abbrev main_v437 : Ref sig .tc := ⟨.hbm, 564, rfl⟩
abbrev main_v438 : Ref sig .tc := ⟨.hbm, 565, rfl⟩
abbrev main_v439 : Ref sig .tc := ⟨.hbm, 566, rfl⟩
abbrev main_v440 : Ref sig .tc := ⟨.hbm, 567, rfl⟩
abbrev main_v441 : Ref sig .tc := ⟨.hbm, 568, rfl⟩
abbrev main_v442 : Ref sig .tc := ⟨.hbm, 569, rfl⟩
abbrev main_c_98 : Ref sig .tc := ⟨.hbm, 570, rfl⟩
abbrev main_v443 : Ref sig .tc := ⟨.hbm, 571, rfl⟩
abbrev main_c_99 : Ref sig .tc := ⟨.hbm, 572, rfl⟩
abbrev main_v444 : Ref sig .tc := ⟨.hbm, 573, rfl⟩
abbrev main_v445 : Ref sig .tc := ⟨.hbm, 574, rfl⟩
abbrev main_v446 : Ref sig .tc := ⟨.hbm, 575, rfl⟩
abbrev main_v447 : Ref sig .tc := ⟨.hbm, 576, rfl⟩
abbrev main_v448 : Ref sig .tc := ⟨.hbm, 577, rfl⟩
abbrev main_v449 : Ref sig .tc := ⟨.hbm, 578, rfl⟩
abbrev main_c_100 : Ref sig .tc := ⟨.hbm, 579, rfl⟩
abbrev main_v450 : Ref sig .tc := ⟨.hbm, 580, rfl⟩
abbrev main_c_101 : Ref sig .tc := ⟨.hbm, 581, rfl⟩
abbrev main_v451 : Ref sig .tc := ⟨.hbm, 582, rfl⟩
abbrev main_v452 : Ref sig .tc := ⟨.hbm, 583, rfl⟩
abbrev main_v453 : Ref sig .tc := ⟨.hbm, 584, rfl⟩
abbrev main_v454 : Ref sig .tc := ⟨.hbm, 585, rfl⟩
abbrev main_v455 : Ref sig .tc := ⟨.hbm, 586, rfl⟩
abbrev main_v456 : Ref sig .tc := ⟨.hbm, 587, rfl⟩
abbrev main_c_102 : Ref sig .tc := ⟨.hbm, 588, rfl⟩
abbrev main_v457 : Ref sig .tc := ⟨.hbm, 589, rfl⟩
abbrev main_c_103 : Ref sig .tc := ⟨.hbm, 590, rfl⟩
abbrev main_v458 : Ref sig .tc := ⟨.hbm, 591, rfl⟩
abbrev main_v459 : Ref sig .tc := ⟨.hbm, 592, rfl⟩
abbrev main_v460 : Ref sig .tc := ⟨.hbm, 593, rfl⟩
abbrev main_v461 : Ref sig .tc := ⟨.hbm, 594, rfl⟩
abbrev main_v462 : Ref sig .tc := ⟨.hbm, 595, rfl⟩
abbrev main_v463 : Ref sig .tc := ⟨.hbm, 596, rfl⟩
abbrev main_c_104 : Ref sig .tc := ⟨.hbm, 597, rfl⟩
abbrev main_v464 : Ref sig .tc := ⟨.hbm, 598, rfl⟩
abbrev main_c_105 : Ref sig .tc := ⟨.hbm, 599, rfl⟩
abbrev main_v465 : Ref sig .tc := ⟨.hbm, 600, rfl⟩
abbrev main_v466 : Ref sig .tc := ⟨.hbm, 601, rfl⟩
abbrev main_v467 : Ref sig .tc := ⟨.hbm, 602, rfl⟩
abbrev main_v468 : Ref sig .tc := ⟨.hbm, 603, rfl⟩
abbrev main_v469 : Ref sig .tc := ⟨.hbm, 604, rfl⟩
abbrev main_v470 : Ref sig .tc := ⟨.hbm, 605, rfl⟩
abbrev main_c_106 : Ref sig .tc := ⟨.hbm, 606, rfl⟩
abbrev main_v471 : Ref sig .tc := ⟨.hbm, 607, rfl⟩
abbrev main_c_107 : Ref sig .tc := ⟨.hbm, 608, rfl⟩
abbrev main_v472 : Ref sig .tc := ⟨.hbm, 609, rfl⟩
abbrev main_v473 : Ref sig .tc := ⟨.hbm, 610, rfl⟩
abbrev main_v474 : Ref sig .tc := ⟨.hbm, 611, rfl⟩
abbrev main_v475 : Ref sig .tc := ⟨.hbm, 612, rfl⟩
abbrev main_v476 : Ref sig .tc := ⟨.hbm, 613, rfl⟩
abbrev main_v477 : Ref sig .tc := ⟨.hbm, 614, rfl⟩
abbrev main_c_108 : Ref sig .tc := ⟨.hbm, 615, rfl⟩
abbrev main_v478 : Ref sig .tc := ⟨.hbm, 616, rfl⟩
abbrev main_c_109 : Ref sig .tc := ⟨.hbm, 617, rfl⟩
abbrev main_v479 : Ref sig .tc := ⟨.hbm, 618, rfl⟩
abbrev main_v480 : Ref sig .tc := ⟨.hbm, 619, rfl⟩
abbrev main_v481 : Ref sig .tc := ⟨.hbm, 620, rfl⟩
abbrev main_v482 : Ref sig .tc := ⟨.hbm, 621, rfl⟩
abbrev main_v483 : Ref sig .tc := ⟨.hbm, 622, rfl⟩
abbrev main_v484 : Ref sig .tc := ⟨.hbm, 623, rfl⟩
abbrev main_v485 : Ref sig .tc := ⟨.hbm, 624, rfl⟩
abbrev main_cst_110 : Ref sig .tc := ⟨.hbm, 625, rfl⟩
abbrev main_v486 : Ref sig .tc := ⟨.hbm, 626, rfl⟩
abbrev main_v487 : Ref sig .tc := ⟨.hbm, 627, rfl⟩
abbrev main_cst_111 : Ref sig .tc := ⟨.hbm, 628, rfl⟩
abbrev main_v488 : Ref sig .tc := ⟨.hbm, 629, rfl⟩
abbrev main_v489 : Ref sig .tc := ⟨.hbm, 630, rfl⟩

abbrev nD : Nat := 1
abbrev τ : Topo := Topo.v7x

variable {F : FTy → Type} [FloatOps F]
-- ==== Fold.lean ====
abbrev S128x8704 : Shape := ⟨2, ![128, 8704]⟩
abbrev S75 : Shape := ⟨1, ![75]⟩
abbrev S1x3x1x1 : Shape := ⟨4, ![1, 3, 1, 1]⟩
abbrev S75x8464 : Shape := ⟨2, ![75, 8464]⟩
abbrev S75x92x92 : Shape := ⟨3, ![75, 92, 92]⟩
abbrev S75x1x1 : Shape := ⟨3, ![75, 1, 1]⟩
abbrev S75x8x128 : Shape := ⟨3, ![75, 8, 128]⟩
abbrev S3x1x1 : Shape := ⟨3, ![3, 1, 1]⟩
abbrev S3x8x128 : Shape := ⟨3, ![3, 8, 128]⟩
abbrev S3x96x128 : Shape := ⟨3, ![3, 96, 128]⟩
abbrev S1x92x92 : Shape := ⟨3, ![1, 92, 92]⟩
abbrev S92x92 : Shape := ⟨2, ![92, 92]⟩
abbrev S1x1x1 : Shape := ⟨3, ![1, 1, 1]⟩
abbrev S1x1 : Shape := ⟨2, ![1, 1]⟩
abbrev S3x1x128 : Shape := ⟨3, ![3, 1, 128]⟩

abbrev nBuf : Space → Nat
  | .hbm => 10
  | .vmem => 6
  | .smem => 0
  | _ => 0

abbrev bufTy : (tb : Table) → Fin (tcTables nBuf tb) → BufTy
  | .hbm, ⟨0, _⟩ => ⟨S128x8704, .f32⟩
  | .hbm, ⟨1, _⟩ => ⟨S75, .f32⟩
  | .hbm, ⟨2, _⟩ => ⟨S1x3x1x1, .f32⟩
  | .hbm, ⟨3, _⟩ => ⟨S75x8464, .f32⟩
  | .hbm, ⟨4, _⟩ => ⟨S75x92x92, .f32⟩
  | .hbm, ⟨5, _⟩ => ⟨S75x1x1, .f32⟩
  | .hbm, ⟨6, _⟩ => ⟨S75x8x128, .f32⟩
  | .hbm, ⟨7, _⟩ => ⟨S3x1x1, .f32⟩
  | .hbm, ⟨8, _⟩ => ⟨S3x8x128, .f32⟩
  | .hbm, ⟨9, _⟩ => ⟨S3x96x128, .f32⟩
  | .local _ .vmem, ⟨0, _⟩ => ⟨S75x92x92, .f32⟩
  | .local _ .vmem, ⟨1, _⟩ => ⟨S75x8x128, .f32⟩
  | .local _ .vmem, ⟨2, _⟩ => ⟨S3x8x128, .f32⟩
  | .local _ .vmem, ⟨3, _⟩ => ⟨S3x96x128, .f32⟩
  | .local _ .vmem, ⟨4, _⟩ => ⟨S3x96x128, .f32⟩
  | .local _ .vmem, ⟨5, _⟩ => ⟨S3x96x128, .f32⟩
  | _, _ => ⟨S128x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S75x92x92 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S75x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== FoldReferenceIdeal.lean ====
abbrev S128x8704 : Shape := ⟨2, ![128, 8704]⟩
abbrev S75 : Shape := ⟨1, ![75]⟩
abbrev S1x3x1x1 : Shape := ⟨4, ![1, 3, 1, 1]⟩
abbrev S75x8464 : Shape := ⟨2, ![75, 8464]⟩
abbrev S8464x75 : Shape := ⟨2, ![8464, 75]⟩
abbrev S92x92x3x5x5 : Shape := ⟨5, ![92, 92, 3, 5, 5]⟩
abbrev S_ : Shape := ⟨0, ![]⟩
abbrev S3x96x96 : Shape := ⟨3, ![3, 96, 96]⟩
abbrev S92x92x3x1x1 : Shape := ⟨5, ![92, 92, 3, 1, 1]⟩
abbrev S92x92x3 : Shape := ⟨3, ![92, 92, 3]⟩
abbrev S3x92x92 : Shape := ⟨3, ![3, 92, 92]⟩
abbrev S1 : Shape := ⟨1, ![1]⟩
abbrev S2 : Shape := ⟨1, ![2]⟩
abbrev S1x75 : Shape := ⟨2, ![1, 75]⟩
abbrev S1x3x96x96 : Shape := ⟨4, ![1, 3, 96, 96]⟩
abbrev S3x96x128 : Shape := ⟨3, ![3, 96, 128]⟩

abbrev nBuf : Space → Nat
  | .hbm => 477
  | .vmem => 0
  | .smem => 0
  | _ => 0

abbrev hbmTy0_0 (i : Nat) : BufTy := match i % 128 with
  | 0 => ⟨S128x8704, .f32⟩
  | 1 => ⟨S75, .f32⟩
  | 2 => ⟨S1x3x1x1, .f32⟩
  | 3 => ⟨S75x8464, .f32⟩
  | 4 => ⟨S8464x75, .f32⟩
  | 5 => ⟨S92x92x3x5x5, .f32⟩
  | 6 => ⟨S_, .f32⟩
  | 7 => ⟨S3x96x96, .f32⟩
  | 8 => ⟨S92x92x3x1x1, .f32⟩
  | 9 => ⟨S92x92x3, .f32⟩
  | 10 => ⟨S3x92x92, .f32⟩
  | 11 => ⟨S_, .i32⟩
  | 12 => ⟨S1, .i32⟩
  | 13 => ⟨S_, .i32⟩
  | 14 => ⟨S1, .i32⟩
  | 15 => ⟨S2, .i32⟩
  | 16 => ⟨S3x96x96, .f32⟩
  | 17 => ⟨S92x92x3x1x1, .f32⟩
  | 18 => ⟨S92x92x3, .f32⟩
  | 19 => ⟨S3x92x92, .f32⟩
  | 20 => ⟨S_, .i32⟩
  | 21 => ⟨S1, .i32⟩
  | 22 => ⟨S_, .i32⟩
  | 23 => ⟨S1, .i32⟩
  | 24 => ⟨S2, .i32⟩
  | 25 => ⟨S3x96x96, .f32⟩
  | 26 => ⟨S92x92x3x1x1, .f32⟩
  | 27 => ⟨S92x92x3, .f32⟩
  | 28 => ⟨S3x92x92, .f32⟩
  | 29 => ⟨S_, .i32⟩
  | 30 => ⟨S1, .i32⟩
  | 31 => ⟨S_, .i32⟩
  | 32 => ⟨S1, .i32⟩
  | 33 => ⟨S2, .i32⟩
  | 34 => ⟨S3x96x96, .f32⟩
  | 35 => ⟨S92x92x3x1x1, .f32⟩
  | 36 => ⟨S92x92x3, .f32⟩
  | 37 => ⟨S3x92x92, .f32⟩
  | 38 => ⟨S_, .i32⟩
  | 39 => ⟨S1, .i32⟩
  | 40 => ⟨S_, .i32⟩
  | 41 => ⟨S1, .i32⟩
  | 42 => ⟨S2, .i32⟩
  | 43 => ⟨S3x96x96, .f32⟩
  | 44 => ⟨S92x92x3x1x1, .f32⟩
  | 45 => ⟨S92x92x3, .f32⟩
  | 46 => ⟨S3x92x92, .f32⟩
  | 47 => ⟨S_, .i32⟩
  | 48 => ⟨S1, .i32⟩
  | 49 => ⟨S_, .i32⟩
  | 50 => ⟨S1, .i32⟩
  | 51 => ⟨S2, .i32⟩
  | 52 => ⟨S3x96x96, .f32⟩
  | 53 => ⟨S92x92x3x1x1, .f32⟩
  | 54 => ⟨S92x92x3, .f32⟩
  | 55 => ⟨S3x92x92, .f32⟩
  | 56 => ⟨S_, .i32⟩
  | 57 => ⟨S1, .i32⟩
  | 58 => ⟨S_, .i32⟩
  | 59 => ⟨S1, .i32⟩
  | 60 => ⟨S2, .i32⟩
  | 61 => ⟨S3x96x96, .f32⟩
  | 62 => ⟨S92x92x3x1x1, .f32⟩
  | 63 => ⟨S92x92x3, .f32⟩
  | 64 => ⟨S3x92x92, .f32⟩
  | 65 => ⟨S_, .i32⟩
  | 66 => ⟨S1, .i32⟩
  | 67 => ⟨S_, .i32⟩
  | 68 => ⟨S1, .i32⟩
  | 69 => ⟨S2, .i32⟩
  | 70 => ⟨S3x96x96, .f32⟩
  | 71 => ⟨S92x92x3x1x1, .f32⟩
  | 72 => ⟨S92x92x3, .f32⟩
  | 73 => ⟨S3x92x92, .f32⟩
  | 74 => ⟨S_, .i32⟩
  | 75 => ⟨S1, .i32⟩
  | 76 => ⟨S_, .i32⟩
  | 77 => ⟨S1, .i32⟩
  | 78 => ⟨S2, .i32⟩
  | 79 => ⟨S3x96x96, .f32⟩
  | 80 => ⟨S92x92x3x1x1, .f32⟩
  | 81 => ⟨S92x92x3, .f32⟩
  | 82 => ⟨S3x92x92, .f32⟩
  | 83 => ⟨S_, .i32⟩
  | 84 => ⟨S1, .i32⟩
  | 85 => ⟨S_, .i32⟩
  | 86 => ⟨S1, .i32⟩
  | 87 => ⟨S2, .i32⟩
  | 88 => ⟨S3x96x96, .f32⟩
  | 89 => ⟨S92x92x3x1x1, .f32⟩
  | 90 => ⟨S92x92x3, .f32⟩
  | 91 => ⟨S3x92x92, .f32⟩
  | 92 => ⟨S_, .i32⟩
  | 93 => ⟨S1, .i32⟩
  | 94 => ⟨S_, .i32⟩
  | 95 => ⟨S1, .i32⟩
  | 96 => ⟨S2, .i32⟩
  | 97 => ⟨S3x96x96, .f32⟩
  | 98 => ⟨S92x92x3x1x1, .f32⟩
  | 99 => ⟨S92x92x3, .f32⟩
  | 100 => ⟨S3x92x92, .f32⟩
  | 101 => ⟨S_, .i32⟩
  | 102 => ⟨S1, .i32⟩
  | 103 => ⟨S_, .i32⟩
  | 104 => ⟨S1, .i32⟩
  | 105 => ⟨S2, .i32⟩
  | 106 => ⟨S3x96x96, .f32⟩
  | 107 => ⟨S92x92x3x1x1, .f32⟩
  | 108 => ⟨S92x92x3, .f32⟩
  | 109 => ⟨S3x92x92, .f32⟩
  | 110 => ⟨S_, .i32⟩
  | 111 => ⟨S1, .i32⟩
  | 112 => ⟨S_, .i32⟩
  | 113 => ⟨S1, .i32⟩
  | 114 => ⟨S2, .i32⟩
  | 115 => ⟨S3x96x96, .f32⟩
  | 116 => ⟨S92x92x3x1x1, .f32⟩
  | 117 => ⟨S92x92x3, .f32⟩
  | 118 => ⟨S3x92x92, .f32⟩
  | 119 => ⟨S_, .i32⟩
  | 120 => ⟨S1, .i32⟩
  | 121 => ⟨S_, .i32⟩
  | 122 => ⟨S1, .i32⟩
  | 123 => ⟨S2, .i32⟩
  | 124 => ⟨S3x96x96, .f32⟩
  | 125 => ⟨S92x92x3x1x1, .f32⟩
  | 126 => ⟨S92x92x3, .f32⟩
  | 127 => ⟨S3x92x92, .f32⟩
  | _ => ⟨S128x8704, .f32⟩

abbrev hbmTy0_1 (i : Nat) : BufTy := match i % 128 with
  | 0 => ⟨S_, .i32⟩
  | 1 => ⟨S1, .i32⟩
  | 2 => ⟨S_, .i32⟩
  | 3 => ⟨S1, .i32⟩
  | 4 => ⟨S2, .i32⟩
  | 5 => ⟨S3x96x96, .f32⟩
  | 6 => ⟨S92x92x3x1x1, .f32⟩
  | 7 => ⟨S92x92x3, .f32⟩
  | 8 => ⟨S3x92x92, .f32⟩
  | 9 => ⟨S_, .i32⟩
  | 10 => ⟨S1, .i32⟩
  | 11 => ⟨S_, .i32⟩
  | 12 => ⟨S1, .i32⟩
  | 13 => ⟨S2, .i32⟩
  | 14 => ⟨S3x96x96, .f32⟩
  | 15 => ⟨S92x92x3x1x1, .f32⟩
  | 16 => ⟨S92x92x3, .f32⟩
  | 17 => ⟨S3x92x92, .f32⟩
  | 18 => ⟨S_, .i32⟩
  | 19 => ⟨S1, .i32⟩
  | 20 => ⟨S_, .i32⟩
  | 21 => ⟨S1, .i32⟩
  | 22 => ⟨S2, .i32⟩
  | 23 => ⟨S3x96x96, .f32⟩
  | 24 => ⟨S92x92x3x1x1, .f32⟩
  | 25 => ⟨S92x92x3, .f32⟩
  | 26 => ⟨S3x92x92, .f32⟩
  | 27 => ⟨S_, .i32⟩
  | 28 => ⟨S1, .i32⟩
  | 29 => ⟨S_, .i32⟩
  | 30 => ⟨S1, .i32⟩
  | 31 => ⟨S2, .i32⟩
  | 32 => ⟨S3x96x96, .f32⟩
  | 33 => ⟨S92x92x3x1x1, .f32⟩
  | 34 => ⟨S92x92x3, .f32⟩
  | 35 => ⟨S3x92x92, .f32⟩
  | 36 => ⟨S_, .i32⟩
  | 37 => ⟨S1, .i32⟩
  | 38 => ⟨S_, .i32⟩
  | 39 => ⟨S1, .i32⟩
  | 40 => ⟨S2, .i32⟩
  | 41 => ⟨S3x96x96, .f32⟩
  | 42 => ⟨S92x92x3x1x1, .f32⟩
  | 43 => ⟨S92x92x3, .f32⟩
  | 44 => ⟨S3x92x92, .f32⟩
  | 45 => ⟨S_, .i32⟩
  | 46 => ⟨S1, .i32⟩
  | 47 => ⟨S_, .i32⟩
  | 48 => ⟨S1, .i32⟩
  | 49 => ⟨S2, .i32⟩
  | 50 => ⟨S3x96x96, .f32⟩
  | 51 => ⟨S92x92x3x1x1, .f32⟩
  | 52 => ⟨S92x92x3, .f32⟩
  | 53 => ⟨S3x92x92, .f32⟩
  | 54 => ⟨S_, .i32⟩
  | 55 => ⟨S1, .i32⟩
  | 56 => ⟨S_, .i32⟩
  | 57 => ⟨S1, .i32⟩
  | 58 => ⟨S2, .i32⟩
  | 59 => ⟨S3x96x96, .f32⟩
  | 60 => ⟨S92x92x3x1x1, .f32⟩
  | 61 => ⟨S92x92x3, .f32⟩
  | 62 => ⟨S3x92x92, .f32⟩
  | 63 => ⟨S_, .i32⟩
  | 64 => ⟨S1, .i32⟩
  | 65 => ⟨S_, .i32⟩
  | 66 => ⟨S1, .i32⟩
  | 67 => ⟨S2, .i32⟩
  | 68 => ⟨S3x96x96, .f32⟩
  | 69 => ⟨S92x92x3x1x1, .f32⟩
  | 70 => ⟨S92x92x3, .f32⟩
  | 71 => ⟨S3x92x92, .f32⟩
  | 72 => ⟨S_, .i32⟩
  | 73 => ⟨S1, .i32⟩
  | 74 => ⟨S_, .i32⟩
  | 75 => ⟨S1, .i32⟩
  | 76 => ⟨S2, .i32⟩
  | 77 => ⟨S3x96x96, .f32⟩
  | 78 => ⟨S92x92x3x1x1, .f32⟩
  | 79 => ⟨S92x92x3, .f32⟩
  | 80 => ⟨S3x92x92, .f32⟩
  | 81 => ⟨S_, .i32⟩
  | 82 => ⟨S1, .i32⟩
  | 83 => ⟨S_, .i32⟩
  | 84 => ⟨S1, .i32⟩
  | 85 => ⟨S2, .i32⟩
  | 86 => ⟨S3x96x96, .f32⟩
  | 87 => ⟨S92x92x3x1x1, .f32⟩
  | 88 => ⟨S92x92x3, .f32⟩
  | 89 => ⟨S3x92x92, .f32⟩
  | 90 => ⟨S_, .i32⟩
  | 91 => ⟨S1, .i32⟩
  | 92 => ⟨S_, .i32⟩
  | 93 => ⟨S1, .i32⟩
  | 94 => ⟨S2, .i32⟩
  | 95 => ⟨S3x96x96, .f32⟩
  | 96 => ⟨S92x92x3x1x1, .f32⟩
  | 97 => ⟨S92x92x3, .f32⟩
  | 98 => ⟨S3x92x92, .f32⟩
  | 99 => ⟨S_, .i32⟩
  | 100 => ⟨S1, .i32⟩
  | 101 => ⟨S_, .i32⟩
  | 102 => ⟨S1, .i32⟩
  | 103 => ⟨S2, .i32⟩
  | 104 => ⟨S3x96x96, .f32⟩
  | 105 => ⟨S1x75, .f32⟩
  | 106 => ⟨S8464x75, .f32⟩
  | 107 => ⟨S92x92x3x5x5, .f32⟩
  | 108 => ⟨S_, .f32⟩
  | 109 => ⟨S3x96x96, .f32⟩
  | 110 => ⟨S92x92x3x1x1, .f32⟩
  | 111 => ⟨S92x92x3, .f32⟩
  | 112 => ⟨S3x92x92, .f32⟩
  | 113 => ⟨S_, .i32⟩
  | 114 => ⟨S1, .i32⟩
  | 115 => ⟨S_, .i32⟩
  | 116 => ⟨S1, .i32⟩
  | 117 => ⟨S2, .i32⟩
  | 118 => ⟨S3x96x96, .f32⟩
  | 119 => ⟨S92x92x3x1x1, .f32⟩
  | 120 => ⟨S92x92x3, .f32⟩
  | 121 => ⟨S3x92x92, .f32⟩
  | 122 => ⟨S_, .i32⟩
  | 123 => ⟨S1, .i32⟩
  | 124 => ⟨S_, .i32⟩
  | 125 => ⟨S1, .i32⟩
  | 126 => ⟨S2, .i32⟩
  | 127 => ⟨S3x96x96, .f32⟩
  | _ => ⟨S128x8704, .f32⟩

abbrev hbmTy0_2 (i : Nat) : BufTy := match i % 128 with
  | 0 => ⟨S92x92x3x1x1, .f32⟩
  | 1 => ⟨S92x92x3, .f32⟩
  | 2 => ⟨S3x92x92, .f32⟩
  | 3 => ⟨S_, .i32⟩
  | 4 => ⟨S1, .i32⟩
  | 5 => ⟨S_, .i32⟩
  | 6 => ⟨S1, .i32⟩
  | 7 => ⟨S2, .i32⟩
  | 8 => ⟨S3x96x96, .f32⟩
  | 9 => ⟨S92x92x3x1x1, .f32⟩
  | 10 => ⟨S92x92x3, .f32⟩
  | 11 => ⟨S3x92x92, .f32⟩
  | 12 => ⟨S_, .i32⟩
  | 13 => ⟨S1, .i32⟩
  | 14 => ⟨S_, .i32⟩
  | 15 => ⟨S1, .i32⟩
  | 16 => ⟨S2, .i32⟩
  | 17 => ⟨S3x96x96, .f32⟩
  | 18 => ⟨S92x92x3x1x1, .f32⟩
  | 19 => ⟨S92x92x3, .f32⟩
  | 20 => ⟨S3x92x92, .f32⟩
  | 21 => ⟨S_, .i32⟩
  | 22 => ⟨S1, .i32⟩
  | 23 => ⟨S_, .i32⟩
  | 24 => ⟨S1, .i32⟩
  | 25 => ⟨S2, .i32⟩
  | 26 => ⟨S3x96x96, .f32⟩
  | 27 => ⟨S92x92x3x1x1, .f32⟩
  | 28 => ⟨S92x92x3, .f32⟩
  | 29 => ⟨S3x92x92, .f32⟩
  | 30 => ⟨S_, .i32⟩
  | 31 => ⟨S1, .i32⟩
  | 32 => ⟨S_, .i32⟩
  | 33 => ⟨S1, .i32⟩
  | 34 => ⟨S2, .i32⟩
  | 35 => ⟨S3x96x96, .f32⟩
  | 36 => ⟨S92x92x3x1x1, .f32⟩
  | 37 => ⟨S92x92x3, .f32⟩
  | 38 => ⟨S3x92x92, .f32⟩
  | 39 => ⟨S_, .i32⟩
  | 40 => ⟨S1, .i32⟩
  | 41 => ⟨S_, .i32⟩
  | 42 => ⟨S1, .i32⟩
  | 43 => ⟨S2, .i32⟩
  | 44 => ⟨S3x96x96, .f32⟩
  | 45 => ⟨S92x92x3x1x1, .f32⟩
  | 46 => ⟨S92x92x3, .f32⟩
  | 47 => ⟨S3x92x92, .f32⟩
  | 48 => ⟨S_, .i32⟩
  | 49 => ⟨S1, .i32⟩
  | 50 => ⟨S_, .i32⟩
  | 51 => ⟨S1, .i32⟩
  | 52 => ⟨S2, .i32⟩
  | 53 => ⟨S3x96x96, .f32⟩
  | 54 => ⟨S92x92x3x1x1, .f32⟩
  | 55 => ⟨S92x92x3, .f32⟩
  | 56 => ⟨S3x92x92, .f32⟩
  | 57 => ⟨S_, .i32⟩
  | 58 => ⟨S1, .i32⟩
  | 59 => ⟨S_, .i32⟩
  | 60 => ⟨S1, .i32⟩
  | 61 => ⟨S2, .i32⟩
  | 62 => ⟨S3x96x96, .f32⟩
  | 63 => ⟨S92x92x3x1x1, .f32⟩
  | 64 => ⟨S92x92x3, .f32⟩
  | 65 => ⟨S3x92x92, .f32⟩
  | 66 => ⟨S_, .i32⟩
  | 67 => ⟨S1, .i32⟩
  | 68 => ⟨S_, .i32⟩
  | 69 => ⟨S1, .i32⟩
  | 70 => ⟨S2, .i32⟩
  | 71 => ⟨S3x96x96, .f32⟩
  | 72 => ⟨S92x92x3x1x1, .f32⟩
  | 73 => ⟨S92x92x3, .f32⟩
  | 74 => ⟨S3x92x92, .f32⟩
  | 75 => ⟨S_, .i32⟩
  | 76 => ⟨S1, .i32⟩
  | 77 => ⟨S_, .i32⟩
  | 78 => ⟨S1, .i32⟩
  | 79 => ⟨S2, .i32⟩
  | 80 => ⟨S3x96x96, .f32⟩
  | 81 => ⟨S92x92x3x1x1, .f32⟩
  | 82 => ⟨S92x92x3, .f32⟩
  | 83 => ⟨S3x92x92, .f32⟩
  | 84 => ⟨S_, .i32⟩
  | 85 => ⟨S1, .i32⟩
  | 86 => ⟨S_, .i32⟩
  | 87 => ⟨S1, .i32⟩
  | 88 => ⟨S2, .i32⟩
  | 89 => ⟨S3x96x96, .f32⟩
  | 90 => ⟨S92x92x3x1x1, .f32⟩
  | 91 => ⟨S92x92x3, .f32⟩
  | 92 => ⟨S3x92x92, .f32⟩
  | 93 => ⟨S_, .i32⟩
  | 94 => ⟨S1, .i32⟩
  | 95 => ⟨S_, .i32⟩
  | 96 => ⟨S1, .i32⟩
  | 97 => ⟨S2, .i32⟩
  | 98 => ⟨S3x96x96, .f32⟩
  | 99 => ⟨S92x92x3x1x1, .f32⟩
  | 100 => ⟨S92x92x3, .f32⟩
  | 101 => ⟨S3x92x92, .f32⟩
  | 102 => ⟨S_, .i32⟩
  | 103 => ⟨S1, .i32⟩
  | 104 => ⟨S_, .i32⟩
  | 105 => ⟨S1, .i32⟩
  | 106 => ⟨S2, .i32⟩
  | 107 => ⟨S3x96x96, .f32⟩
  | 108 => ⟨S92x92x3x1x1, .f32⟩
  | 109 => ⟨S92x92x3, .f32⟩
  | 110 => ⟨S3x92x92, .f32⟩
  | 111 => ⟨S_, .i32⟩
  | 112 => ⟨S1, .i32⟩
  | 113 => ⟨S_, .i32⟩
  | 114 => ⟨S1, .i32⟩
  | 115 => ⟨S2, .i32⟩
  | 116 => ⟨S3x96x96, .f32⟩
  | 117 => ⟨S92x92x3x1x1, .f32⟩
  | 118 => ⟨S92x92x3, .f32⟩
  | 119 => ⟨S3x92x92, .f32⟩
  | 120 => ⟨S_, .i32⟩
  | 121 => ⟨S1, .i32⟩
  | 122 => ⟨S_, .i32⟩
  | 123 => ⟨S1, .i32⟩
  | 124 => ⟨S2, .i32⟩
  | 125 => ⟨S3x96x96, .f32⟩
  | 126 => ⟨S92x92x3x1x1, .f32⟩
  | 127 => ⟨S92x92x3, .f32⟩
  | _ => ⟨S128x8704, .f32⟩

abbrev hbmTy0_3 (i : Nat) : BufTy := match i % 128 with
  | 0 => ⟨S3x92x92, .f32⟩
  | 1 => ⟨S_, .i32⟩
  | 2 => ⟨S1, .i32⟩
  | 3 => ⟨S_, .i32⟩
  | 4 => ⟨S1, .i32⟩
  | 5 => ⟨S2, .i32⟩
  | 6 => ⟨S3x96x96, .f32⟩
  | 7 => ⟨S92x92x3x1x1, .f32⟩
  | 8 => ⟨S92x92x3, .f32⟩
  | 9 => ⟨S3x92x92, .f32⟩
  | 10 => ⟨S_, .i32⟩
  | 11 => ⟨S1, .i32⟩
  | 12 => ⟨S_, .i32⟩
  | 13 => ⟨S1, .i32⟩
  | 14 => ⟨S2, .i32⟩
  | 15 => ⟨S3x96x96, .f32⟩
  | 16 => ⟨S92x92x3x1x1, .f32⟩
  | 17 => ⟨S92x92x3, .f32⟩
  | 18 => ⟨S3x92x92, .f32⟩
  | 19 => ⟨S_, .i32⟩
  | 20 => ⟨S1, .i32⟩
  | 21 => ⟨S_, .i32⟩
  | 22 => ⟨S1, .i32⟩
  | 23 => ⟨S2, .i32⟩
  | 24 => ⟨S3x96x96, .f32⟩
  | 25 => ⟨S92x92x3x1x1, .f32⟩
  | 26 => ⟨S92x92x3, .f32⟩
  | 27 => ⟨S3x92x92, .f32⟩
  | 28 => ⟨S_, .i32⟩
  | 29 => ⟨S1, .i32⟩
  | 30 => ⟨S_, .i32⟩
  | 31 => ⟨S1, .i32⟩
  | 32 => ⟨S2, .i32⟩
  | 33 => ⟨S3x96x96, .f32⟩
  | 34 => ⟨S92x92x3x1x1, .f32⟩
  | 35 => ⟨S92x92x3, .f32⟩
  | 36 => ⟨S3x92x92, .f32⟩
  | 37 => ⟨S_, .i32⟩
  | 38 => ⟨S1, .i32⟩
  | 39 => ⟨S_, .i32⟩
  | 40 => ⟨S1, .i32⟩
  | 41 => ⟨S2, .i32⟩
  | 42 => ⟨S3x96x96, .f32⟩
  | 43 => ⟨S92x92x3x1x1, .f32⟩
  | 44 => ⟨S92x92x3, .f32⟩
  | 45 => ⟨S3x92x92, .f32⟩
  | 46 => ⟨S_, .i32⟩
  | 47 => ⟨S1, .i32⟩
  | 48 => ⟨S_, .i32⟩
  | 49 => ⟨S1, .i32⟩
  | 50 => ⟨S2, .i32⟩
  | 51 => ⟨S3x96x96, .f32⟩
  | 52 => ⟨S92x92x3x1x1, .f32⟩
  | 53 => ⟨S92x92x3, .f32⟩
  | 54 => ⟨S3x92x92, .f32⟩
  | 55 => ⟨S_, .i32⟩
  | 56 => ⟨S1, .i32⟩
  | 57 => ⟨S_, .i32⟩
  | 58 => ⟨S1, .i32⟩
  | 59 => ⟨S2, .i32⟩
  | 60 => ⟨S3x96x96, .f32⟩
  | 61 => ⟨S92x92x3x1x1, .f32⟩
  | 62 => ⟨S92x92x3, .f32⟩
  | 63 => ⟨S3x92x92, .f32⟩
  | 64 => ⟨S_, .i32⟩
  | 65 => ⟨S1, .i32⟩
  | 66 => ⟨S_, .i32⟩
  | 67 => ⟨S1, .i32⟩
  | 68 => ⟨S2, .i32⟩
  | 69 => ⟨S3x96x96, .f32⟩
  | 70 => ⟨S92x92x3x1x1, .f32⟩
  | 71 => ⟨S92x92x3, .f32⟩
  | 72 => ⟨S3x92x92, .f32⟩
  | 73 => ⟨S_, .i32⟩
  | 74 => ⟨S1, .i32⟩
  | 75 => ⟨S_, .i32⟩
  | 76 => ⟨S1, .i32⟩
  | 77 => ⟨S2, .i32⟩
  | 78 => ⟨S3x96x96, .f32⟩
  | 79 => ⟨S3x96x96, .f32⟩
  | 80 => ⟨S1x3x96x96, .f32⟩
  | 81 => ⟨S1x3x96x96, .f32⟩
  | 82 => ⟨S1x3x96x96, .f32⟩
  | 83 => ⟨S_, .f32⟩
  | 84 => ⟨S1x3x96x96, .f32⟩
  | 85 => ⟨S1x3x96x96, .f32⟩
  | 86 => ⟨S_, .f32⟩
  | 87 => ⟨S1x3x96x96, .f32⟩
  | 88 => ⟨S1x3x96x96, .f32⟩
  | 89 => ⟨S3x96x96, .f32⟩
  | 90 => ⟨S_, .i32⟩
  | 91 => ⟨S_, .f32⟩
  | 92 => ⟨S3x96x128, .f32⟩
  | _ => ⟨S128x8704, .f32⟩

abbrev hbmTy (i : Nat) : BufTy := match i / 128 with
  | 0 => hbmTy0_0 i
  | 1 => hbmTy0_1 i
  | 2 => hbmTy0_2 i
  | 3 => hbmTy0_3 i
  | _ => ⟨S128x8704, .f32⟩

abbrev bufTy : (tb : Table) → Fin (tcTables nBuf tb) → BufTy
  | .hbm, ⟨i, _⟩ => hbmTy i
  | _, _ => ⟨S128x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_5 : Ref sig .tc := ⟨.hbm, 38, rfl⟩
abbrev main_v28 : Ref sig .tc := ⟨.hbm, 39, rfl⟩
abbrev main_c_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_7 : Ref sig .tc := ⟨.hbm, 47, rfl⟩
abbrev main_v35 : Ref sig .tc := ⟨.hbm, 48, rfl⟩
abbrev main_c_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_9 : Ref sig .tc := ⟨.hbm, 56, rfl⟩
abbrev main_v42 : Ref sig .tc := ⟨.hbm, 57, rfl⟩
abbrev main_c_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_11 : Ref sig .tc := ⟨.hbm, 65, rfl⟩
abbrev main_v49 : Ref sig .tc := ⟨.hbm, 66, rfl⟩
abbrev main_c_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_13 : Ref sig .tc := ⟨.hbm, 74, rfl⟩
abbrev main_v56 : Ref sig .tc := ⟨.hbm, 75, rfl⟩
abbrev main_c_14 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_15 : Ref sig .tc := ⟨.hbm, 83, rfl⟩
abbrev main_v63 : Ref sig .tc := ⟨.hbm, 84, rfl⟩
abbrev main_c_16 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_c_17 : Ref sig .tc := ⟨.hbm, 92, rfl⟩
abbrev main_v70 : Ref sig .tc := ⟨.hbm, 93, rfl⟩
abbrev main_c_18 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_c_19 : Ref sig .tc := ⟨.hbm, 101, rfl⟩
abbrev main_v77 : Ref sig .tc := ⟨.hbm, 102, rfl⟩
abbrev main_c_20 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_c_21 : Ref sig .tc := ⟨.hbm, 110, rfl⟩
abbrev main_v84 : Ref sig .tc := ⟨.hbm, 111, rfl⟩
abbrev main_c_22 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_c_23 : Ref sig .tc := ⟨.hbm, 119, rfl⟩
abbrev main_v91 : Ref sig .tc := ⟨.hbm, 120, rfl⟩
abbrev main_c_24 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_c_25 : Ref sig .tc := ⟨.hbm, 128, rfl⟩
abbrev main_v98 : Ref sig .tc := ⟨.hbm, 129, rfl⟩
abbrev main_c_26 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_c_27 : Ref sig .tc := ⟨.hbm, 137, rfl⟩
abbrev main_v105 : Ref sig .tc := ⟨.hbm, 138, rfl⟩
abbrev main_c_28 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_c_29 : Ref sig .tc := ⟨.hbm, 146, rfl⟩
abbrev main_v112 : Ref sig .tc := ⟨.hbm, 147, rfl⟩
abbrev main_c_30 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_c_31 : Ref sig .tc := ⟨.hbm, 155, rfl⟩
abbrev main_v119 : Ref sig .tc := ⟨.hbm, 156, rfl⟩
abbrev main_c_32 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_c_33 : Ref sig .tc := ⟨.hbm, 164, rfl⟩
abbrev main_v126 : Ref sig .tc := ⟨.hbm, 165, rfl⟩
abbrev main_c_34 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_c_35 : Ref sig .tc := ⟨.hbm, 173, rfl⟩
abbrev main_v133 : Ref sig .tc := ⟨.hbm, 174, rfl⟩
abbrev main_c_36 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_c_37 : Ref sig .tc := ⟨.hbm, 182, rfl⟩
abbrev main_v140 : Ref sig .tc := ⟨.hbm, 183, rfl⟩
abbrev main_c_38 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_c_39 : Ref sig .tc := ⟨.hbm, 191, rfl⟩
abbrev main_v147 : Ref sig .tc := ⟨.hbm, 192, rfl⟩
abbrev main_c_40 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_c_41 : Ref sig .tc := ⟨.hbm, 200, rfl⟩
abbrev main_v154 : Ref sig .tc := ⟨.hbm, 201, rfl⟩
abbrev main_c_42 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_c_43 : Ref sig .tc := ⟨.hbm, 209, rfl⟩
abbrev main_v161 : Ref sig .tc := ⟨.hbm, 210, rfl⟩
abbrev main_c_44 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_c_45 : Ref sig .tc := ⟨.hbm, 218, rfl⟩
abbrev main_v168 : Ref sig .tc := ⟨.hbm, 219, rfl⟩
abbrev main_c_46 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_c_47 : Ref sig .tc := ⟨.hbm, 227, rfl⟩
abbrev main_v175 : Ref sig .tc := ⟨.hbm, 228, rfl⟩
abbrev main_c_48 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_cst_49 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_c_50 : Ref sig .tc := ⟨.hbm, 241, rfl⟩
abbrev main_v186 : Ref sig .tc := ⟨.hbm, 242, rfl⟩
abbrev main_c_51 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_c_52 : Ref sig .tc := ⟨.hbm, 250, rfl⟩
abbrev main_v193 : Ref sig .tc := ⟨.hbm, 251, rfl⟩
abbrev main_c_53 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_c_54 : Ref sig .tc := ⟨.hbm, 259, rfl⟩
abbrev main_v200 : Ref sig .tc := ⟨.hbm, 260, rfl⟩
abbrev main_c_55 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_c_56 : Ref sig .tc := ⟨.hbm, 268, rfl⟩
abbrev main_v207 : Ref sig .tc := ⟨.hbm, 269, rfl⟩
abbrev main_c_57 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_c_58 : Ref sig .tc := ⟨.hbm, 277, rfl⟩
abbrev main_v214 : Ref sig .tc := ⟨.hbm, 278, rfl⟩
abbrev main_c_59 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_c_60 : Ref sig .tc := ⟨.hbm, 286, rfl⟩
abbrev main_v221 : Ref sig .tc := ⟨.hbm, 287, rfl⟩
abbrev main_c_61 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_c_62 : Ref sig .tc := ⟨.hbm, 295, rfl⟩
abbrev main_v228 : Ref sig .tc := ⟨.hbm, 296, rfl⟩
abbrev main_c_63 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_c_64 : Ref sig .tc := ⟨.hbm, 304, rfl⟩
abbrev main_v235 : Ref sig .tc := ⟨.hbm, 305, rfl⟩
abbrev main_c_65 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩
abbrev main_c_66 : Ref sig .tc := ⟨.hbm, 313, rfl⟩
abbrev main_v242 : Ref sig .tc := ⟨.hbm, 314, rfl⟩
abbrev main_c_67 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_v247 : Ref sig .tc := ⟨.hbm, 320, rfl⟩
abbrev main_v248 : Ref sig .tc := ⟨.hbm, 321, rfl⟩
abbrev main_c_68 : Ref sig .tc := ⟨.hbm, 322, rfl⟩
abbrev main_v249 : Ref sig .tc := ⟨.hbm, 323, rfl⟩
abbrev main_c_69 : Ref sig .tc := ⟨.hbm, 324, rfl⟩
abbrev main_v250 : Ref sig .tc := ⟨.hbm, 325, rfl⟩
abbrev main_v251 : Ref sig .tc := ⟨.hbm, 326, rfl⟩
abbrev main_v252 : Ref sig .tc := ⟨.hbm, 327, rfl⟩
abbrev main_v253 : Ref sig .tc := ⟨.hbm, 328, rfl⟩
abbrev main_v254 : Ref sig .tc := ⟨.hbm, 329, rfl⟩
abbrev main_v255 : Ref sig .tc := ⟨.hbm, 330, rfl⟩
abbrev main_c_70 : Ref sig .tc := ⟨.hbm, 331, rfl⟩
abbrev main_v256 : Ref sig .tc := ⟨.hbm, 332, rfl⟩
abbrev main_c_71 : Ref sig .tc := ⟨.hbm, 333, rfl⟩
abbrev main_v257 : Ref sig .tc := ⟨.hbm, 334, rfl⟩
abbrev main_v258 : Ref sig .tc := ⟨.hbm, 335, rfl⟩
abbrev main_v259 : Ref sig .tc := ⟨.hbm, 336, rfl⟩
abbrev main_v260 : Ref sig .tc := ⟨.hbm, 337, rfl⟩
abbrev main_v261 : Ref sig .tc := ⟨.hbm, 338, rfl⟩
abbrev main_v262 : Ref sig .tc := ⟨.hbm, 339, rfl⟩
abbrev main_c_72 : Ref sig .tc := ⟨.hbm, 340, rfl⟩
abbrev main_v263 : Ref sig .tc := ⟨.hbm, 341, rfl⟩
abbrev main_c_73 : Ref sig .tc := ⟨.hbm, 342, rfl⟩
abbrev main_v264 : Ref sig .tc := ⟨.hbm, 343, rfl⟩
abbrev main_v265 : Ref sig .tc := ⟨.hbm, 344, rfl⟩
abbrev main_v266 : Ref sig .tc := ⟨.hbm, 345, rfl⟩
abbrev main_v267 : Ref sig .tc := ⟨.hbm, 346, rfl⟩
abbrev main_v268 : Ref sig .tc := ⟨.hbm, 347, rfl⟩
abbrev main_v269 : Ref sig .tc := ⟨.hbm, 348, rfl⟩
abbrev main_c_74 : Ref sig .tc := ⟨.hbm, 349, rfl⟩
abbrev main_v270 : Ref sig .tc := ⟨.hbm, 350, rfl⟩
abbrev main_c_75 : Ref sig .tc := ⟨.hbm, 351, rfl⟩
abbrev main_v271 : Ref sig .tc := ⟨.hbm, 352, rfl⟩
abbrev main_v272 : Ref sig .tc := ⟨.hbm, 353, rfl⟩
abbrev main_v273 : Ref sig .tc := ⟨.hbm, 354, rfl⟩
abbrev main_v274 : Ref sig .tc := ⟨.hbm, 355, rfl⟩
abbrev main_v275 : Ref sig .tc := ⟨.hbm, 356, rfl⟩
abbrev main_v276 : Ref sig .tc := ⟨.hbm, 357, rfl⟩
abbrev main_c_76 : Ref sig .tc := ⟨.hbm, 358, rfl⟩
abbrev main_v277 : Ref sig .tc := ⟨.hbm, 359, rfl⟩
abbrev main_c_77 : Ref sig .tc := ⟨.hbm, 360, rfl⟩
abbrev main_v278 : Ref sig .tc := ⟨.hbm, 361, rfl⟩
abbrev main_v279 : Ref sig .tc := ⟨.hbm, 362, rfl⟩
abbrev main_v280 : Ref sig .tc := ⟨.hbm, 363, rfl⟩
abbrev main_v281 : Ref sig .tc := ⟨.hbm, 364, rfl⟩
abbrev main_v282 : Ref sig .tc := ⟨.hbm, 365, rfl⟩
abbrev main_v283 : Ref sig .tc := ⟨.hbm, 366, rfl⟩
abbrev main_c_78 : Ref sig .tc := ⟨.hbm, 367, rfl⟩
abbrev main_v284 : Ref sig .tc := ⟨.hbm, 368, rfl⟩
abbrev main_c_79 : Ref sig .tc := ⟨.hbm, 369, rfl⟩
abbrev main_v285 : Ref sig .tc := ⟨.hbm, 370, rfl⟩
abbrev main_v286 : Ref sig .tc := ⟨.hbm, 371, rfl⟩
abbrev main_v287 : Ref sig .tc := ⟨.hbm, 372, rfl⟩
abbrev main_v288 : Ref sig .tc := ⟨.hbm, 373, rfl⟩
abbrev main_v289 : Ref sig .tc := ⟨.hbm, 374, rfl⟩
abbrev main_v290 : Ref sig .tc := ⟨.hbm, 375, rfl⟩
abbrev main_c_80 : Ref sig .tc := ⟨.hbm, 376, rfl⟩
abbrev main_v291 : Ref sig .tc := ⟨.hbm, 377, rfl⟩
abbrev main_c_81 : Ref sig .tc := ⟨.hbm, 378, rfl⟩
abbrev main_v292 : Ref sig .tc := ⟨.hbm, 379, rfl⟩
abbrev main_v293 : Ref sig .tc := ⟨.hbm, 380, rfl⟩
abbrev main_v294 : Ref sig .tc := ⟨.hbm, 381, rfl⟩
abbrev main_v295 : Ref sig .tc := ⟨.hbm, 382, rfl⟩
abbrev main_v296 : Ref sig .tc := ⟨.hbm, 383, rfl⟩
abbrev main_v297 : Ref sig .tc := ⟨.hbm, 384, rfl⟩
abbrev main_c_82 : Ref sig .tc := ⟨.hbm, 385, rfl⟩
abbrev main_v298 : Ref sig .tc := ⟨.hbm, 386, rfl⟩
abbrev main_c_83 : Ref sig .tc := ⟨.hbm, 387, rfl⟩
abbrev main_v299 : Ref sig .tc := ⟨.hbm, 388, rfl⟩
abbrev main_v300 : Ref sig .tc := ⟨.hbm, 389, rfl⟩
abbrev main_v301 : Ref sig .tc := ⟨.hbm, 390, rfl⟩
abbrev main_v302 : Ref sig .tc := ⟨.hbm, 391, rfl⟩
abbrev main_v303 : Ref sig .tc := ⟨.hbm, 392, rfl⟩
abbrev main_v304 : Ref sig .tc := ⟨.hbm, 393, rfl⟩
abbrev main_c_84 : Ref sig .tc := ⟨.hbm, 394, rfl⟩
abbrev main_v305 : Ref sig .tc := ⟨.hbm, 395, rfl⟩
abbrev main_c_85 : Ref sig .tc := ⟨.hbm, 396, rfl⟩
abbrev main_v306 : Ref sig .tc := ⟨.hbm, 397, rfl⟩
abbrev main_v307 : Ref sig .tc := ⟨.hbm, 398, rfl⟩
abbrev main_v308 : Ref sig .tc := ⟨.hbm, 399, rfl⟩
abbrev main_v309 : Ref sig .tc := ⟨.hbm, 400, rfl⟩
abbrev main_v310 : Ref sig .tc := ⟨.hbm, 401, rfl⟩
abbrev main_v311 : Ref sig .tc := ⟨.hbm, 402, rfl⟩
abbrev main_c_86 : Ref sig .tc := ⟨.hbm, 403, rfl⟩
abbrev main_v312 : Ref sig .tc := ⟨.hbm, 404, rfl⟩
abbrev main_c_87 : Ref sig .tc := ⟨.hbm, 405, rfl⟩
abbrev main_v313 : Ref sig .tc := ⟨.hbm, 406, rfl⟩
abbrev main_v314 : Ref sig .tc := ⟨.hbm, 407, rfl⟩
abbrev main_v315 : Ref sig .tc := ⟨.hbm, 408, rfl⟩
abbrev main_v316 : Ref sig .tc := ⟨.hbm, 409, rfl⟩
abbrev main_v317 : Ref sig .tc := ⟨.hbm, 410, rfl⟩
abbrev main_v318 : Ref sig .tc := ⟨.hbm, 411, rfl⟩
abbrev main_c_88 : Ref sig .tc := ⟨.hbm, 412, rfl⟩
abbrev main_v319 : Ref sig .tc := ⟨.hbm, 413, rfl⟩
abbrev main_c_89 : Ref sig .tc := ⟨.hbm, 414, rfl⟩
abbrev main_v320 : Ref sig .tc := ⟨.hbm, 415, rfl⟩
abbrev main_v321 : Ref sig .tc := ⟨.hbm, 416, rfl⟩
abbrev main_v322 : Ref sig .tc := ⟨.hbm, 417, rfl⟩
abbrev main_v323 : Ref sig .tc := ⟨.hbm, 418, rfl⟩
abbrev main_v324 : Ref sig .tc := ⟨.hbm, 419, rfl⟩
abbrev main_v325 : Ref sig .tc := ⟨.hbm, 420, rfl⟩
abbrev main_c_90 : Ref sig .tc := ⟨.hbm, 421, rfl⟩
abbrev main_v326 : Ref sig .tc := ⟨.hbm, 422, rfl⟩
abbrev main_c_91 : Ref sig .tc := ⟨.hbm, 423, rfl⟩
abbrev main_v327 : Ref sig .tc := ⟨.hbm, 424, rfl⟩
abbrev main_v328 : Ref sig .tc := ⟨.hbm, 425, rfl⟩
abbrev main_v329 : Ref sig .tc := ⟨.hbm, 426, rfl⟩
abbrev main_v330 : Ref sig .tc := ⟨.hbm, 427, rfl⟩
abbrev main_v331 : Ref sig .tc := ⟨.hbm, 428, rfl⟩
abbrev main_v332 : Ref sig .tc := ⟨.hbm, 429, rfl⟩
abbrev main_c_92 : Ref sig .tc := ⟨.hbm, 430, rfl⟩
abbrev main_v333 : Ref sig .tc := ⟨.hbm, 431, rfl⟩
abbrev main_c_93 : Ref sig .tc := ⟨.hbm, 432, rfl⟩
abbrev main_v334 : Ref sig .tc := ⟨.hbm, 433, rfl⟩
abbrev main_v335 : Ref sig .tc := ⟨.hbm, 434, rfl⟩
abbrev main_v336 : Ref sig .tc := ⟨.hbm, 435, rfl⟩
abbrev main_v337 : Ref sig .tc := ⟨.hbm, 436, rfl⟩
abbrev main_v338 : Ref sig .tc := ⟨.hbm, 437, rfl⟩
abbrev main_v339 : Ref sig .tc := ⟨.hbm, 438, rfl⟩
abbrev main_c_94 : Ref sig .tc := ⟨.hbm, 439, rfl⟩
abbrev main_v340 : Ref sig .tc := ⟨.hbm, 440, rfl⟩
abbrev main_c_95 : Ref sig .tc := ⟨.hbm, 441, rfl⟩
abbrev main_v341 : Ref sig .tc := ⟨.hbm, 442, rfl⟩
abbrev main_v342 : Ref sig .tc := ⟨.hbm, 443, rfl⟩
abbrev main_v343 : Ref sig .tc := ⟨.hbm, 444, rfl⟩
abbrev main_v344 : Ref sig .tc := ⟨.hbm, 445, rfl⟩
abbrev main_v345 : Ref sig .tc := ⟨.hbm, 446, rfl⟩
abbrev main_v346 : Ref sig .tc := ⟨.hbm, 447, rfl⟩
abbrev main_c_96 : Ref sig .tc := ⟨.hbm, 448, rfl⟩
abbrev main_v347 : Ref sig .tc := ⟨.hbm, 449, rfl⟩
abbrev main_c_97 : Ref sig .tc := ⟨.hbm, 450, rfl⟩
abbrev main_v348 : Ref sig .tc := ⟨.hbm, 451, rfl⟩
abbrev main_v349 : Ref sig .tc := ⟨.hbm, 452, rfl⟩
abbrev main_v350 : Ref sig .tc := ⟨.hbm, 453, rfl⟩
abbrev main_v351 : Ref sig .tc := ⟨.hbm, 454, rfl⟩
abbrev main_v352 : Ref sig .tc := ⟨.hbm, 455, rfl⟩
abbrev main_v353 : Ref sig .tc := ⟨.hbm, 456, rfl⟩
abbrev main_c_98 : Ref sig .tc := ⟨.hbm, 457, rfl⟩
abbrev main_v354 : Ref sig .tc := ⟨.hbm, 458, rfl⟩
abbrev main_c_99 : Ref sig .tc := ⟨.hbm, 459, rfl⟩
abbrev main_v355 : Ref sig .tc := ⟨.hbm, 460, rfl⟩
abbrev main_v356 : Ref sig .tc := ⟨.hbm, 461, rfl⟩
abbrev main_v357 : Ref sig .tc := ⟨.hbm, 462, rfl⟩
abbrev main_v358 : Ref sig .tc := ⟨.hbm, 463, rfl⟩
abbrev main_v359 : Ref sig .tc := ⟨.hbm, 464, rfl⟩
abbrev main_v360 : Ref sig .tc := ⟨.hbm, 465, rfl⟩
abbrev main_v361 : Ref sig .tc := ⟨.hbm, 466, rfl⟩
abbrev main_cst_100 : Ref sig .tc := ⟨.hbm, 467, rfl⟩
abbrev main_v362 : Ref sig .tc := ⟨.hbm, 468, rfl⟩
abbrev main_v363 : Ref sig .tc := ⟨.hbm, 469, rfl⟩
abbrev main_cst_101 : Ref sig .tc := ⟨.hbm, 470, rfl⟩
abbrev main_v364 : Ref sig .tc := ⟨.hbm, 471, rfl⟩
abbrev main_v365 : Ref sig .tc := ⟨.hbm, 472, rfl⟩
abbrev main_v366 : Ref sig .tc := ⟨.hbm, 473, rfl⟩
abbrev main_c_102 : Ref sig .tc := ⟨.hbm, 474, rfl⟩
abbrev main_call0_v0 : Ref sig .tc := ⟨.hbm, 475, rfl⟩
abbrev main_v367 : Ref sig .tc := ⟨.hbm, 476, rfl⟩

abbrev nD : Nat := 1
abbrev τ : Topo := Topo.v7x

variable {F : FTy → Type} [FloatOps F]
-- ==== Proof.Nearest.lean ====
/- Which columns the kernel's threshold selects, as mathematics over the extended reals: the
   fourteen smallest lane minima are the fourteen nearest columns when those lie in fourteen
   different lanes. -/
module

public import Idealize.ShloMosaic.Lib.Pointwise

@[expose] public section

noncomputable section

namespace Cert.Knn

/-- The lane of a column: its position modulo 128. -/
def lane (c : Fin 8704) : Fin 128 := ⟨c.val % 128, Nat.mod_lt _ (by decide)⟩

/-- The smallest entry of `m`. -/
def least (m : Fin 128 → EReal) : EReal := Finset.univ.fold min ⊤ m

/-- The smallest entry of `m` strictly above `t` (`⊤` when there is none). -/
def above (m : Fin 128 → EReal) (t : EReal) : EReal := least fun l => if t < m l then m l else ⊤

/-- The threshold after `k` rounds: the `k`-th smallest distinct entry of `m`, counted from zero. -/
def tau (m : Fin 128 → EReal) : Nat → EReal
  | 0 => least m
  | k + 1 => above m (tau m k)

/-- `m` holds the minimum of the row `s` over each lane. -/
structure LaneMin (s : Fin 8704 → EReal) (m : Fin 128 → EReal) : Prop where
  le : ∀ c, m (lane c) ≤ s c
  ex : ∀ l, ∃ c, lane c = l ∧ m l = s c

/-- `t` lists the fourteen columns of the row `s` with the smallest entries, strictly increasing, no
    two in one lane, every other column strictly larger. -/
structure Nearest (s : Fin 8704 → EReal) (t : Fin 14 → Fin 8704) : Prop where
  mono : ∀ i j, i < j → s (t i) < s (t j)
  lanes : ∀ i j, i < j → lane (t i) ≠ lane (t j)
  rest : ∀ c, (∀ k, t k ≠ c) → s (t 13) < s c

variable {s : Fin 8704 → EReal} {m : Fin 128 → EReal} {t : Fin 14 → Fin 8704}

theorem Nearest.le_last (ht : Nearest s t) (k : Fin 14) : s (t k) ≤ s (t 13) := by
  rcases lt_or_eq_of_le (show k ≤ 13 from Nat.le_of_lt_succ k.isLt) with h | h
  · exact (ht.mono _ _ h).le
  · rw [h]

theorem Nearest.lt_iff (ht : Nearest s t) (i j : Fin 14) : s (t i) < s (t j) ↔ i < j := by
  refine ⟨fun h => ?_, ht.mono i j⟩
  rcases lt_trichotomy i j with h' | h' | h'
  · exact h'
  · rw [h'] at h; exact absurd h (lt_irrefl _)
  · exact absurd h (ht.mono _ _ h').not_gt

theorem Nearest.injective (ht : Nearest s t) : Function.Injective t := by
  intro i j h
  rcases lt_trichotomy i j with h' | h' | h'
  · have := ht.mono _ _ h'; rw [h] at this; exact absurd this (lt_irrefl _)
  · exact h'
  · have := ht.mono _ _ h'; rw [h] at this; exact absurd this (lt_irrefl _)

theorem Nearest.lane_injective (ht : Nearest s t) {i j : Fin 14} (h : lane (t i) = lane (t j)) : i = j := by
  rcases lt_trichotomy i j with h' | h' | h'
  · exact absurd h (ht.lanes _ _ h')
  · exact h'
  · exact absurd h.symm (ht.lanes _ _ h')

/-- The columns not above the fourteenth nearest are the fourteen. -/
theorem Nearest.le_last_iff (ht : Nearest s t) (c : Fin 8704) : s c ≤ s (t 13) ↔ ∃ k, t k = c := by
  constructor
  · intro h
    by_contra hc
    push Not at hc
    exact absurd h (ht.rest c hc).not_ge
  · rintro ⟨k, rfl⟩; exact ht.le_last k

/-- The minimum of a nearest column's lane is that column's entry. -/
theorem LaneMin.at_nearest (hm : LaneMin s m) (ht : Nearest s t) (k : Fin 14) : m (lane (t k)) = s (t k) := by
  obtain ⟨c, hl, hc⟩ := hm.ex (lane (t k))
  by_cases h : ∃ j, t j = c
  · obtain ⟨j, rfl⟩ := h
    rw [hc, ht.lane_injective hl]
  · push Not at h
    have h1 : s c ≤ s (t k) := hc ▸ hm.le (t k)
    exact absurd (h1.trans (ht.le_last k)) (ht.rest c h).not_ge

/-- A lane's minimum is a nearest column's entry or lies above all of them. -/
theorem LaneMin.cases (hm : LaneMin s m) (ht : Nearest s t) (l : Fin 128) :
    (∃ j, m l = s (t j)) ∨ s (t 13) < m l := by
  obtain ⟨c, -, hc⟩ := hm.ex l
  by_cases h : ∃ j, t j = c
  · obtain ⟨j, rfl⟩ := h; exact .inl ⟨j, hc⟩
  · push Not at h; exact .inr (hc ▸ ht.rest c h)

theorem le_least {m : Fin 128 → EReal} {x : EReal} : x ≤ least m ↔ ∀ l, x ≤ m l := by
  unfold least; rw [Finset.le_fold_min]; simp

theorem least_le (m : Fin 128 → EReal) (l : Fin 128) : least m ≤ m l := le_least.mp le_rfl l

/-- The `k`-th threshold is the `k`-th nearest column's entry. -/
theorem tau_eq (hm : LaneMin s m) (ht : Nearest s t) (k : Nat) : (hk : k < 14) → tau m k = s (t ⟨k, hk⟩) := by
  induction k with
  | zero =>
    intro hk
    refine le_antisymm ?_ (le_least.mpr fun l => ?_)
    · exact (least_le m (lane (t 0))).trans (hm.at_nearest ht 0).le
    · obtain ⟨c, -, hc⟩ := hm.ex l
      rw [hc]
      by_cases h : ∃ j, t j = c
      · obtain ⟨j, rfl⟩ := h
        rcases Nat.eq_zero_or_pos j.val with h | h
        · rw [show j = ⟨0, hk⟩ from Fin.ext h]
        · exact (ht.mono ⟨0, hk⟩ j h).le
      · push Not at h; exact ((ht.le_last _).trans_lt (ht.rest c h)).le
  | succ k ih =>
    intro hk
    have ih := ih (Nat.lt_of_succ_lt hk)
    change above m (tau m k) = _
    rw [ih]
    refine le_antisymm ?_ (le_least.mpr fun l => ?_)
    · refine (least_le _ (lane (t ⟨k + 1, hk⟩))).trans ?_
      rw [hm.at_nearest ht, if_pos (ht.mono _ _ (Nat.lt_succ_self k))]
    · split
      case isFalse => exact le_top
      case isTrue h =>
        rcases hm.cases ht l with ⟨j, hj⟩ | hj
        · rw [hj] at h ⊢
          have : k < j.val := (ht.lt_iff _ _).mp h
          rcases Nat.lt_or_eq_of_le (Nat.succ_le_of_lt this) with h' | h'
          · exact (ht.mono ⟨k + 1, hk⟩ j h').le
          · rw [show j = ⟨k + 1, hk⟩ from Fin.ext h'.symm]
        · exact (ht.le_last _).trans hj.le

/-- A sum over the columns not above the threshold is a sum over the fourteen nearest. -/
theorem sum_selected (ht : Nearest s t) (f : Fin 8704 → EReal) :
    ∑ c, (if s c ≤ s (t 13) then f c else 0) = ∑ k, f (t k) := by
  rw [← Finset.sum_filter]
  have : (Finset.univ.filter fun c => s c ≤ s (t 13)) = Finset.univ.map ⟨t, ht.injective⟩ := by
    ext c
    simp [ht.le_last_iff c]
  rw [this, Finset.sum_map]
  rfl

end Cert.Knn

end
-- ==== Proof.Softmax.lean ====
/- One output entry, as mathematics: the kernel's thresholded weights, normalised by their sum, give the
   softmax over the fourteen nearest patches that the reference takes. -/
module

public import proofs.«01_k».proof.Proof.Nearest

@[expose] public section

noncomputable section

namespace Cert.Knn

open Idealize.ShloMosaic

/-- The weight the kernel gives a column whose entry is `x`, under the lane minima `m`. -/
def weight (m : Fin 128 → EReal) (b x : EReal) : EReal :=
  if x ≤ tau m 13 then Ideal.exp (b * (tau m 0 - x)) else 0

/-- The kernel's output entry: the weighted sum of the column values `x`, times the patch weight divided by
    the weighted sum of `o`. -/
def kernelEntry (s x o : Fin 8704 → EReal) (m : Fin 128 → EReal) (b pw : EReal) : EReal :=
  (∑ c, weight m b (s c) * x c) * Ideal.div pw (∑ c, weight m b (s c) * o c)

/-- The scaled distances the reference's softmax is taken of, from the fourteen greatest values `v`. -/
def logit (b : EReal) (v : Fin 14 → EReal) (k : Fin 14) : EReal := -b * -v k

/-- The softmax's numerator. -/
def expo (b : EReal) (v : Fin 14 → EReal) (k : Fin 14) : EReal :=
  Ideal.exp (logit b v k - max ⊥ (Finset.univ.fold max ⊥ (logit b v)))

/-- The reference's output entry: the softmax-weighted sum of the nearest patches' values, times the patch
    weight. -/
def referenceEntry (v x : Fin 14 → EReal) (b pw : EReal) : EReal :=
  (∑ k, Ideal.div (expo b v k) (∑ j, expo b v j) * x k) * pw

theorem coe_sum {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- The maximum of finitely many reals, from `⊥`, is a real. -/
theorem fold_max_coe (f : Fin 14 → ℝ) : ∃ M : ℝ, Finset.univ.fold max ⊥ (fun k => ((f k : ℝ) : EReal)) = (M : EReal) := by
  have h1 : Finset.univ.fold max ⊥ (fun k => ((f k : ℝ) : EReal)) ≠ ⊤ :=
    ((Finset.fold_max_lt _).mpr ⟨bot_lt_top, fun k _ => EReal.coe_lt_top _⟩).ne
  have h2 : (⊥ : EReal) < Finset.univ.fold max ⊥ (fun k => ((f k : ℝ) : EReal)) :=
    (Finset.lt_fold_max _).mpr (.inr ⟨0, Finset.mem_univ _, EReal.bot_lt_coe (f 0)⟩)
  exact ⟨_, (EReal.coe_toReal h1 h2.ne').symm⟩

/-- A sum under the kernel's weights: only the fourteen nearest columns carry weight. -/
theorem sum_weight {s : Fin 8704 → EReal} {m : Fin 128 → EReal} {t : Fin 14 → Fin 8704}
    (hm : LaneMin s m) (ht : Nearest s t) {σ : Fin 14 → ℝ} {β : ℝ} (hs : ∀ k, s (t k) = (σ k : EReal)) (y : Fin 8704 → EReal) :
    ∑ c, weight m (β : EReal) (s c) * y c = ∑ k, ((Real.exp (β * (σ 0 - σ k)) : ℝ) : EReal) * y (t k) := by
  have h0 : tau m 0 = (σ 0 : EReal) := (tau_eq hm ht 0 (by decide)).trans (hs 0)
  have h13 : tau m 13 = s (t 13) := tau_eq hm ht 13 (by decide)
  have := sum_selected ht fun c => Ideal.exp (β * (σ 0 - s c)) * y c
  simp only [hs, ← EReal.coe_sub, ← EReal.coe_mul, Ideal.exp_coe] at this
  rw [← this]
  refine Finset.sum_congr rfl fun c _ => ?_
  unfold weight
  rw [h13, h0, hs]
  split <;> simp

theorem sum_exp_pos (σ : Fin 14 → ℝ) (β : ℝ) : (0 : ℝ) < ∑ k, Real.exp (β * (σ 0 - σ k)) :=
  Finset.sum_pos (fun k _ => Real.exp_pos _) ⟨0, Finset.mem_univ _⟩

/-- The kernel's entry over the reals. -/
theorem kernelEntry_eq {s x o : Fin 8704 → EReal} {m : Fin 128 → EReal} {t : Fin 14 → Fin 8704}
    (hm : LaneMin s m) (ht : Nearest s t) {σ ξ : Fin 14 → ℝ} {β : ℝ} {pw : EReal}
    (hs : ∀ k, s (t k) = (σ k : EReal)) (hx : ∀ k, x (t k) = (ξ k : EReal)) (ho : ∀ k, o (t k) = 1) :
    kernelEntry s x o m (β : EReal) pw
      = ((∑ k, Real.exp (β * (σ 0 - σ k)) * ξ k : ℝ) : EReal)
        * (pw * (((∑ k, Real.exp (β * (σ 0 - σ k)))⁻¹ : ℝ) : EReal)) := by
  unfold kernelEntry
  rw [sum_weight hm ht hs, sum_weight hm ht hs]
  simp only [hx, ho, mul_one, ← EReal.coe_mul, coe_sum]
  rw [Ideal.div_coe (sum_exp_pos σ β).ne', one_div]

/-- Under a zero patch weight the kernel's entry is zero, whatever the columns hold. -/
theorem kernelEntry_zero {s x o : Fin 8704 → EReal} {m : Fin 128 → EReal} {t : Fin 14 → Fin 8704}
    (hm : LaneMin s m) (ht : Nearest s t) {σ : Fin 14 → ℝ} {β : ℝ}
    (hs : ∀ k, s (t k) = (σ k : EReal)) (ho : ∀ k, o (t k) = 1) : kernelEntry s x o m (β : EReal) 0 = 0 := by
  unfold kernelEntry
  rw [sum_weight hm ht hs o]
  simp only [ho, mul_one, coe_sum]
  rw [Ideal.div_coe (sum_exp_pos σ β).ne', zero_mul, mul_zero]

/-- The reference's entry over the reals: the common factor of the softmax cancels. -/
theorem referenceEntry_eq {v x : Fin 14 → EReal} {σ ξ : Fin 14 → ℝ} {q β : ℝ} {pw : EReal}
    (hv : ∀ k, v k = -(((q + σ k : ℝ)) : EReal)) (hx : ∀ k, x k = (ξ k : EReal)) :
    referenceEntry v x (β : EReal) pw
      = ((∑ k, Real.exp (β * (σ 0 - σ k)) * ξ k : ℝ) : EReal)
        * (pw * (((∑ k, Real.exp (β * (σ 0 - σ k)))⁻¹ : ℝ) : EReal)) := by
  have hl : logit (β : EReal) v = fun k => ((-β * (q + σ k) : ℝ) : EReal) := by
    funext k
    unfold logit
    rw [hv, neg_neg, ← EReal.coe_neg, ← EReal.coe_mul]
  obtain ⟨M, hM⟩ := fold_max_coe fun k => -β * (q + σ k)
  have he : ∀ k, expo (β : EReal) v k
      = ((Real.exp (-β * (q + σ 0) - M) * Real.exp (β * (σ 0 - σ k)) : ℝ) : EReal) := by
    intro k
    unfold expo
    rw [hl, hM, max_eq_right bot_le, ← EReal.coe_sub, Ideal.exp_coe, ← Real.exp_add]
    congr 2
    ring
  have hpos : (0 : ℝ) < ∑ k, Real.exp (β * (σ 0 - σ k)) :=
    Finset.sum_pos (fun k _ => Real.exp_pos _) ⟨0, Finset.mem_univ _⟩
  have hA : Real.exp (-β * (q + σ 0) - M) ≠ 0 := (Real.exp_pos _).ne'
  unfold referenceEntry
  simp only [he, coe_sum, hx, ← Finset.mul_sum]
  have hne := mul_ne_zero hA hpos.ne'
  simp only [Ideal.div_coe hne, ← EReal.coe_mul, coe_sum]
  rw [mul_comm pw, ← mul_assoc, ← EReal.coe_mul]
  congr 2
  rw [Finset.sum_mul]
  refine Finset.sum_congr rfl fun k _ => ?_
  field_simp

/-- The two entries agree. -/
theorem entry_eq {s x o : Fin 8704 → EReal} {m : Fin 128 → EReal} {t : Fin 14 → Fin 8704} {v y : Fin 14 → EReal}
    (hm : LaneMin s m) (ht : Nearest s t) {σ ξ : Fin 14 → ℝ} {q β : ℝ} {pw : EReal}
    (hs : ∀ k, s (t k) = (σ k : EReal)) (hx : ∀ k, x (t k) = (ξ k : EReal)) (ho : ∀ k, o (t k) = 1)
    (hv : ∀ k, v k = -(((q + σ k : ℝ)) : EReal)) (hy : ∀ k, y k = (ξ k : EReal)) :
    kernelEntry s x o m (β : EReal) pw = referenceEntry v y (β : EReal) pw :=
  (kernelEntry_eq hm ht hs hx ho).trans (referenceEntry_eq hv hy).symm

end Cert.Knn

end
-- ==== Proof.Tile.lean ====
/- What one grid point computes from the values it has loaded: the distances of a tile's rows to every
   column, the lane minima, the threshold and the weighted sums, read at one index. -/
module

public import proofs.«01_k».proof.Proof.Softmax
public import proofs.«01_k».proof.Proof.Gen.KernelIdeal.Skeleton

@[expose] public section

set_option maxRecDepth 16384

noncomputable section

namespace Cert.Knn

open Idealize.ShloMosaic Cert.KernelIdeal Cert.KernelIdeal.Gen

/-- The slice of the lane block `k`. -/
theorem slices_block (k : Nat) (hk : k < 68) : S256x8704.Slices ![0, 128 * k] S256x128 := by
  refine ⟨rfl, fun a => ?_⟩
  fin_cases a
  · simp
  · simp; omega

/-- The running minima over the lane blocks. -/
def mins (s : FVec Ideal S256x8704 .f32) : (n : Nat) → n < 68 → FVec Ideal S256x128 .f32
  | 0, h => extractStridedSlice S256x128 ![0, 128 * 0] s (slices_block 0 h)
  | n + 1, h => minimumf (mins s n (Nat.lt_of_succ_lt h))
      (extractStridedSlice S256x128 ![0, 128 * (n + 1)] s (slices_block (n + 1) h))

/-- One round: the entries above the least of the candidates `v`, `⊤` elsewhere. -/
def cut (m v : FVec Ideal S256x128 .f32) : FVec Ideal S256x128 .f32 :=
  select (cmpf .ogt m (broadcastTo S256x128 (shapeCast S256x1
    (multiReduction .minimumf [1] S256 v 0x7F800000#32 reduces_S256x128_S256 (.inl rfl) rfl)
    shapeCasts_S256_S256x1) broadcasts_S256x1_S256x128)) m (broadcast S256x128 (Scalar.ofBits (F := Ideal) .f32 0x7F800000#32))

/-- The lane minima a grid point computes are those of all 68 blocks. -/
theorem mins_eq (v10 : Vec Ideal S256x128 .bf16) (v16 : Vec Ideal S128x8704 .bf16) (v18 : Vec Ideal S1x8704 .bf16) :
    k0_pay84 (k0_pay79 v10 v16 v18) (k0_pay82 (k0_pay79 v10 v16 v18) (k0_pay80 v10 v16 v18) (k0_pay81 v10 v16 v18))
      (k0_pay83 (k0_pay79 v10 v16 v18)) = mins (k0_pay79 v10 v16 v18) 67 (by decide) := rfl

/-- Two of the kernel's lines make the first eight passes over the lane minima. -/
theorem pay87_eq (m : FVec Ideal S256x128 .f32) (s : FVec Ideal S256x8704 .f32) (a b : FVec Ideal S256x128 .f32)
    (hm : k0_pay84 s a b = m) : k0_pay87 m (k0_pay86 s a b) = (cut m)^[7] (cut m m) := by
  subst hm
  rfl

theorem ofBits_inf : Ideal.ofBits .f32 0x7F800000#32 = ⊤ := by simp [Ideal.ofBits, Ideal.ieee]

/-- A round at an index. -/
theorem cut_apply (m v : FVec Ideal S256x128 .f32) (i : Fin 256) (l : Fin 128) :
    cut m v (ix2 i l) = if least (fun l' => v (ix2 i l')) < m (ix2 i l) then m (ix2 i l) else ⊤ := by
  unfold cut least
  pointwise
  simp only [ofBits_inf]

/-- The candidates of round `k` of the row `i`. -/
def cands (m : Fin 128 → EReal) (k : Nat) (l : Fin 128) : EReal := if tau m k < m l then m l else ⊤

theorem least_cands (m : Fin 128 → EReal) (k : Nat) : least (cands m k) = tau m (k + 1) := rfl

/-- The candidates after `n` further rounds. -/
theorem cut_iterate (m v : FVec Ideal S256x128 .f32) (i : Fin 256) (k : Nat)
    (hv : ∀ l, v (ix2 i l) = cands (fun l => m (ix2 i l)) k l) (n : Nat) :
    ∀ l, (cut m)^[n] v (ix2 i l) = cands (fun l => m (ix2 i l)) (k + n) l := by
  induction n with
  | zero => exact hv
  | succ n ih =>
    intro l
    rw [Function.iterate_succ_apply', cut_apply, funext ih, least_cands]
    rfl

/-- The first candidates, cut by the least entry. -/
theorem cut_first (m : FVec Ideal S256x128 .f32) (i : Fin 256) (l : Fin 128) :
    cut m m (ix2 i l) = cands (fun l => m (ix2 i l)) 0 l := cut_apply m m i l

/-- The block of outputs a grid point computes from its loads: the row tile, the transposed patches, their row
    of squared norms, the scale, the patch weights and all patches. -/
def tileOut (v10 : Vec Ideal S256x128 .bf16) (v16 : Vec Ideal S128x8704 .bf16) (v18 : Vec Ideal S1x8704 .bf16)
    (v3 : Vec Ideal S1x1 .f32) (v5 : Vec Ideal S1x128 .f32) (v247 : Vec Ideal S8704x128 .bf16) :
    FVec Ideal S128x256 .f32 :=
  have v21 := k0_pay79 v10 v16 v18
  have v100 := k0_pay82 v21 (k0_pay80 v10 v16 v18) (k0_pay81 v10 v16 v18)
  have v101 := k0_pay83 v21
  have v156 := k0_pay84 v21 v100 v101
  have v158 := k0_pay85 v21 v100 v101
  have v204 := k0_pay87 v156 (k0_pay86 v21 v100 v101)
  k0_pay1 (k0_pay78 v5) (k0_pay88 (k0_pay77 v3) v21 v156 v158 v204 v247) (k0_pay89 (k0_pay77 v3) v21 v156 v158 v204 v247)

/-- The least lane minimum of each row. -/
def leastCol (v : FVec Ideal S256x128 .f32) : FVec Ideal S256x1 .f32 :=
  shapeCast S256x1 (multiReduction .minimumf [1] S256 v 0x7F800000#32 reduces_S256x128_S256 (.inl rfl) rfl) shapeCasts_S256_S256x1

theorem leastCol_apply (v : FVec Ideal S256x128 .f32) (i : Fin 256) (z : Fin 1) :
    leastCol v (ix2 i z) = least fun l => v (ix2 i l) := by
  unfold leastCol least
  pointwise
  simp only [ofBits_inf]

/-- The weighted sums, from the threshold column. -/
def weigh (b : FVec Ideal S1x1 .f32) (s : FVec Ideal S256x8704 .f32) (m1 thr : FVec Ideal S256x1 .f32)
    (p : Vec Ideal S8704x128 .bf16) : FVec Ideal S256x128 .f32 :=
  matmul dot_S256x8704_S8704x128_S256x128_1_0_0_1_n_n none
    (truncf .bf16 (select (cmpf .ole s (broadcastTo S256x8704 thr broadcasts_S256x1_S256x8704))
      (exp (mulf (broadcastTo S256x8704 b broadcasts_S1x1_S256x8704) (subf (broadcastTo S256x8704 m1 broadcasts_S256x1_S256x8704) s)))
      (broadcast S256x8704 (Scalar.ofBits (F := Ideal) .f32 0x00000000#32))) bitsLt_bf16_f32)
    (φ₂ := .bf16) (shapeCast (α := Ideal .bf16) S8704x128 p shapeCasts_S8704x128_S8704x128) (constant S256x128 .f32 0x00000000#32)

theorem pay88_eq (b : FVec Ideal S1x1 .f32) (s : FVec Ideal S256x8704 .f32) (m : FVec Ideal S256x128 .f32)
    (m1 : FVec Ideal S256x1 .f32) (v : FVec Ideal S256x128 .f32) (p : Vec Ideal S8704x128 .bf16) :
    k0_pay88 b s m m1 v p = weigh b s m1 (leastCol ((cut m)^[5] v)) p := rfl

theorem weigh_apply (b : FVec Ideal S1x1 .f32) (s : FVec Ideal S256x8704 .f32) (m1 thr : FVec Ideal S256x1 .f32)
    (p : Vec Ideal S8704x128 .bf16) (i : Fin 256) (e : Fin 128) :
    weigh b s m1 thr p (ix2 i e) = ∑ c : Fin 8704,
      (if s (ix2 i c) ≤ thr (ix2 i 0) then Ideal.exp (b (ix2 0 0) * (m1 (ix2 i 0) - s (ix2 i c))) else 0) * p (ix2 c e) := by
  unfold weigh
  pointwise

/-- The entries of a grid point's block. -/
theorem tileOut_apply (v10 : Vec Ideal S256x128 .bf16) (v16 : Vec Ideal S128x8704 .bf16) (v18 : Vec Ideal S1x8704 .bf16)
    (v3 : Vec Ideal S1x1 .f32) (v5 : Vec Ideal S1x128 .f32) (v247 : Vec Ideal S8704x128 .bf16)
    (e : Fin 128) (i : Fin 256) :
    tileOut v10 v16 v18 v3 v5 v247 (ix2 e i)
      = kernelEntry (fun c => k0_pay79 v10 v16 v18 (ix2 i c)) (fun c => v247 (ix2 c e)) (fun c => v247 (ix2 c 127))
          (fun l => mins (k0_pay79 v10 v16 v18) 67 (by decide) (ix2 i l)) (v3 (ix2 0 0)) (v5 (ix2 0 e)) := by
  have hthr : ∀ m : FVec Ideal S256x128 .f32,
      leastCol ((cut m)^[5] ((cut m)^[7] (cut m m))) (ix2 i 0) = tau (fun l => m (ix2 i l)) 13 := by
    intro m
    rw [leastCol_apply, ← Function.iterate_add_apply,
      funext (cut_iterate m (cut m m) i 0 (cut_first m i) (5 + 7)), least_cands]
  have hw : ∀ (m : FVec Ideal S256x128 .f32) (s : FVec Ideal S256x8704 .f32) (f : Fin 128),
      weigh (k0_pay77 v3) s (leastCol m) (leastCol ((cut m)^[5] ((cut m)^[7] (cut m m)))) v247 (ix2 i f)
        = ∑ c, weight (fun l => m (ix2 i l)) (v3 (ix2 0 0)) (s (ix2 i c)) * v247 (ix2 c f) := by
    intro m s f
    rw [weigh_apply, hthr, leastCol_apply]
    unfold k0_pay77
    rw [shapeCast_self]
    rfl
  have e : tileOut v10 v16 v18 v3 v5 v247
      = let s := k0_pay79 v10 v16 v18
        let m := mins s 67 (by decide)
        let d := weigh (k0_pay77 v3) s (leastCol m) (leastCol ((cut m)^[5] ((cut m)^[7] (cut m m)))) v247
        k0_pay1 (k0_pay78 v5) d (extractStridedSlice S256x1 ![0, 127] d slices_S256x128_o0_127_S256x1) := by
    unfold tileOut
    dsimp only
    rw [pay87_eq _ _ _ _ rfl, pay88_eq, mins_eq]
    rfl
  rw [e]
  dsimp only
  unfold k0_pay1 k0_pay78 kernelEntry
  pointwise
  rw [hw, hw]

/-- A distance: the product with the transposed patches plus the column's squared norm. -/
def distEntry (q x : Fin 128 → EReal) (n : EReal) : EReal :=
  (∑ l : Fin 128, if l.val < 75 then q l * ((-2 : ℝ) : EReal) * x l else 0) + n

theorem ofBits_neg_two : Ideal.ofBits .bf16 0xC000#16 = ((-2 : ℝ) : EReal) := by
  simp [Ideal.ofBits, Ideal.ieee, -EReal.coe_mul, -EReal.coe_neg]; norm_num

theorem slt_75 : ∀ x : Fin 128, IntOp.cmpi .slt (BitVec.ofNat 32 x.val) 75#32 = if x.val < 75 then 1#1 else 0#1 := by
  decide

theorem dist_apply (v10 : Vec Ideal S256x128 .bf16) (v16 : Vec Ideal S128x8704 .bf16) (v18 : Vec Ideal S1x8704 .bf16)
    (i : Fin 256) (c : Fin 8704) :
    k0_pay79 v10 v16 v18 (ix2 i c) = distEntry (fun l => v10 (ix2 i l)) (fun l => v16 (ix2 l c)) (v18 (ix2 0 c)) := by
  unfold k0_pay79
  pointwise
  unfold distEntry
  simp only [ofBits_neg_two, slt_75]
  congr 1

/-- A lane block's entry. -/
theorem block_apply (s : FVec Ideal S256x8704 .f32) (n : Nat) (h : n < 68) (i : Fin 256) (l : Fin 128) :
    extractStridedSlice S256x128 ![0, 128 * n] s (slices_block n h) (ix2 i l) = s (ix2 i ⟨128 * n + l, by omega⟩) := by
  pointwise

theorem mins_succ_apply (s : FVec Ideal S256x8704 .f32) (n : Nat) (h : n + 1 < 68) (i : Fin 256) (l : Fin 128) :
    mins s (n + 1) h (ix2 i l)
      = min (mins s n (Nat.lt_of_succ_lt h) (ix2 i l)) (s (ix2 i ⟨128 * (n + 1) + l, by omega⟩)) := by
  rw [← block_apply s (n + 1) h i l]
  rfl

/-- The running minimum is below every block seen. -/
theorem mins_le (s : FVec Ideal S256x8704 .f32) (i : Fin 256) (l : Fin 128) (n : Nat) (h : n < 68) (k : Nat)
    (hk : k ≤ n) : mins s n h (ix2 i l) ≤ s (ix2 i ⟨128 * k + l, by omega⟩) := by
  induction n with
  | zero =>
    obtain rfl : k = 0 := Nat.le_zero.mp hk
    exact (block_apply s 0 h i l).le
  | succ n ih =>
    rw [mins_succ_apply]
    rcases Nat.lt_or_eq_of_le hk with hk | rfl
    · exact (min_le_left _ _).trans (ih _ (Nat.le_of_lt_succ hk))
    · exact min_le_right _ _

/-- The running minimum is one of the blocks' entries. -/
theorem mins_mem (s : FVec Ideal S256x8704 .f32) (i : Fin 256) (l : Fin 128) (n : Nat) (h : n < 68) :
    ∃ (k : Nat) (hk : k < 68), mins s n h (ix2 i l) = s (ix2 i ⟨128 * k + l, by omega⟩) := by
  induction n with
  | zero => exact ⟨0, h, block_apply s 0 h i l⟩
  | succ n ih =>
    rw [mins_succ_apply]
    rcases min_choice (mins s n (Nat.lt_of_succ_lt h) (ix2 i l)) (s (ix2 i ⟨128 * (n + 1) + l, by omega⟩)) with e | e
    · rw [e]; exact ih _
    · rw [e]; exact ⟨n + 1, h, rfl⟩

/-- The minima over the 68 blocks are the lane minima of the row. -/
theorem mins_laneMin (s : FVec Ideal S256x8704 .f32) (i : Fin 256) :
    LaneMin (fun c => s (ix2 i c)) fun l => mins s 67 (by decide) (ix2 i l) where
  le c := by
    have h := mins_le s i (lane c) 67 (by decide) (c.val / 128) (by omega)
    rwa [show (⟨128 * (c.val / 128) + (lane c).val, _⟩ : Fin 8704) = c from Fin.ext (Nat.div_add_mod c.val 128)] at h
  ex l := by
    obtain ⟨k, hk, e⟩ := mins_mem s i l 67 (by decide)
    refine ⟨⟨128 * k + l, by omega⟩, Fin.ext ?_, e⟩
    show (128 * k + l.val) % 128 = l.val
    omega

end Cert.Knn

end
-- ==== Proof.Select.Windows.lean ====
/- The first call, the distances and the selection: its windows, its scratch and its branch condition. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the first call finds -/

/-- Core `c`'s TensorCore buffers when the first call is entered, after the seven stretches of host lines. -/
abbrev V (c : Dev nD) (b : Ref sig .tc) : Buf (Elt F) ((c : Thread nD τ).loc b) := V7 m c b

/-- The scoped buffers that are neither staging buffers of the first call nor its scratch. -/
abbrev others0 (c : Dev nD) : sProp 𝕄 :=
  Pipeline.scopedRestBut (Ix := Unit) (Name := ℕ) (U := UR sig nD τ) (Lvl := ℕ) (Val := Elt F) spec0 c [cc0_scratch0]

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s (`hA`) and whose body leaves the block in place (`hafter`). Where it
    is not fetched, the block has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s (`hA`) and whose body leaves the block in place (`hafter`). Where it
    is not fetched, the block has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s (`hA`) and whose body leaves the block in place (`hafter`). Where it
    is not fetched, the block has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s (`hA`) and whose body leaves the block in place (`hafter`). Where it
    is not fetched, the block has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 34 = 0 :=
  (fun t => by
    have ht : t.val < 34 := Nat.lt_of_lt_of_eq t.isLt N_0
    have e0 : (grid0.coords t 0).val = t.val / 1 % 34 := Pipeline.Grid.coords_val t 0 (by decide) rfl
    simp only [cond0_0, e0]
    word_cmp
   : ∀ t : Fin grid0.N, cond0_0 (grid0.coords t) ↔ t.val % 34 = 0)

/-! ## The kernel body on any staging memrefs -/

/-- One staging buffer of output window 4, through which its contents are stated (`View.read_writes_of_cover`: the
    choice does not matter). -/
abbrev VO0_4 : View sig .tc .vmem S128x256 .f32 := (Memref.whole cc0_stg4_0 : Memref sig .tc .vmem S128x256 .f32).view
/-- Each window's current staging memref at point `t`, spelled as the pipeline passes it (`bodyAt0`), and its wholeness. -/
abbrev ms0_0 (t : Fin cfg0.N) : Memref sig .tc .vmem S256x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8704x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x256 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S128x8704 .bf16 := Memref.whole cc0_scratch0
/-- The scratch `arg6` the kernel carries between points, as a view: what it holds is stated through it. -/
abbrev VS0_0 : View sig .tc .vmem S128x8704 .bf16 := scM0_0.view

/-- The first call's invariant with its scratch as a memref owned at some contents. -/
theorem PhiA0_eq (c : Dev nD) : (Pipeline.ΦA spec0 c : sProp 𝕄)
    = iprop(iprop((∃ d, owns (c : Thread nD τ) scM0_0 fullShare d) ∗ others0 c) ∗ (∃ r, prngReg c r)) := by
  unfold Pipeline.ΦA
  rw [Pipeline.scopedRest_split_of_list spec0 c [cc0_scratch0] (by decide) (by decide)]
  simp only [scM0_0, owns_whole]
  rfl

end Cert.KernelIdeal.Gen

end
-- ==== Proof.Select.First.lean ====
/- The body of the first call at its first grid point, which fills the scratch. -/
module

public import proofs.«01_k».proof.Proof.Select.Windows

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- The run is long, so the definition takes more steps than the default allows.
set_option maxHeartbeats 1340000 in
/-- What the body's stores leave in each output's staging memref, as pieces (last first), at the first point, where the branch is taken, with the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written.
    The branch is decided by the hypothesis `hc0`; the pieces are the ones the run itself produces. -/
noncomputable def kernelRun0_A (c : Dev nD) (i : grid0.Coords) (arg1 : Memref sig .tc .vmem S256x128 .bf16) (harg1 : arg1.IsWhole) (arg2 : Memref sig .tc .vmem S8704x128 .bf16) (harg2 : arg2.IsWhole) (arg3 : Memref sig .tc .vmem S8x128 .f32) (harg3 : arg3.IsWhole) (arg4 : Memref sig .tc .vmem S8x128 .f32) (harg4 : arg4.IsWhole) (arg5 : Memref sig .tc .vmem S128x256 .f32) (harg5 : arg5.IsWhole) (arg6 : Memref sig .tc .vmem S128x8704 .bf16) (harg6 : arg6.IsWhole) (hc0 : cond0_0 i)
    (x0 : Vec F S256x128 .bf16) (x1 : Vec F S8704x128 .bf16) (x2 : Vec F S8x128 .f32) (x3 : Vec F S8x128 .f32) :
    Σ' (L4 : List (View.Piece (Elt F) S128x256 .f32)), { LS0 : List (View.Piece (Elt F) S128x8704 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0__knn_agg_body i arg1 harg1 arg2 harg2 arg3 harg3 arg4 harg4 arg5 harg5 arg6 harg6) K } := by
  refine ⟨?_, ?_, fun E K => ?run⟩
  case run =>
    simp only [cc0__knn_agg_body_eq_skeleton]; unfold cc0__knn_agg_body_skel
    simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.KernelIdeal.Gen

end
-- ==== Proof.Select.Later.lean ====
/- The body of the first call at a later grid point, which reads the scratch. -/
module

public import proofs.«01_k».proof.Proof.Select.First

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- The run is long, so the definition takes more steps than the default allows.
set_option maxHeartbeats 1000000 in
/-- What the body's stores leave in each output's staging memref, as pieces (last first), at a later point, where the branch is not taken, with the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written.
    The branch is decided by the hypothesis `hc0`; the pieces are the ones the run itself produces. -/
noncomputable def kernelRun0_B (c : Dev nD) (i : grid0.Coords) (arg1 : Memref sig .tc .vmem S256x128 .bf16) (harg1 : arg1.IsWhole) (arg2 : Memref sig .tc .vmem S8704x128 .bf16) (harg2 : arg2.IsWhole) (arg3 : Memref sig .tc .vmem S8x128 .f32) (harg3 : arg3.IsWhole) (arg4 : Memref sig .tc .vmem S8x128 .f32) (harg4 : arg4.IsWhole) (arg5 : Memref sig .tc .vmem S128x256 .f32) (harg5 : arg5.IsWhole) (arg6 : Memref sig .tc .vmem S128x8704 .bf16) (harg6 : arg6.IsWhole) (hc0 : ¬cond0_0 i)
    (x0 : Vec F S256x128 .bf16) (x1 : Vec F S8704x128 .bf16) (x2 : Vec F S8x128 .f32) (x3 : Vec F S8x128 .f32) (xs0 : Vec F S128x8704 .bf16) :
    Σ' (L4 : List (View.Piece (Elt F) S128x256 .f32)), { LS0 : List (View.Piece (Elt F) S128x8704 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0) -∗ K ⟨⟩))
          ⊢ wp frame (wpE (defs₀ (F := F)) Variants.none c none) E (cc0__knn_agg_body i arg1 harg1 arg2 harg2 arg3 harg3 arg4 harg4 arg5 harg5 arg6 harg6) K } := by
  refine ⟨?_, [], fun E K => ?run⟩
  case run =>
    simp only [cc0__knn_agg_body_eq_skeleton]; unfold cc0__knn_agg_body_skel
    simp only [k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS0

end Cert.KernelIdeal.Gen

end
-- ==== Proof.Select.Sweep.lean ====
/- The first call over its whole grid: what each point leaves, and that every body runs. -/
module

public import proofs.«01_k».proof.Proof.Select.Later

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for output 4 tile its block (1 store of `S128x256`), so they cover it. -/
theorem cover0_A_4 (c : Dev nD) (i : grid0.Coords) (arg1 : Memref sig .tc .vmem S256x128 .bf16) (harg1 : arg1.IsWhole) (arg2 : Memref sig .tc .vmem S8704x128 .bf16) (harg2 : arg2.IsWhole) (arg3 : Memref sig .tc .vmem S8x128 .f32) (harg3 : arg3.IsWhole) (arg4 : Memref sig .tc .vmem S8x128 .f32) (harg4 : arg4.IsWhole) (arg5 : Memref sig .tc .vmem S128x256 .f32) (harg5 : arg5.IsWhole) (arg6 : Memref sig .tc .vmem S128x8704 .bf16) (harg6 : arg6.IsWhole) (hc0 : cond0_0 i)
    (x0 : Vec F S256x128 .bf16) (x1 : Vec F S8704x128 .bf16) (x2 : Vec F S8x128 .f32) (x3 : Vec F S8x128 .f32) (y : S128x256.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S128x256.size (by sl_kernel_rfl) y

/-- What case A leaves in output 4's staging buffer: its pieces read back over arbitrary contents. -/
def out0_A_4 (c : Dev nD) (i : grid0.Coords) (arg1 : Memref sig .tc .vmem S256x128 .bf16) (harg1 : arg1.IsWhole) (arg2 : Memref sig .tc .vmem S8704x128 .bf16) (harg2 : arg2.IsWhole) (arg3 : Memref sig .tc .vmem S8x128 .f32) (harg3 : arg3.IsWhole) (arg4 : Memref sig .tc .vmem S8x128 .f32) (harg4 : arg4.IsWhole) (arg5 : Memref sig .tc .vmem S128x256 .f32) (harg5 : arg5.IsWhole) (arg6 : Memref sig .tc .vmem S128x8704 .bf16) (harg6 : arg6.IsWhole) (hc0 : cond0_0 i)
    (x0 : Vec F S256x128 .bf16) (x1 : Vec F S8704x128 .bf16) (x2 : Vec F S8x128 .f32) (x3 : Vec F S8x128 .f32) : Vec F S128x256 .f32 :=
  VO0_4.read (Elt F) (VO0_4.writes (Elt F) VO0_4.junk (kernelRun0_A c i arg1 harg1 arg2 harg2 arg3 harg3 arg4 harg4 arg5 harg5 arg6 harg6 hc0 x0 x1 x2 x3).1)

/-- Case A's pieces for scratch `arg6`, which the kernel carries between points, cover it: 68 pieces of `S128x128` tiling it. -/
theorem scover0_A_0 (c : Dev nD) (i : grid0.Coords) (arg1 : Memref sig .tc .vmem S256x128 .bf16) (harg1 : arg1.IsWhole) (arg2 : Memref sig .tc .vmem S8704x128 .bf16) (harg2 : arg2.IsWhole) (arg3 : Memref sig .tc .vmem S8x128 .f32) (harg3 : arg3.IsWhole) (arg4 : Memref sig .tc .vmem S8x128 .f32) (harg4 : arg4.IsWhole) (arg5 : Memref sig .tc .vmem S128x256 .f32) (harg5 : arg5.IsWhole) (arg6 : Memref sig .tc .vmem S128x8704 .bf16) (harg6 : arg6.IsWhole) (hc0 : cond0_0 i)
    (x0 : Vec F S256x128 .bf16) (x1 : Vec F S8704x128 .bf16) (x2 : Vec F S8x128 .f32) (x3 : Vec F S8x128 .f32) (y : S128x8704.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S128x128.size (by sl_kernel_rfl) y

/-- What case A leaves in scratch `arg6`: its pieces read back over arbitrary contents. -/
def sout0_A_0 (c : Dev nD) (i : grid0.Coords) (arg1 : Memref sig .tc .vmem S256x128 .bf16) (harg1 : arg1.IsWhole) (arg2 : Memref sig .tc .vmem S8704x128 .bf16) (harg2 : arg2.IsWhole) (arg3 : Memref sig .tc .vmem S8x128 .f32) (harg3 : arg3.IsWhole) (arg4 : Memref sig .tc .vmem S8x128 .f32) (harg4 : arg4.IsWhole) (arg5 : Memref sig .tc .vmem S128x256 .f32) (harg5 : arg5.IsWhole) (arg6 : Memref sig .tc .vmem S128x8704 .bf16) (harg6 : arg6.IsWhole) (hc0 : cond0_0 i)
    (x0 : Vec F S256x128 .bf16) (x1 : Vec F S8704x128 .bf16) (x2 : Vec F S8x128 .f32) (x3 : Vec F S8x128 .f32) : Vec F S128x8704 .bf16 :=
  VS0_0.read (Elt F) (VS0_0.writes (Elt F) VS0_0.junk (kernelRun0_A c i arg1 harg1 arg2 harg2 arg3 harg3 arg4 harg4 arg5 harg5 arg6 harg6 hc0 x0 x1 x2 x3).2.1)

/-- Case B's pieces for output 4 tile its block (1 store of `S128x256`), so they cover it. -/
theorem cover0_B_4 (c : Dev nD) (i : grid0.Coords) (arg1 : Memref sig .tc .vmem S256x128 .bf16) (harg1 : arg1.IsWhole) (arg2 : Memref sig .tc .vmem S8704x128 .bf16) (harg2 : arg2.IsWhole) (arg3 : Memref sig .tc .vmem S8x128 .f32) (harg3 : arg3.IsWhole) (arg4 : Memref sig .tc .vmem S8x128 .f32) (harg4 : arg4.IsWhole) (arg5 : Memref sig .tc .vmem S128x256 .f32) (harg5 : arg5.IsWhole) (arg6 : Memref sig .tc .vmem S128x8704 .bf16) (harg6 : arg6.IsWhole) (hc0 : ¬cond0_0 i)
    (x0 : Vec F S256x128 .bf16) (x1 : Vec F S8704x128 .bf16) (x2 : Vec F S8x128 .f32) (x3 : Vec F S8x128 .f32) (xs0 : Vec F S128x8704 .bf16) (y : S128x256.Idx) :
    ∃ pc ∈ (kernelRun0_B c i arg1 harg1 arg2 harg2 arg3 harg3 arg4 harg4 arg5 harg5 arg6 harg6 hc0 x0 x1 x2 x3 xs0).1, y ∈ pc.1.set :=
  View.cover_of_tiledL (kernelRun0_B c i arg1 harg1 arg2 harg2 arg3 harg3 arg4 harg4 arg5 harg5 arg6 harg6 hc0 x0 x1 x2 x3 xs0).1 S128x256.size (by sl_kernel_rfl) y

/-- What case B leaves in output 4's staging buffer: its pieces read back over arbitrary contents. -/
def out0_B_4 (c : Dev nD) (i : grid0.Coords) (arg1 : Memref sig .tc .vmem S256x128 .bf16) (harg1 : arg1.IsWhole) (arg2 : Memref sig .tc .vmem S8704x128 .bf16) (harg2 : arg2.IsWhole) (arg3 : Memref sig .tc .vmem S8x128 .f32) (harg3 : arg3.IsWhole) (arg4 : Memref sig .tc .vmem S8x128 .f32) (harg4 : arg4.IsWhole) (arg5 : Memref sig .tc .vmem S128x256 .f32) (harg5 : arg5.IsWhole) (arg6 : Memref sig .tc .vmem S128x8704 .bf16) (harg6 : arg6.IsWhole) (hc0 : ¬cond0_0 i)
    (x0 : Vec F S256x128 .bf16) (x1 : Vec F S8704x128 .bf16) (x2 : Vec F S8x128 .f32) (x3 : Vec F S8x128 .f32) (xs0 : Vec F S128x8704 .bf16) : Vec F S128x256 .f32 :=
  VO0_4.read (Elt F) (VO0_4.writes (Elt F) VO0_4.junk (kernelRun0_B c i arg1 harg1 arg2 harg2 arg3 harg3 arg4 harg4 arg5 harg5 arg6 harg6 hc0 x0 x1 x2 x3 xs0).1)

/-- Case B stores nothing into scratch `arg6`: it holds what the point before left. -/
def sout0_B_0 (c : Dev nD) (i : grid0.Coords) (arg1 : Memref sig .tc .vmem S256x128 .bf16) (harg1 : arg1.IsWhole) (arg2 : Memref sig .tc .vmem S8704x128 .bf16) (harg2 : arg2.IsWhole) (arg3 : Memref sig .tc .vmem S8x128 .f32) (harg3 : arg3.IsWhole) (arg4 : Memref sig .tc .vmem S8x128 .f32) (harg4 : arg4.IsWhole) (arg5 : Memref sig .tc .vmem S128x256 .f32) (harg5 : arg5.IsWhole) (arg6 : Memref sig .tc .vmem S128x8704 .bf16) (harg6 : arg6.IsWhole) (hc0 : ¬cond0_0 i)
    (x0 : Vec F S256x128 .bf16) (x1 : Vec F S8704x128 .bf16) (x2 : Vec F S8x128 .f32) (x3 : Vec F S8x128 .f32) (xs0 : Vec F S128x8704 .bf16) : Vec F S128x8704 .bf16 := xs0

/-! ## What the outputs hold after each point -/

/-- What the outputs' staging buffers and the scratch the kernel carries between points hold after the body at position `n` (a tuple: the outputs in window order, then the scratch):
    the case the branch condition selects at `n`, run at the point's memrefs and input blocks, an output it reads before covering
    at what this leaves at `n - 1` (its buffer is not written back between: `before0_W_κ`). -/
def outsAt0 (c : Dev nD) : (n : ℕ) → n < cfg0.N → Vec F S128x256 .f32 × Vec F S128x8704 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 34 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- `outsAt0` at a point of case A: that case's contents. -/
theorem outsAt0_A (c : Dev nD) (t : Fin cfg0.N) (h0 : t.val % 34 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 34 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel carries between points: before the first point
    `ΦA`, every scratch at anything; afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ others0 c) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ others0 c) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ others0 c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    `PhiS` (`ΦA` before the first point, then the scoped rest with the carried scratch at `outsAt0`'s component);
    nothing owed; each input's share of its array
    (`Pipeline.shareOf`: the full share of an array several windows stage, dealt among them). -/
def dat0 (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := Pipeline.shareOf spec0 w
  owed _ := 0

/-- The proof data's arrays are what the region finds. -/
theorem A_eq0 (c : Dev nD) (w : Fin cfg0.W) : (dat0 m c).A w = V m c (Pipeline.arrRef spec0 w) := by
  dsimp only [dat0]

/-- The invariant at a point's start (the proof data at `t.castSucc`), restated at `t.val`. -/
theorem PhiS_castSucc (c : Dev nD) (t : Fin cfg0.N) :
    (dat0 m c).Φ t.castSucc = PhiS m c t.val (Nat.le_of_lt t.isLt) := by
  dsimp only [dat0]; exact Pipeline.Dat.Φ_castSucc (PhiS m c) t

/-- What the body leaves, window by window. -/
theorem after0_0 (c : Dev nD) (t : Fin cfg0.N) : (dat0 m c).after 0 t = iblk m c 0 t := by dsimp only [dat0]
theorem after0_1 (c : Dev nD) (t : Fin cfg0.N) : (dat0 m c).after 1 t = iblk m c 1 t := by dsimp only [dat0]
theorem after0_2 (c : Dev nD) (t : Fin cfg0.N) : (dat0 m c).after 2 t = iblk m c 2 t := by dsimp only [dat0]
theorem after0_3 (c : Dev nD) (t : Fin cfg0.N) : (dat0 m c).after 3 t = iblk m c 3 t := by dsimp only [dat0]
theorem after0_4 (c : Dev nD) (t : Fin cfg0.N) : (dat0 m c).after 4 t = (outsAt0 m c t.val t.isLt).1 := by dsimp only [dat0]

/-- Each input's current staging buffer holds its block at every point, fetched there or not (`beforeK_W_of`). -/
theorem before0_0 (c : Dev nD) (t : Fin cfg0.N) (d) : (dat0 m c).before 0 t d = iblk m c 0 t :=
  before0_0_of m (dat0 m c) (A_eq0 m c 0) (after0_0 m c) t d
theorem before0_1 (c : Dev nD) (t : Fin cfg0.N) (d) : (dat0 m c).before 1 t d = iblk m c 1 t :=
  before0_1_of m (dat0 m c) (A_eq0 m c 1) (after0_1 m c) t d
theorem before0_2 (c : Dev nD) (t : Fin cfg0.N) (d) : (dat0 m c).before 2 t d = iblk m c 2 t :=
  before0_2_of m (dat0 m c) (A_eq0 m c 2) (after0_2 m c) t d
theorem before0_3 (c : Dev nD) (t : Fin cfg0.N) (d) : (dat0 m c).before 3 t d = iblk m c 3 t :=
  before0_3_of m (dat0 m c) (A_eq0 m c 3) (after0_3 m c) t d

/-! ## The body obligation, at a generic point -/

/-- What the body is called with at point `t`, the windows one by one, -/
def bodyPre0 (c : Dev nD) (t : Fin cfg0.N) : sProp 𝕄 :=
  iprop((dat0 m c).Φ t.castSucc ∗ (dat0 m c).owesAt () t.castSucc
    ∗ (∃ d, owns (c : Thread nD τ) (ms0_0 t) fullShare ((dat0 m c).before 0 t d))
    ∗ (∃ d, owns (c : Thread nD τ) (ms0_1 t) fullShare ((dat0 m c).before 1 t d))
    ∗ (∃ d, owns (c : Thread nD τ) (ms0_2 t) fullShare ((dat0 m c).before 2 t d))
    ∗ (∃ d, owns (c : Thread nD τ) (ms0_3 t) fullShare ((dat0 m c).before 3 t d))
    ∗ (∃ d, owns (c : Thread nD τ) (ms0_4 t) fullShare ((dat0 m c).before 4 t d)))

/-- and what it returns. -/
def bodyPost0 (c : Dev nD) (t : Fin cfg0.N) : sProp 𝕄 :=
  iprop((dat0 m c).Φ t.succ ∗ (dat0 m c).owesAt () t.succ
    ∗ owns (c : Thread nD τ) (ms0_0 t) fullShare ((dat0 m c).after 0 t)
    ∗ owns (c : Thread nD τ) (ms0_1 t) fullShare ((dat0 m c).after 1 t)
    ∗ owns (c : Thread nD τ) (ms0_2 t) fullShare ((dat0 m c).after 2 t)
    ∗ owns (c : Thread nD τ) (ms0_3 t) fullShare ((dat0 m c).after 3 t)
    ∗ owns (c : Thread nD τ) (ms0_4 t) fullShare ((dat0 m c).after 4 t))

set_option maxHeartbeats 3200000 in
/-- The body at any point: the inputs' memrefs hold their blocks (`before0_W`); the branch condition says which case the point is in, an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body0 (c : Dev nD) (t : Fin cfg0.N) :
    bodyPre0 m c t ⊢ wp frame (wpE (defs₀ (F := F)) Variants.none c none) Set.univ (bodyAt0 t) (fun _ => bodyPost0 m c t) := by
  unfold bodyPre0 bodyPost0 bodyAt0
  simp only [before0_0, before0_1, before0_2, before0_3]
  rw [show (dat0 m c).owesAt () t.succ = (dat0 m c).owesAt () t.castSucc from rfl,
    after0_0, after0_1, after0_2, after0_3, after0_4]
  rw [show (dat0 m c).Φ t.succ = PhiS m c (t.val + 1) t.isLt from rfl, PhiS_succ]
  have hN : t.val < 34 := lt_of_lt_of_eq t.isLt (show cfg0.N = 34 from N_0)
  by_cases h0 : t.val % 34 = 0
  · by_cases hz : t.val = 0
    · rw [PhiS_castSucc m c t, PhiS_zero m c _ _ hz, PhiA0_eq]
      rw [outsAt0_A m c t h0]
      unfold out0_A_4 sout0_A_0; (try dsimp only)
      iintro ⟨⟨⟨HS0, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _)
    · exfalso; have hN : t.val < 34 := lt_of_lt_of_eq t.isLt (show cfg0.N = 34 from N_0); omega
  · by_cases hz : t.val = 0
    · exfalso; have hN : t.val < 34 := lt_of_lt_of_eq t.isLt (show cfg0.N = 34 from N_0); omega
    · rw [PhiS_castSucc m c t, PhiS_pos m c _ _ hz]
      rw [outsAt0_B m c t h0]
      unfold out0_B_4 sout0_B_0; (try dsimp only)
      iintro ⟨⟨⟨HS0, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, HS0⟩
      isplitl [HS0 HR Hg]
      · isplitl [HS0 HR]
        · isplitl [HS0]
          · iexact HS0
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_B_4 c _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) m c) (defs₀ (F := F)) Variants.none () Set.univ := fun t => by
  rw [bigSep_W0, bigSep_W0, defs₀_row0]
  exact triple_restated (sound_body0 m c t) rfl .rfl fun _ => .rfl

/-- What the launch hands the region (`ΦA`) is the invariant before the first point. -/
theorem hin0 (c : Dev nD) : Pipeline.ΦA spec0 c ⊢ (dat0 m c).Φ 0 := by
  rw [show (dat0 m c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out0 (c : Dev nD) (t : Fin (cfg0.N + 1)) (ht : t.val ≠ 0) : (dat0 m c).Φ t ⊢ Pipeline.ΦA spec0 c := by
  rw [show (dat0 m c).Φ t = PhiS m c t.val (Nat.le_of_lt_succ t.isLt) from rfl, PhiS_pos m c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 m c).Φ (Fin.last cfg0.N) ⊢ Pipeline.ΦA spec0 c :=
  Phi_out0 m c _ (by rw [Fin.val_last]; have : cfg0.N = 34 := N_0; omega)

end Cert.KernelIdeal.Gen

end
-- ==== Proof.Overlap.Windows.lean ====
/- The second call, the overlap-add: its windows and its scratch. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`). Where it
    is not fetched, the block has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`). Where it
    is not fetched, the block has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`). Where it
    is not fetched, the block has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs -/

/-- One staging buffer of output window 3, through which its contents are stated (`View.read_writes_of_cover`: the
    choice does not matter). -/
abbrev VO1_3 : View sig .tc .vmem S3x96x128 .f32 := (Memref.whole cc1_stg3_0 : Memref sig .tc .vmem S3x96x128 .f32).view
/-- Each window's current staging memref at point `t`, spelled as the pipeline passes it (`bodyAt1`), and its wholeness. -/
abbrev ms1_0 (t : Fin cfg1.N) : Memref sig .tc .vmem S75x92x92 .f32 := win1_0.stage (cfg1.slots t 0)
abbrev hs1_0 (t : Fin cfg1.N) : (ms1_0 t).IsWhole := hstage1_0 0
abbrev ms1_1 (t : Fin cfg1.N) : Memref sig .tc .vmem S75x8x128 .f32 := win1_1.stage (cfg1.slots t 1)
abbrev hs1_1 (t : Fin cfg1.N) : (ms1_1 t).IsWhole := hstage1_1 0
abbrev ms1_2 (t : Fin cfg1.N) : Memref sig .tc .vmem S3x8x128 .f32 := win1_2.stage (cfg1.slots t 2)
abbrev hs1_2 (t : Fin cfg1.N) : (ms1_2 t).IsWhole := hstage1_2 0
abbrev ms1_3 (t : Fin cfg1.N) : Memref sig .tc .vmem S3x96x128 .f32 := win1_3.stage (cfg1.slots t 3)
abbrev hs1_3 (t : Fin cfg1.N) : (ms1_3 t).IsWhole := hstage1_3 0
/-- The scratch operands: whole scoped buffers of the kernel's own, passed beside the windows. -/
abbrev scM1_0 : Memref sig .tc .vmem S3x96x128 .f32 := Memref.whole cc1_scratch0
abbrev scM1_1 : Memref sig .tc .vmem S3x96x128 .f32 := Memref.whole cc1_scratch1

/-- The scoped buffers that are neither staging buffers of the second call nor its scratch. -/
abbrev others1 (c : Dev nD) : sProp 𝕄 :=
  Pipeline.scopedRestBut (Ix := Unit) (Name := ℕ) (U := UR sig nD τ) (Lvl := ℕ) (Val := Elt F) spec1 c [cc1_scratch0, cc1_scratch1]

/-- The second call's invariant with its scratch as memrefs owned at some contents. -/
theorem PhiA1_eq (c : Dev nD) : (Pipeline.ΦA spec1 c : sProp 𝕄)
    = iprop(iprop(((∃ d, owns (c : Thread nD τ) scM1_0 fullShare d) ∗ (∃ d, owns (c : Thread nD τ) scM1_1 fullShare d)) ∗ others1 c) ∗ (∃ r, prngReg c r)) := by
  unfold Pipeline.ΦA
  rw [Pipeline.scopedRest_split_of_list spec1 c [cc1_scratch0, cc1_scratch1] (by decide) (by decide)]
  simp only [scM1_0, scM1_1, owns_whole]
  rfl

end Cert.KernelIdeal.Gen

end
-- ==== Proof.Overlap.Body.lean ====
/- The body of the second call at its one grid point. -/
module

public import proofs.«01_k».proof.Proof.Overlap.Windows

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The run is long, so the definition takes more steps than the default allows.
set_option maxHeartbeats 3424000 in
/-- What the body's stores leave in each output's staging memref, as pieces (last first), with the
    proof that on whole staging memrefs — the inputs' at their contents, the other outputs' at
    anything, the scratch buffers at anything, the body runs to the continuation holding the inputs' as they were,
    a scratch it stored into and does not carry with its pieces (`LT·`) written over some contents, each output's buffer with its pieces written.
    The pieces are the ones the run itself produces. -/
noncomputable def kernelRun1_A (c : Dev nD) (arg0 : Memref sig .tc .vmem S75x92x92 .f32) (harg0 : arg0.IsWhole) (arg1 : Memref sig .tc .vmem S75x8x128 .f32) (harg1 : arg1.IsWhole) (arg2 : Memref sig .tc .vmem S3x8x128 .f32) (harg2 : arg2.IsWhole) (arg3 : Memref sig .tc .vmem S3x96x128 .f32) (harg3 : arg3.IsWhole) (arg4 : Memref sig .tc .vmem S3x96x128 .f32) (harg4 : arg4.IsWhole) (arg5 : Memref sig .tc .vmem S3x96x128 .f32) (harg5 : arg5.IsWhole)
    (x0 : Vec F S75x92x92 .f32) (x1 : Vec F S75x8x128 .f32) (x2 : Vec F S3x8x128 .f32) :
    Σ' (L3 : List (View.Piece (Elt F) S3x96x128 .f32)), Σ' (LT0 : List (View.Piece (Elt F) S3x96x128 .f32)), { LT1 : List (View.Piece (Elt F) S3x96x128 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg0 fullShare x0 ∗ owns (c : Thread nD τ) arg1 fullShare x1 ∗ owns (c : Thread nD τ) arg2 fullShare x2 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f LT0) ∗ (∃ f, arg5.view.loc (c : Thread nD τ) ↦[arg5.view.set]{fullShare} arg5.view.writes (Elt F) f LT1)) -∗ K ⟨⟩))
          ⊢ wp frame (wpE (defs₀ (F := F)) Variants.none c none) E (cc1__fold_body arg0 harg0 arg1 harg1 arg2 harg2 arg3 harg3 arg4 harg4 arg5 harg5) K } := by
  refine ⟨?_, ?_, ?_, fun E K => ?run⟩
  case run =>
    simp only [cc1__fold_body_eq_skeleton]; unfold cc1__fold_body_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg0.eq_unread hf0; obtain rfl := harg1.eq_unread hf1; obtain rfl := harg2.eq_unread hf2
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [HS0]; · iexists _; iexact HS0
    iexists _; iexact HS1

end Cert.KernelIdeal.Gen

end
-- ==== Proof.Overlap.Call.lean ====
/- The second call: what its body leaves, and that it runs. -/
module

public import proofs.«01_k».proof.Proof.Overlap.Body

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The run's pieces for output 3 tile its block (1 store of `S3x96x128`), so they cover it. -/
theorem cover1_A_3 (c : Dev nD) (arg0 : Memref sig .tc .vmem S75x92x92 .f32) (harg0 : arg0.IsWhole) (arg1 : Memref sig .tc .vmem S75x8x128 .f32) (harg1 : arg1.IsWhole) (arg2 : Memref sig .tc .vmem S3x8x128 .f32) (harg2 : arg2.IsWhole) (arg3 : Memref sig .tc .vmem S3x96x128 .f32) (harg3 : arg3.IsWhole) (arg4 : Memref sig .tc .vmem S3x96x128 .f32) (harg4 : arg4.IsWhole) (arg5 : Memref sig .tc .vmem S3x96x128 .f32) (harg5 : arg5.IsWhole)
    (x0 : Vec F S75x92x92 .f32) (x1 : Vec F S75x8x128 .f32) (x2 : Vec F S3x8x128 .f32) (y : S3x96x128.Idx) :
    ∃ pc ∈ (kernelRun1_A c arg0 harg0 arg1 harg1 arg2 harg2 arg3 harg3 arg4 harg4 arg5 harg5 x0 x1 x2).1, y ∈ pc.1.set :=
  View.cover_of_tiledL (kernelRun1_A c arg0 harg0 arg1 harg1 arg2 harg2 arg3 harg3 arg4 harg4 arg5 harg5 x0 x1 x2).1 S3x96x128.size (by sl_kernel_rfl) y

/-- What the run leaves in output 3's staging buffer: its pieces read back over arbitrary contents. -/
def out1_A_3 (c : Dev nD) (arg0 : Memref sig .tc .vmem S75x92x92 .f32) (harg0 : arg0.IsWhole) (arg1 : Memref sig .tc .vmem S75x8x128 .f32) (harg1 : arg1.IsWhole) (arg2 : Memref sig .tc .vmem S3x8x128 .f32) (harg2 : arg2.IsWhole) (arg3 : Memref sig .tc .vmem S3x96x128 .f32) (harg3 : arg3.IsWhole) (arg4 : Memref sig .tc .vmem S3x96x128 .f32) (harg4 : arg4.IsWhole) (arg5 : Memref sig .tc .vmem S3x96x128 .f32) (harg5 : arg5.IsWhole)
    (x0 : Vec F S75x92x92 .f32) (x1 : Vec F S75x8x128 .f32) (x2 : Vec F S3x8x128 .f32) : Vec F S3x96x128 .f32 :=
  VO1_3.read (Elt F) (VO1_3.writes (Elt F) VO1_3.junk (kernelRun1_A c arg0 harg0 arg1 harg1 arg2 harg2 arg3 harg3 arg4 harg4 arg5 harg5 x0 x1 x2).1)

/-! ## What the outputs hold after each point -/

/-- What the outputs' staging buffers hold after the body at point `t`: the run's contents at
    the point's memrefs and input blocks. -/
def outsAt1 (c : Dev nD) (t : Fin cfg1.N) : Vec F S3x96x128 .f32 :=
  out1_A_3 c (ms1_0 t) (hs1_0 t) (ms1_1 t) (hs1_1 t) (ms1_2 t) (hs1_2 t) (ms1_3 t) (hs1_3 t) scM1_0 (Memref.isWhole_whole _) scM1_1 (Memref.isWhole_whole _) (iblk1 V c 0 t) (iblk1 V c 1 t) (iblk1 V c 2 t)

/-! ## The pipeline's proof data -/

/-- The proof data of the one pipeline on core `c`: the arrays as the region finds them (`V`); after the body at
    point `t` each input's buffer at its block and the outputs' at `outsAt1`; the invariant `ΦA`:
    the scoped rest and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t)
  Φ _ := Pipeline.ΦA spec1 c
  q _ := fullShare
  owed _ := 0

/-- The proof data's arrays are what the region finds. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  unfold outsAt1
  unfold out1_A_3
  iintro ⟨⟨⟨⟨HS0, HS1⟩, HR⟩, Hg⟩, Ho, ⟨%d0, H0⟩, ⟨%d1, H1⟩, ⟨%d2, H2⟩, ⟨%d3, H3⟩⟩
  iapply ((kernelRun1_A c _ _ _ _ _ _ _ _ _ _ _ _ (iblk1 V c 0 t) (iblk1 V c 1 t) (iblk1 V c 2 t)).2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, ⟨%e3, H3⟩, ⟨%fT0, HS0⟩, ⟨%fT1, HS1⟩⟩
  isplitl [HS0 HS1 HR Hg]
  · isplitl [HS0 HS1 HR]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 c _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Gen

end
-- ==== Proof.Whole.lean ====
/- The whole kernel run: the buffers between its two calls, the calls' records, and what every final state holds. -/
module

public import proofs.«01_k».proof.Proof.Select.Sweep
public import proofs.«01_k».proof.Proof.Overlap.Call
public import Idealize.ShloMosaic.Lib.Pipeline.RegionsLoop
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents around the calls -/

/-- The array the first call returns. -/
def selected (c : Dev nD) : Buf (Elt F) ((c : Thread nD τ).loc main_v79) := (dat0 m c).arrAt 4 cfg0.N

/-- Core `c`'s buffers after the first call. -/
def W8 (c : Dev nD) : Valuation τ sig (Elt F) := Function.update (V7 m c) main_v79 (selected m c)

/-- Core `c`'s buffers when the second call is entered. -/
def W9 (c : Dev nD) : Valuation τ sig (Elt F) := StableHlo.after hostOps1 (W8 m c)

/-- The same, by the core's own references. -/
abbrev U9 (c : Dev nD) (b : Ref sig .tc) : Buf (Elt F) ((c : Thread nD τ).loc b) := W9 m c b

/-- The array the second call returns. -/
def overlapped (c : Dev nD) : Buf (Elt F) ((c : Thread nD τ).loc main_v86) := (dat1 (U9 m) c).arrAt 3 cfg1.N

/-- Core `c`'s buffers after the second call. -/
def W10 (c : Dev nD) : Valuation τ sig (Elt F) := Function.update (W9 m c) main_v86 (overlapped m c)

/-- Core `c`'s buffers when the program ends. -/
def W11 (c : Dev nD) : Valuation τ sig (Elt F) := StableHlo.after hostOps2 (W10 m c)

/-- The first call changes no buffer but the array it returns. -/
theorem W8_of (c : Dev nD) (r : Ref sig .tc) (h : r ≠ main_v79) : W8 m c r = V7 m c r := by
  unfold W8
  exact Function.update_of_ne (StableHlo.devRef_ne_of_ne h) _ _

/-- After the first call its result holds `selected`. -/
theorem W8_result (c : Dev nD) : W8 m c main_v79 = selected m c := by
  unfold W8
  exact Function.update_self _ _ _

/-- The lines between the calls change no buffer but their own. -/
theorem W9_of (c : Dev nD) (r : Ref sig .tc) (h : r ∉ hostOps1_W) : W9 m c r = W8 m c r := by
  unfold W9
  exact StableHlo.after_of_writes_sub hostOps1 _ hostOps1_writes h

/-- The second call changes no buffer but the array it returns. -/
theorem W10_of (c : Dev nD) (r : Ref sig .tc) (h : r ≠ main_v86) : W10 m c r = W9 m c r := by
  unfold W10
  exact Function.update_of_ne (StableHlo.devRef_ne_of_ne h) _ _

/-- After the second call its result holds `overlapped`. -/
theorem W10_result (c : Dev nD) : W10 m c main_v86 = overlapped m c := by
  unfold W10
  exact Function.update_self _ _ _

/-- The last lines change no buffer but their own. -/
theorem W11_of (c : Dev nD) (r : Ref sig .tc) (h : r ∉ hostOps2_W) : W11 m c r = W10 m c r := by
  unfold W11
  exact StableHlo.after_of_writes_sub hostOps2 _ hostOps2_writes h

/-- A buffer no line and no call writes ends as launched. -/
theorem W11_kept (c : Dev nD) (r : Ref sig .tc) (h : V7 m c r = m ((c : Thread nD τ).loc r)) (h1 : r ≠ main_v79) (h2 : r ∉ hostOps1_W)
    (h3 : r ≠ main_v86) (h4 : r ∉ hostOps2_W) : W11 m c r = m ((c : Thread nD τ).loc r) :=
  (W11_of m c r h4).trans ((W10_of m c r h3).trans ((W9_of m c r h2).trans ((W8_of m c r h1).trans h)))

/-- The stretches before the first call leave a buffer they do not write as launched. -/
theorem V7_kept (c : Dev nD) (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) : V7 m c r = m ((c : Thread nD τ).loc r) :=
  (V7_of m c r h6).trans <| (V6_of m c r h5).trans <| (V5_of m c r h4).trans <| (V4_of m c r h3).trans <| (V3_of m c r h2).trans <|
    (V2_of m c r h1).trans <| (V1_of m c r h0)

/-! ## The calls' arrays at their exits -/

/-- An array the first call only reads holds at its exit what the buffers after it say. -/
theorem kept0 (c : Dev nD) (w : Fin cfg0.W) (h : (cfg0.win w).isOut = false) (hne : Pipeline.arrRef spec0 w ≠ main_v79) :
    (dat0 m c).arrAt w cfg0.N = W8 m c (Pipeline.arrRef spec0 w) :=
  ((dat0 m c).arrAt_in w h _).trans ((A_eq0 m c w).trans (W8_of m c _ hne).symm)

/-- At the first call's exit each of its arrays holds what the buffers after it say. -/
theorem hF0 (c : Dev nD) (w : Fin cfg0.W) : (dat0 m c).arrAt w cfg0.N = W8 m c (Pipeline.arrRef spec0 w) := by
  match w with
  | ⟨0, _⟩ => exact kept0 m c 0 rfl (by decide)
  | ⟨1, _⟩ => exact kept0 m c 1 rfl (by decide)
  | ⟨2, _⟩ => exact kept0 m c 2 rfl (by decide)
  | ⟨3, _⟩ => exact kept0 m c 3 rfl (by decide)
  | ⟨4, _⟩ => exact (W8_result m c).symm

/-- Every other buffer is as the first call found it. -/
theorem hrest0 (c : Dev nD) (b : Ref sig .tc) (hb : b ∉ Finset.univ.image (Pipeline.arrRef spec0)) : W8 m c b = V7 m c b :=
  W8_of m c b fun e => hb (Finset.mem_image.mpr ⟨4, Finset.mem_univ _, e.symm⟩)

/-- At the second call's exit each of its arrays holds what the buffers after it say. -/
theorem hF1 (c : Dev nD) (w : Fin cfg1.W) : (dat1 (U9 m) c).arrAt w cfg1.N = W10 m c (Pipeline.arrRef spec1 w) := by
  match w with
  | ⟨0, _⟩ => exact ((dat1 (U9 m) c).arrAt_in 0 rfl _).trans ((A_eq1 (U9 m) c 0).trans (W10_of m c _ (by decide)).symm)
  | ⟨1, _⟩ => exact ((dat1 (U9 m) c).arrAt_in 1 rfl _).trans ((A_eq1 (U9 m) c 1).trans (W10_of m c _ (by decide)).symm)
  | ⟨2, _⟩ => exact ((dat1 (U9 m) c).arrAt_in 2 rfl _).trans ((A_eq1 (U9 m) c 2).trans (W10_of m c _ (by decide)).symm)
  | ⟨3, _⟩ => exact (W10_result m c).symm

/-- Every other buffer is as the second call found it. -/
theorem hrest1 (c : Dev nD) (b : Ref sig .tc) (hb : b ∉ Finset.univ.image (Pipeline.arrRef spec1)) : W10 m c b = W9 m c b :=
  W10_of m c b fun e => hb (Finset.mem_image.mpr ⟨3, Finset.mem_univ _, e.symm⟩)

/-! ## The calls' records -/

/-- Both calls' proof data, each at the buffers its call finds. -/
def pdats : (p : Fin 2) → (c : Dev nD) → Dat τ (Elt F) Unit ℕ (UR sig nD τ) ℕ (Pipeline.pin (pcfgs (F := F)) adm p) c
  | ⟨0, _⟩ => fun c => dat0 m c
  | ⟨1, _⟩ => fun c => dat1 (U9 m) c

/-- No core waits for another: no level is assigned. -/
abbrev noLevels : GSem nD τ sig → Finset Unit := fun _ => ∅

/-- The level of a semaphore, never looked at. -/
abbrev levelOf : GSem nD τ sig → Unit → ℕ := fun _ _ => 0

/-- What rides beside the buffers: the generator register at some state, and the core owing nothing. -/
abbrev beside (c : Dev nD) : sProp 𝕄 := iprop((∃ r, prngReg c r) ∗ (∃ W, owes (c : Thread nD τ) (0 : CellTallies nD τ sig Unit) W))

/-- The unscoped buffers at given contents. -/
abbrev holding (c : Dev nD) (W : Valuation τ sig (Elt F)) : sProp 𝕄 := StableHlo.held (c : Thread nD τ) (Pipeline.ucRefs τ sig) W

set_option backward.isDefEq.respectTransparency.types false in
/-- The first call as a segment of the program: entered from the buffers after the host lines, left with `selected` in its result. -/
def reg0 : Pipeline.RegionSeg (pcfgs (F := F)) adm (pdats m) () defs₀ Variants.none noLevels levelOf 0 where
  win := launch₀0.win
  block_pos := launch₀0.block_pos
  stage_whole := launch₀0.stage_whole
  K := PEmpty
  osem k := k.elim
  ho := Pipeline.OwnSemFacts.none _
  hbody c := (body_obligation0 m c).loose
  hwaits := Pipeline.hwaits_of_owed_zero _ _ _ _ noLevels levelOf 0 fun _ _ => rfl
  pre c := iprop(holding c (V7 m c) ∗ beside c)
  post c := iprop(holding c (W8 m c) ∗ beside c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := Pipeline.arrays_of_unscopedBufs_shared (p := 0) (pcfgs (F := F)) adm (pdats m) launch₀0.win launch₀0.sharedIn launch₀0.arr_whole c
      (fun _ _ => rfl) (V m c) (A_eq0 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec0 c ⊢ (pdats m 0 c).Φ 0 from hin0 m c)
    unfold Pipeline.ΦA
    isplitl [Hr]; · iexact Hr
    iexact Hp
  hout c := by
    rw [Pipeline.ownSems0_none]
    iintro H
    ihave H' := (show (pdats m 0 c).Φ (Fin.last (Pipeline.pin (pcfgs (F := F)) adm 0).N) ⊢ Pipeline.ΦA spec0 c from hout0 m c) $$ H
    unfold Pipeline.ΦA
    icases H' with ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m) (fun _ _ => rfl)
      (V m c) (fun b => W8 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment of the program: entered from the buffers after the lines between the calls, left with
    `overlapped` in its result. -/
def reg1 : Pipeline.RegionSeg (pcfgs (F := F)) adm (pdats m) () defs₀ Variants.none noLevels levelOf 1 where
  win := launch1.win.to₀
  block_pos := launch1.block_pos
  stage_whole := launch1.stage_whole
  K := PEmpty
  osem k := k.elim
  ho := Pipeline.OwnSemFacts.none _
  hbody c := (body_obligation1 (U9 m) c).loose
  hwaits := Pipeline.hwaits_of_owed_zero _ _ _ _ noLevels levelOf 1 fun _ _ => rfl
  pre c := iprop(holding c (W9 m c) ∗ beside c)
  post c := iprop(holding c (W10 m c) ∗ beside c)
  X c := iprop(∃ r, prngReg c r)
  Y c := iprop(∃ r, prngReg c r)
  Z c := Pipeline.unscopedRest (Ix := Unit) (Name := ℕ) (U := UR sig nD τ) (Lvl := ℕ) spec1 c (U9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U9 m c) (A_eq1 (U9 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U9 m c) (fun b => W10 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

/-- A stretch of host lines as a segment of the program, from given contents. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels levelOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

/-- The program's segments in order. -/
abbrev parts : List (Pipeline.Seg (pcfgs (F := F)) adm (pdats m) () defs₀ Variants.none noLevels levelOf) :=
  [.host (stretch hostOps0 hostOps0_sub hostOps0_fresh (V0 m)), .host (stretch hostOps0_1 hostOps0_1_sub hostOps0_1_fresh (V1 m)),
    .host (stretch hostOps0_2 hostOps0_2_sub hostOps0_2_fresh (V2 m)), .host (stretch hostOps0_3 hostOps0_3_sub hostOps0_3_fresh (V3 m)),
    .host (stretch hostOps0_4 hostOps0_4_sub hostOps0_4_fresh (V4 m)), .host (stretch hostOps0_5 hostOps0_5_sub hostOps0_5_fresh (V5 m)),
    .host (stretch hostOps0_6 hostOps0_6_sub hostOps0_6_fresh (V6 m)), .region (reg0 m),
    .host (stretch hostOps1 hostOps1_sub hostOps1_fresh (W8 m)), .region (reg1 m),
    .host (stretch hostOps2 hostOps2_sub hostOps2_fresh (W10 m))]

/-- The program is the run of its segments. -/
theorem main_parts (c : Dev nD) : main (F := F) c = Pipeline.Seg.run (parts m) := by
  rw [main_chain c, Pipeline.Seg.run_eq_chain,
    show (parts m).map Pipeline.Seg.prog = [StableHlo.seq hostOps0, StableHlo.seq hostOps0_1, StableHlo.seq hostOps0_2, StableHlo.seq hostOps0_3,
      StableHlo.seq hostOps0_4, StableHlo.seq hostOps0_5, StableHlo.seq hostOps0_6, Prog.lift (.customCall (Pipeline.entry 0) ()),
      StableHlo.seq hostOps1, Prog.lift (.customCall (Pipeline.entry 1) ()), StableHlo.seq hostOps2] from rfl]

set_option backward.isDefEq.respectTransparency.types false in
/-- Every execution ends, with every unscoped buffer at the contents `W11` and every semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W11 m c b) ∧ r.2.sem = fun _ => 0) :=
  Pipeline.θ_run_regions_kit_sems (pcfgs (F := F)) adm (pdats m) () cellOf_inj emb₁ defs₀ Variants.none noLevels levelOf m ρ main (parts m)
    (fun c Q => by rw [main_parts m c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(holding c (V0 m c) ∗ beside c)) (Tₙ := fun c => iprop(holding c (W11 m c) ∗ ∃ r, prngReg c r))
    (hch := ⟨fun _ => .rfl, fun _ => .rfl, fun _ => .rfl, fun _ => .rfl, fun _ => .rfl, fun _ => .rfl, fun _ => .rfl, fun _ => .rfl, fun _ => .rfl,
      fun _ => .rfl, fun _ => .rfl, fun c => by
      dsimp only [Pipeline.Seg.post, stretch, Pipeline.HostSeg.ofOps]
      iintro ⟨Hh, Hp, HO⟩
      isplitl [Hh Hp]
      · isplitl [Hh]; · iexact Hh
        iexact Hp
      iexact HO⟩)
    (hinit := by
      refine Pipeline.initEach noLevels levelOf fun c => ?_
      rw [show unscopedBufs c (fun b => m ((c : Thread nD τ).loc b)) = holding c (V0 m c) from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold holding StableHlo.held
      imodintro
      iapply (pointsTo_read_all (Pipeline.ucRefs τ sig) (fun b => (((c : Thread nD τ)).1, b)) (W11 m c) s')
      isplitl [Hh] <;> iassumption)
    (hQ := fun s h hz => ⟨h, funext fun g => hz g (.inr (regions_no_unscoped g.2))⟩)

/-- An unscoped buffer is among those the run speaks of. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every execution ends with the result at `W11`, the arguments as launched and every semaphore counter at zero. -/
theorem run_whole : θ_run defs (onTc (τ := τ) (main (F := F))) ⟨m, fun _ => 0, ρ⟩ (fun r => (∀ c : Dev nD,
      r.2.mem ((c.tc : Thread nD τ).loc main_v88) = W11 m c main_v88
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨h.1 c _ (mem_unscoped main_v88 (by decide)),
    (h.1 c _ (mem_unscoped main_arg0 (by decide))).trans (W11_kept m c main_arg0 (V7_kept m c main_arg0 (by decide) (by decide) (by decide) (by decide)
      (by decide) (by decide) (by decide)) (by decide) (by decide) (by decide) (by decide)),
    (h.1 c _ (mem_unscoped main_arg1 (by decide))).trans (W11_kept m c main_arg1 (V7_kept m c main_arg1 (by decide) (by decide) (by decide) (by decide)
      (by decide) (by decide) (by decide)) (by decide) (by decide) (by decide) (by decide)),
    (h.1 c _ (mem_unscoped main_arg2 (by decide))).trans (W11_kept m c main_arg2 (V7_kept m c main_arg2 (by decide) (by decide) (by decide) (by decide)
      (by decide) (by decide) (by decide)) (by decide) (by decide) (by decide) (by decide))⟩, h.2⟩) (run_all m ρ)

/-- The arguments end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h.1 c).2, h.2⟩) (run_whole m ρ)

end Cert.KernelIdeal.Gen

end
-- ==== Proof.Points.lean ====
/- What the grid points of the main call leave: the output block of a point, and the transposed patches the
   first point stores into scratch. -/
module

public import proofs.«01_k».proof.Proof.Tile
public import proofs.«01_k».proof.Proof.Whole

@[expose] public section

set_option maxRecDepth 16384

noncomputable section

namespace Cert.Knn

open Idealize.ShloMosaic Idealize.ShloMosaic.Pipeline Cert.KernelIdeal Cert.KernelIdeal.Gen
open Idealize.SL.Sem

theorem hz2 : (![0, 0] : Fin 2 → Nat) = fun _ => 0 := funext fun a => by fin_cases a <;> rfl

/-- The output block of a point, from the row tile, the transposed patches, the scale block, the weight block
    and all patches. -/
def pointOut (x0 : Vec Ideal S256x128 .bf16) (xs : Vec Ideal S128x8704 .bf16) (x2 x3 : Vec Ideal S8x128 .f32)
    (x1 : Vec Ideal S8704x128 .bf16) : Vec Ideal S128x256 .f32 :=
  tileOut x0 xs (View.ld xs (Rect.unit ![126, 0] ![1, 8704] inb_S128x8704_S1x8704_126_0))
    (View.ld x3 (Rect.unit ![0, 0] ![1, 1] inb_S8x128_S1x1_0_0)) (View.ld x2 (Rect.unit ![0, 0] ![1, 128] inb_S8x128_S1x128_0_0)) x1

/-- The output block of a later point. -/
theorem out_B (c : Dev nD) (i : grid0.Coords) (arg1 : Memref sig .tc .vmem S256x128 .bf16) (harg1 : arg1.IsWhole)
    (arg2 : Memref sig .tc .vmem S8704x128 .bf16) (harg2 : arg2.IsWhole) (arg3 : Memref sig .tc .vmem S8x128 .f32) (harg3 : arg3.IsWhole)
    (arg4 : Memref sig .tc .vmem S8x128 .f32) (harg4 : arg4.IsWhole) (arg5 : Memref sig .tc .vmem S128x256 .f32) (harg5 : arg5.IsWhole)
    (arg6 : Memref sig .tc .vmem S128x8704 .bf16) (harg6 : arg6.IsWhole) (hc0 : ¬cond0_0 i)
    (x0 : Vec Ideal S256x128 .bf16) (x1 : Vec Ideal S8704x128 .bf16) (x2 : Vec Ideal S8x128 .f32) (x3 : Vec Ideal S8x128 .f32)
    (xs0 : Vec Ideal S128x8704 .bf16) :
    out0_B_4 c i arg1 harg1 arg2 harg2 arg3 harg3 arg4 harg4 arg5 harg5 arg6 harg6 hc0 x0 x1 x2 x3 xs0
      = pointOut x0 xs0 x2 x3 x1 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  sl_unfold_words
  rw [View.canon_unit_zero hz2]
  simp only [View.readAt_eq_ld, harg1.read_unread, harg2.read_unread, harg3.read_unread, harg4.read_unread, harg6.read_unread]
  simp only [View.ld_unit_zero (S := S256x128) hz2, View.ld_unit_zero (S := S128x8704) hz2, View.ld_unit_zero (S := S8704x128) hz2]
  rfl

/-- The transposed patches. -/
def transposed (x1 : Vec Ideal S8704x128 .bf16) : Vec Ideal S128x8704 .bf16 := fun j => x1 (ix2 (j 1) (j 0))

theorem inb_store (n : Nat) (h : n + 1 ≤ 68) (a : Fin 2) : (![0, 128 * n] : Fin 2 → Nat) a + (![128, 128] : Fin 2 → Nat) a ≤ S128x8704.size a := by
  fin_cases a
  · simp
  · simp; omega

theorem inb_load (n : Nat) (h : n + 1 ≤ 68) (a : Fin 2) : (![128 * n, 0] : Fin 2 → Nat) a + (![128, 128] : Fin 2 → Nat) a ≤ S8704x128.size a := by
  fin_cases a
  · simp; omega
  · simp

/-- The block of 128 patches stored at lane block `n`, transposed. -/
def storeBlock (x1 : Vec Ideal S8704x128 .bf16) (n : Nat) (h : n + 1 ≤ 68) : FVec Ideal S128x128 .bf16 :=
  shapeCast S128x128 (transpose S128x128 [1, 0]
    (shapeCast S128x128 (show FVec Ideal S128x128 .bf16 from View.ld x1 (Rect.unit ![128 * n, 0] ![128, 128] (inb_load n h)))
      shapeCasts_S128x128_S128x128) transposes_S128x128_p1_0_S128x128) shapeCasts_S128x128_S128x128

theorem storeBlock_apply (x1 : Vec Ideal S8704x128 .bf16) (n : Nat) (h : n + 1 ≤ 68) (i l : Fin 128) :
    storeBlock x1 n h (ix2 i l) = x1 (ix2 ⟨128 * n + l, by omega⟩ i) := by
  unfold storeBlock
  pointwise

/-- The stores of the first `n` lane blocks, the last first. -/
def stores (x1 : Vec Ideal S8704x128 .bf16) : (n : Nat) → n ≤ 68 → List (View.Piece (Elt Ideal) S128x8704 .bf16)
  | 0, _ => []
  | n + 1, h => ⟨Rect.unit ![0, 128 * n] ![128, 128] (inb_store n h), storeBlock x1 n h⟩ :: stores x1 n (Nat.le_of_succ_le h)

/-- The stores read back below lane block `n`. -/
theorem canon_stores (x1 : Vec Ideal S8704x128 .bf16) (n : Nat) (h : n ≤ 68) (i : Fin 128) (c : Fin 8704) (hc : c.val < 128 * n) :
    View.canon (stores x1 n h) (ix2 i c) = x1 (ix2 c i) := by
  induction n with
  | zero => omega
  | succ n ih =>
    by_cases hlt : c.val < 128 * n
    · rw [stores, View.canon_cons_of_not_mem _ _ (fun hm => by
        have := ((Rect.mem_set_unit (inb := inb_store n h)).mp hm 1).1
        have hle : 128 * n ≤ c.val := this
        omega)]
      exact ih _ hlt
    · have e : (ix2 i c : S128x8704.Idx) = (Rect.unit (s := S128x8704) ![0, 128 * n] ![128, 128] (inb_store n h)).emb
          (ix2 i ⟨c.val - 128 * n, by omega⟩) := by
        funext a
        apply Fin.ext
        rw [Rect.emb_apply]
        fin_cases a
        · show i.val = 0 + 1 * i.val
          omega
        · show c.val = 128 * n + 1 * (c.val - 128 * n)
          omega
      rw [e, stores, View.canon_cons_emb, storeBlock_apply]
      congr 2
      exact Fin.ext (by show 128 * n + (c.val - 128 * n) = c.val; omega)

theorem canon_stores_all (x1 : Vec Ideal S8704x128 .bf16) : View.canon (stores x1 68 le_rfl) = transposed x1 := by
  funext j
  rw [eq_ix2 j]
  exact canon_stores x1 68 le_rfl _ _ (j 1).isLt

/-- What the first point stores into scratch. -/
theorem scratch_A (c : Dev nD) (i : grid0.Coords) (arg1 : Memref sig .tc .vmem S256x128 .bf16) (harg1 : arg1.IsWhole)
    (arg2 : Memref sig .tc .vmem S8704x128 .bf16) (harg2 : arg2.IsWhole) (arg3 : Memref sig .tc .vmem S8x128 .f32) (harg3 : arg3.IsWhole)
    (arg4 : Memref sig .tc .vmem S8x128 .f32) (harg4 : arg4.IsWhole) (arg5 : Memref sig .tc .vmem S128x256 .f32) (harg5 : arg5.IsWhole)
    (arg6 : Memref sig .tc .vmem S128x8704 .bf16) (harg6 : arg6.IsWhole) (hc0 : cond0_0 i)
    (x0 : Vec Ideal S256x128 .bf16) (x1 : Vec Ideal S8704x128 .bf16) (x2 : Vec Ideal S8x128 .f32) (x3 : Vec Ideal S8x128 .f32) :
    sout0_A_0 c i arg1 harg1 arg2 harg2 arg3 harg3 arg4 harg4 arg5 harg5 arg6 harg6 hc0 x0 x1 x2 x3 = transposed x1 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  simp only [View.readAt_eq_ld, harg2.read_unread]
  exact canon_stores_all x1

/-- The output block of a first point. -/
theorem out_A (c : Dev nD) (i : grid0.Coords) (arg1 : Memref sig .tc .vmem S256x128 .bf16) (harg1 : arg1.IsWhole)
    (arg2 : Memref sig .tc .vmem S8704x128 .bf16) (harg2 : arg2.IsWhole) (arg3 : Memref sig .tc .vmem S8x128 .f32) (harg3 : arg3.IsWhole)
    (arg4 : Memref sig .tc .vmem S8x128 .f32) (harg4 : arg4.IsWhole) (arg5 : Memref sig .tc .vmem S128x256 .f32) (harg5 : arg5.IsWhole)
    (arg6 : Memref sig .tc .vmem S128x8704 .bf16) (harg6 : arg6.IsWhole) (hc0 : cond0_0 i)
    (x0 : Vec Ideal S256x128 .bf16) (x1 : Vec Ideal S8704x128 .bf16) (x2 : Vec Ideal S8x128 .f32) (x3 : Vec Ideal S8x128 .f32) :
    out0_A_4 c i arg1 harg1 arg2 harg2 arg3 harg3 arg4 harg4 arg5 harg5 arg6 harg6 hc0 x0 x1 x2 x3
      = pointOut x0 (transposed x1) x2 x3 x1 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_unit_zero hz2]
  simp only [View.readAt_eq_ld, harg1.read_unread, harg2.read_unread, harg3.read_unread, harg4.read_unread]
  have hrow : View.ld (transposed x1) (Rect.unit ![126, 0] ![1, 8704] inb_S128x8704_S1x8704_126_0)
      = arg6.view.readCov (stores x1 68 le_rfl) (Rect.unit ![126, 0] ![1, 8704] inb_S128x8704_S1x8704_126_0).toLoadRect := by
    rw [View.readCov_eq_canon', canon_stores_all]
  have hall : transposed x1
      = arg6.view.readCov (stores x1 68 le_rfl) (Rect.unit ![0, 0] ![128, 8704] inb_S128x8704_S128x8704_0_0).toLoadRect := by
    rw [View.readCov_eq_canon', canon_stores_all]
    exact (View.ld_unit_zero (S := S128x8704) hz2 _ (transposed x1)).symm
  unfold pointOut
  rw [hrow, hall]
  simp only [View.ld_unit_zero (S := S256x128) hz2, View.ld_unit_zero (S := S8704x128) hz2]
  rfl

end Cert.Knn

end
-- ==== Proof.Array.lean ====
/-
  What the first program's host lines prepare for the kernel: the patches, the table the kernel reads, its weights.
-/
module

public import proofs.«01_k».proof.Proof.Points
public import Idealize.ShloMosaic.Lib.StableHlo.Run
public import Idealize.ShloMosaic.Lib.Claim

@[expose] public section

set_option maxRecDepth 16384

noncomputable section

namespace Cert.Knn

open Idealize.ShloMosaic Idealize.ShloMosaic.Pipeline Cert.KernelIdeal Cert.KernelIdeal.Gen Idealize.SL.Sem
open Idealize.ShloMosaic.TcCoe Idealize.ShloMosaic.StableHlo

variable (m : (ℓ : Loc nD τ sig) → Buf (Elt Ideal) ℓ)

/-- The buffers after the host lines up to the normalised image. -/
abbrev atImage (c : Dev nD) : Valuation τ sig (Elt Ideal) := after (hostOps0.take 14) (fun b => m (c, b))

/-- The buffers after the host lines up to the patches' squared lengths. -/
abbrev atPatches (c : Dev nD) : Valuation τ sig (Elt Ideal) := after (hostOps0.drop 14) (atImage m c)

/-- The buffers the kernel finds, from those after the patches' squared lengths. -/
theorem V_eq (c : Dev nD) (b : Ref sig .tc) : V m c b
    = after hostOps0_6 (after hostOps0_5 (after hostOps0_4 (after hostOps0_3 (after hostOps0_2 (after hostOps0_1 (atPatches m c)))))) b := rfl

/-- The zero the integer constant stands for. -/
abbrev zeroWord : FVec Ideal S_ .f32 := sitofp .f32 (constantI S_ 32 0#32)

/-- The table of patches the kernel reads: the patches, 51 zero columns, their squared lengths, a column of ones. -/
def table (p : FVec Ideal S8464x75 .f32) (sq : FVec Ideal S8464 .f32) (z : IVec S_ 32) : FVec Ideal S8704x128 .bf16 :=
  truncf .bf16 (concatenate S8704x128 1
    [⟨S8704x75, pad S8704x75 ![0, 0] ![240, 0] ![0, 0] p (sitofp .f32 z) pads_S8464x75_S8704x75_02400_000 h_S_⟩,
     ⟨S8704x51, broadcastInDim S8704x51 ![] bcast_S_S8704x51 (constant S_ .f32 0x00000000#32)⟩,
     ⟨S8704x1, broadcastInDim S8704x1 ![0] bcast_S8704_S8704x1_0
        (pad S8704 ![0] ![240] ![0] sq (constant S_ .f32 0x7149F2CA#32) pads_S8464_S8704_02400 h_S_)⟩,
     ⟨S8704x1, broadcastInDim S8704x1 ![] bcast_S_S8704x1 (constant S_ .f32 0x3F800000#32)⟩]
    concatenates_S8704x75_S8704x51_S8704x1_S8704x1_S8704x128_d1) bitsLt_bf16_f32

theorem table_of (U : Valuation τ sig (Elt Ideal)) :
    after hostOps0_6 (after hostOps0_5 (after hostOps0_4 (after hostOps0_3 (after hostOps0_2 (after hostOps0_1 U))))) (Proc.devRef .tc main_v74)
    = table (U (Proc.devRef .tc main_v65)) (U (Proc.devRef .tc main_v67)) (U (Proc.devRef .tc main_c)) := by
  rfl

theorem weights_of (U : Valuation τ sig (Elt Ideal)) :
    after hostOps0_6 (after hostOps0_5 (after hostOps0_4 (after hostOps0_3 (after hostOps0_2 (after hostOps0_1 U))))) (Proc.devRef .tc main_v77)
    = broadcastInDim S8x128 ![0, 1] bcast_S1x128_S8x128_0_1 (broadcastInDim S1x128 ![1] bcast_S128_S1x128_1
      (pad S128 ![0] ![53] ![0] (U (Proc.devRef .tc main_arg1)) zeroWord pads_S75_S128_0530 h_S_)) := by
  rfl

theorem beta_of (U : Valuation τ sig (Elt Ideal)) :
    after hostOps0_6 (after hostOps0_5 (after hostOps0_4 (after hostOps0_3 (after hostOps0_2 (after hostOps0_1 U))))) (Proc.devRef .tc main_v78)
    = broadcastInDim S8x128 ![] bcast_S_S8x128 (U (Proc.devRef .tc main_arg2)) := by
  rfl

end Cert.Knn
-- ==== Proof.Patches.lean ====
/-
  The array of all patches: 25 shifted copies of the image, stacked and turned so that a row is one patch.  The kernel's
  host lines cut the copies out of a three-axis view of the image and the reference out of the image itself; both give
  one array.
-/
module

public import proofs.«01_k».proof.Proof.Array
public import proofs.«01_k».proof.Proof.Gen.ReferenceIdeal.Run

@[expose] public section

set_option maxRecDepth 16384

noncomputable section

namespace Cert.Knn

open Idealize.ShloMosaic Idealize.ShloMosaic.Pipeline Cert.KernelIdeal Cert.KernelIdeal.Gen Idealize.SL.Sem
open Idealize.ShloMosaic.TcCoe Idealize.ShloMosaic.StableHlo

variable (m : (ℓ : Loc nD τ sig) → Buf (Elt Ideal) ℓ)

/-- The 25 shifted copies `f di dj` stacked, the pixel axes first. -/
def stack (f : Fin 5 → Fin 5 → FVec Ideal S1x3x92x92 .f32) : FVec Ideal S92x92x3x25 .f32 :=
  transpose S92x92x3x25 [2, 3, 1, 0]
    (concatenate S25x3x92x92 0
      [⟨S16x3x92x92, concatenate S16x3x92x92 0
        [⟨S1x3x92x92, f 0 0⟩, ⟨S1x3x92x92, f 0 1⟩, ⟨S1x3x92x92, f 0 2⟩, ⟨S1x3x92x92, f 0 3⟩, ⟨S1x3x92x92, f 0 4⟩,
         ⟨S1x3x92x92, f 1 0⟩, ⟨S1x3x92x92, f 1 1⟩, ⟨S1x3x92x92, f 1 2⟩, ⟨S1x3x92x92, f 1 3⟩, ⟨S1x3x92x92, f 1 4⟩,
         ⟨S1x3x92x92, f 2 0⟩, ⟨S1x3x92x92, f 2 1⟩, ⟨S1x3x92x92, f 2 2⟩, ⟨S1x3x92x92, f 2 3⟩, ⟨S1x3x92x92, f 2 4⟩,
         ⟨S1x3x92x92, f 3 0⟩]
        concatenates_S1x3x92x92_S1x3x92x92_S1x3x92x92_S1x3x92x92_S1x3x92x92_S1x3x92x92_S1x3x92x92_S1x3x92x92_S1x3x92x92_S1x3x92x92_S1x3x92x92_S1x3x92x92_S1x3x92x92_S1x3x92x92_S1x3x92x92_S1x3x92x92_S16x3x92x92_d0⟩,
       ⟨S9x3x92x92, concatenate S9x3x92x92 0
        [⟨S1x3x92x92, f 3 1⟩, ⟨S1x3x92x92, f 3 2⟩, ⟨S1x3x92x92, f 3 3⟩, ⟨S1x3x92x92, f 3 4⟩, ⟨S1x3x92x92, f 4 0⟩,
         ⟨S1x3x92x92, f 4 1⟩, ⟨S1x3x92x92, f 4 2⟩, ⟨S1x3x92x92, f 4 3⟩, ⟨S1x3x92x92, f 4 4⟩]
        concatenates_S1x3x92x92_S1x3x92x92_S1x3x92x92_S1x3x92x92_S1x3x92x92_S1x3x92x92_S1x3x92x92_S1x3x92x92_S1x3x92x92_S9x3x92x92_d0⟩]
      concatenates_S16x3x92x92_S9x3x92x92_S25x3x92x92_d0)
    transposes_S25x3x92x92_S92x92x3x25_2_3_1_0

theorem slices_image : ∀ i j : Fin 5, S1x3x96x96.Slices ![0, 0, i.val, j.val] S1x3x92x92 := by decide

theorem slices_view : ∀ i j : Fin 5, S3x96x96.Slices ![0, i.val, j.val] S3x92x92 := by decide

/-- A shifted copy cut out of the image itself. -/
def copyOf (X : FVec Ideal S1x3x96x96 .f32) (i j : Fin 5) : FVec Ideal S1x3x92x92 .f32 :=
  broadcastInDim S1x3x92x92 ![1, 2, 3] bcast_S3x92x92_S1x3x92x92_1_2_3
    (shapeCast S3x92x92 (extractStridedSlice S1x3x92x92 ![0, 0, i.val, j.val] X (slices_image i j)) (by decide))

/-- A shifted copy cut out of the three-axis view. -/
def copyOfView (X : FVec Ideal S3x96x96 .f32) (i j : Fin 5) : FVec Ideal S1x3x92x92 .f32 :=
  broadcastInDim S1x3x92x92 ![1, 2, 3] bcast_S3x92x92_S1x3x92x92_1_2_3
    (extractStridedSlice S3x92x92 ![0, i.val, j.val] X (slices_view i j))

/-- The patches of an image, one a row. -/
def patches (X : FVec Ideal S1x3x96x96 .f32) : FVec Ideal S8464x75 .f32 :=
  shapeCast S8464x75 (stack (copyOf X)) shapeCasts_S92x92x3x25_S8464x75

/-- The normalised image, its channel means taken off. -/
def image (a : FVec Ideal S1x3x96x96 .f32) : FVec Ideal S1x3x96x96 .f32 :=
  let x := Host.divf (subf a (broadcastInDim S1x3x96x96 ![] bcast_S_S1x3x96x96 (constant S_ .f32 0x3F000000#32)))
    (broadcastInDim S1x3x96x96 ![] bcast_S_S1x3x96x96 (constant S_ .f32 0x3F000000#32))
  subf x (broadcastInDim S1x3x96x96 ![0, 1, 2, 3] bcast_S1x3x1x1_S1x3x96x96_0_1_2_3
    (Host.divf (broadcastInDim S1x3x1x1 ![0, 1] bcast_S1x3_S1x3x1x1_0_1
      (Host.reduceAdd x (constant S_ .f32 0x00000000#32) reducesTo_S1x3x96x96_S1x3_d2_3 h_S_))
      (broadcastInDim S1x3x1x1 ![] bcast_S_S1x3x1x1 (constant S_ .f32 0x46100000#32))))

theorem reference_patches (V : Valuation Cert.ReferenceIdeal.τ Cert.ReferenceIdeal.sig (Elt Ideal)) :
    Cert.ReferenceIdeal.Value.res_main_v89 V = patches (image (V (Proc.devRef .tc Cert.ReferenceIdeal.main_arg0))) := rfl

theorem kernel_image (c : Dev nD) : atImage m c (Proc.devRef .tc main_v9) = image (m ((c : Thread nD τ).loc main_arg0)) := rfl

set_option maxHeartbeats 8000000 in
theorem kernel_stack (U : Valuation τ sig (Elt Ideal)) :
    after (hostOps0.drop 14) U (Proc.devRef .tc main_v65)
    = shapeCast S8464x75 (stack (copyOfView (shapeCast S3x96x96 (U (Proc.devRef .tc main_v9)) shapeCasts_S1x3x96x96_S3x96x96)))
        shapeCasts_S92x92x3x25_S8464x75 := by
  rfl

theorem kernel_squares (U : Valuation τ sig (Elt Ideal)) :
    after (hostOps0.drop 14) U (Proc.devRef .tc main_v67)
    = Host.reduceAdd (mulf (show FVec Ideal S8464x75 .f32 from after (hostOps0.drop 14) U (Proc.devRef .tc main_v65)) (show FVec Ideal S8464x75 .f32 from after (hostOps0.drop 14) U (Proc.devRef .tc main_v65)))
      (constant S_ .f32 0x00000000#32) reducesTo_S8464x75_S8464_d1 h_S_ := rfl

theorem kernel_zero (U : Valuation τ sig (Elt Ideal)) :
    after (hostOps0.drop 14) U (Proc.devRef .tc main_c) = constantI S_ 32 0#32 := rfl

/-- The two ways of cutting a copy agree. -/
theorem copyOfView_eq (X : FVec Ideal S1x3x96x96 .f32) : copyOfView (shapeCast S3x96x96 X shapeCasts_S1x3x96x96_S3x96x96) = copyOf X := by
  funext i j
  unfold copyOfView copyOf
  congr 1
  funext k
  pointwise

/-- The patches the kernel's host lines prepare. -/
theorem kernel_patches (c : Dev nD) : atPatches m c (Proc.devRef .tc main_v65) = patches (image (m ((c : Thread nD τ).loc main_arg0))) := by
  refine (kernel_stack _).trans ?_
  rw [copyOfView_eq]
  rfl

end Cert.Knn
-- ==== Proof.Bounded.lean ====
/-
  Every entry of the patches is an entry of the image, and the image's entries are real and at most four million in size.
-/
module

public import proofs.«01_k».proof.Proof.Patches

@[expose] public section

set_option maxRecDepth 16384

noncomputable section

namespace Cert.Knn

open Idealize.ShloMosaic Idealize.ShloMosaic.Pipeline Cert.KernelIdeal Cert.KernelIdeal.Gen

/-- What holds of every entry of the image holds of every entry of the patches. -/
theorem patches_forall {P : EReal → Prop} {X : FVec Ideal S1x3x96x96 .f32} (h : ∀ i, P (X i)) (r : Fin 8464) (e : Fin 75) :
    P (patches X (ix2 r e)) := by
  have hc : ∀ i j k, P (copyOf X i j k) := fun _ _ _ => h _
  have hs : ∀ k, P (stack (copyOf X) k) := fun k => by
    unfold stack transpose
    refine concatenate_forall _ _ _ _ (fun p hp i => ?_) _
    simp only [List.mem_cons, List.not_mem_nil, or_false] at hp
    rcases hp with rfl | rfl <;> dsimp only at i ⊢
    · show P (concatenate _ _ _ _ i)
      refine concatenate_forall _ _ _ _ (fun p hp i => ?_) _
      simp only [List.mem_cons, List.not_mem_nil, or_false] at hp
      rcases hp with rfl | rfl | rfl | rfl | rfl | rfl | rfl | rfl | rfl | rfl | rfl | rfl | rfl | rfl | rfl | rfl <;> exact hc _ _ _
    · show P (concatenate _ _ _ _ i)
      refine concatenate_forall _ _ _ _ (fun p hp i => ?_) _
      simp only [List.mem_cons, List.not_mem_nil, or_false] at hp
      rcases hp with rfl | rfl | rfl | rfl | rfl | rfl | rfl | rfl | rfl <;> exact hc _ _ _
  exact hs _

/-- A real number of size at most `K`. -/
def Small (K : ℝ) (x : EReal) : Prop := ∃ r : ℝ, x = r ∧ |r| ≤ K

theorem Small.sub {K L : ℝ} {x y : EReal} (hx : Small K x) (hy : Small L y) : Small (K + L) (x - y) := by
  obtain ⟨a, rfl, ha⟩ := hx
  obtain ⟨b, rfl, hb⟩ := hy
  exact ⟨a - b, by push_cast; rfl, (abs_sub a b).trans (add_le_add ha hb)⟩

theorem Small.add {K L : ℝ} {x y : EReal} (hx : Small K x) (hy : Small L y) : Small (K + L) (x + y) := by
  obtain ⟨a, rfl, ha⟩ := hx
  obtain ⟨b, rfl, hb⟩ := hy
  exact ⟨a + b, by push_cast; rfl, (abs_add_le a b).trans (add_le_add ha hb)⟩

theorem Small.mul {K L : ℝ} {x y : EReal} (hx : Small K x) (hy : Small L y) : Small (K * L) (x * y) := by
  obtain ⟨a, rfl, ha⟩ := hx
  obtain ⟨b, rfl, hb⟩ := hy
  refine ⟨a * b, by push_cast; rfl, ?_⟩
  rw [abs_mul]
  exact mul_le_mul ha hb (abs_nonneg _) ((abs_nonneg _).trans ha)

theorem Small.div {K d : ℝ} {x : EReal} (hx : Small K x) (hd : 0 < d) : Small (K * (1 / d)) (Ideal.div x (d : EReal)) := by
  rw [Ideal.div_coe hd.ne']
  exact hx.mul ⟨1 / d, rfl, le_of_eq (abs_of_pos (by positivity))⟩

theorem Small.mono {K L : ℝ} {x : EReal} (hx : Small K x) (h : K ≤ L) : Small L x :=
  hx.imp fun _ hr => ⟨hr.1, hr.2.trans h⟩

theorem Small.sum {n : Nat} {K : ℝ} {f : Fin n → EReal} (h : ∀ i, Small K (f i)) : Small (n * K) (∑ i, f i) := by
  choose r hr hb using h
  refine ⟨∑ i, r i, ?_, ?_⟩
  · rw [← coe_sum]
    exact Finset.sum_congr rfl fun i _ => hr i
  · refine (Finset.abs_sum_le_sum_abs _ _).trans ?_
    refine (Finset.sum_le_sum fun i _ => hb i).trans ?_
    simp

theorem ofBits_half : Ideal.ofBits .f32 1056964608#32 = ((1 / 2 : ℝ) : EReal) := by
  simp [Ideal.ofBits, Ideal.ieee, -EReal.coe_mul, -EReal.coe_neg]
  norm_num

theorem ofBits_pixels : Ideal.ofBits .f32 1175453696#32 = ((9216 : ℝ) : EReal) := by
  simp [Ideal.ofBits, Ideal.ieee, -EReal.coe_mul, -EReal.coe_neg]
  norm_num

/-- The image's entries are real and small where the input's are. -/
theorem image_small {a : FVec Ideal S1x3x96x96 .f32} (ha : ∀ i, Small 1000000 (a i)) (i : S1x3x96x96.Idx) :
    Small 4000002 (image a i) := by
  have hx : ∀ j, Small 2000001 (Ideal.div (a j - Ideal.ofBits .f32 1056964608#32) (Ideal.ofBits .f32 1056964608#32)) := fun j => by
    rw [ofBits_half]
    refine (((ha j).sub (L := 1 / 2) ⟨1 / 2, rfl, ?_⟩).div (by norm_num)).mono ?_
    · exact le_of_eq (abs_of_pos (by norm_num))
    · norm_num
  unfold image
  dsimp only
  pointwise
  refine ((hx i).sub (L := 2000001) ?_).mono (by norm_num)
  rw [ofBits_pixels]
  refine Small.mono ((Small.sum fun y => Small.sum fun z => hx _).div (by norm_num)) ?_
  norm_num

/-- The patches' entries are real and small where the input's are. -/
theorem patches_small {a : FVec Ideal S1x3x96x96 .f32} (ha : ∀ i, Small 1000000 (a i)) (r : Fin 8464) (e : Fin 75) :
    Small 4000002 (patches (image a) (ix2 r e)) := patches_forall (image_small ha) r e

end Cert.Knn
-- ==== Proof.Sweep.lean ====
/-
  The grid's sweep: every point works from the whole table, held transposed in the scratch, and writes one tile of 256
  columns, so that the array the kernel returns is read off one point's tile.
-/
module

public import proofs.«01_k».proof.Proof.Bounded
public import Idealize.ShloMosaic.Lib.Pipeline.ValueKit

@[expose] public section

set_option maxRecDepth 16384

noncomputable section

namespace Cert.Knn

open Idealize.ShloMosaic Idealize.ShloMosaic.Pipeline Cert.KernelIdeal Cert.KernelIdeal.Gen Idealize.SL.Sem
open Idealize.ShloMosaic.TcCoe Idealize.ShloMosaic.StableHlo

variable (m : (ℓ : Loc nD τ sig) → Buf (Elt Ideal) ℓ)

/-- The table the kernel finds. -/
abbrev tbl (c : Dev nD) : Vec Ideal S8704x128 .bf16 := V m c main_v74

theorem idx_0 : ∀ t : Fin cfg0.N, win0_0.index t 0 = t.val ∧ win0_0.index t 1 = 0 := by decide
theorem idx_1 : ∀ t : Fin cfg0.N, win0_1.index t 0 = 0 ∧ win0_1.index t 1 = 0 := by decide
theorem idx_2 : ∀ t : Fin cfg0.N, win0_2.index t 0 = 0 ∧ win0_2.index t 1 = 0 := by decide
theorem idx_3 : ∀ t : Fin cfg0.N, win0_3.index t 0 = 0 ∧ win0_3.index t 1 = 0 := by decide

theorem block_1 (c : Dev nD) (t : Fin cfg0.N) : (iblk m c 1 t : Vec Ideal S8704x128 .bf16) = tbl m c := by
  funext j
  unfold iblk
  rw [View.read_apply]
  show V m c main_v74 _ = V m c main_v74 _
  congr 1
  funext a
  apply Fin.ext
  match a with
  | ⟨0, _⟩ => show win0_1.index t 0 * 8704 + 1 * (j 0).val = (j 0).val; rw [(idx_1 t).1]; omega
  | ⟨1, _⟩ => show win0_1.index t 1 * 128 + 1 * (j 1).val = (j 1).val; rw [(idx_1 t).2]; omega

theorem block_2 (c : Dev nD) (t : Fin cfg0.N) : (iblk m c 2 t : Vec Ideal S8x128 .f32) = V m c main_v77 := by
  funext j
  unfold iblk
  rw [View.read_apply]
  show V m c main_v77 _ = V m c main_v77 _
  congr 1
  funext a
  apply Fin.ext
  match a with
  | ⟨0, _⟩ => show win0_2.index t 0 * 8 + 1 * (j 0).val = (j 0).val; rw [(idx_2 t).1]; omega
  | ⟨1, _⟩ => show win0_2.index t 1 * 128 + 1 * (j 1).val = (j 1).val; rw [(idx_2 t).2]; omega

theorem block_3 (c : Dev nD) (t : Fin cfg0.N) : (iblk m c 3 t : Vec Ideal S8x128 .f32) = V m c main_v78 := by
  funext j
  unfold iblk
  rw [View.read_apply]
  show V m c main_v78 _ = V m c main_v78 _
  congr 1
  funext a
  apply Fin.ext
  match a with
  | ⟨0, _⟩ => show win0_3.index t 0 * 8 + 1 * (j 0).val = (j 0).val; rw [(idx_3 t).1]; omega
  | ⟨1, _⟩ => show win0_3.index t 1 * 128 + 1 * (j 1).val = (j 1).val; rw [(idx_3 t).2]; omega

/-- Row `i` of the tile point `t` is given is row `256 t + i` of the table. -/
theorem block_0 (c : Dev nD) (t : Fin cfg0.N) (i : Fin 256) (l : Fin 128) (r : Fin 8704) (hr : r.val = 256 * t.val + i.val) :
    (iblk m c 0 t : Vec Ideal S256x128 .bf16) (ix2 i l) = tbl m c (ix2 r l) := by
  unfold iblk
  rw [View.read_apply]
  show V m c main_v74 _ = V m c main_v74 _
  congr 1
  funext a
  apply Fin.ext
  match a with
  | ⟨0, _⟩ => show win0_0.index t 0 * 256 + 1 * i.val = r.val; rw [(idx_0 t).1]; omega
  | ⟨1, _⟩ => show win0_0.index t 1 * 128 + 1 * l.val = l.val; rw [(idx_0 t).2]; omega

/-- What point `n` leaves: its tile, and the table transposed. -/
theorem point_eq (c : Dev nD) (n : ℕ) (hn : n < cfg0.N) :
    outsAt0 m c n hn = (pointOut (iblk m c 0 ⟨n, hn⟩) (transposed (tbl m c)) (V m c main_v77) (V m c main_v78) (tbl m c), transposed (tbl m c)) := by
  induction n with
  | zero =>
    rw [outsAt0_A m c ⟨0, hn⟩ rfl, out_A, scratch_A, block_1, block_2, block_3]
  | succ n ih =>
    have hN : cfg0.N = 34 := by decide
    rw [outsAt0_B m c ⟨n + 1, hn⟩ (by show ¬(n + 1) % 34 = 0; omega), out_B, block_1, block_2, block_3]
    show (_, (outsAt0 m c n _).2) = _
    simp only [Nat.add_sub_cancel, ih (Nat.lt_of_succ_lt hn)]

/-- The kernel's distance from row `r` of the table to its row `k`. -/
def score (T : Vec Ideal S8704x128 .bf16) (r k : Fin 8704) : EReal :=
  distEntry (fun l => T (ix2 r l)) (fun l => T (ix2 k l)) (T (ix2 k 126))

/-- One point's tile at `(e, i)`, where row `i` of its operand is row `r` of the table. -/
theorem point_apply (x0 : Vec Ideal S256x128 .bf16) (T : Vec Ideal S8704x128 .bf16) (x2 x3 : Vec Ideal S8x128 .f32) (e : Fin 128)
    (i : Fin 256) (r : Fin 8704) (h0 : ∀ l, x0 (ix2 i l) = T (ix2 r l)) : ∃ mm, LaneMin (score T r) mm ∧
    pointOut x0 (transposed T) x2 x3 T (ix2 e i) = kernelEntry (score T r) (fun k => T (ix2 k e)) (fun k => T (ix2 k 127)) mm
      (x3 (ix2 0 0)) (x2 (ix2 0 e)) := by
  have hs : (fun k => k0_pay79 x0 (transposed T) (View.ld (transposed T) (Rect.unit ![126, 0] ![1, 8704] inb_S128x8704_S1x8704_126_0))
      (ix2 i k)) = score T r := by
    funext k
    rw [dist_apply]
    unfold score
    congr 1
    · funext l
      exact h0 l
    · show T _ = T _
      congr 1
      funext a
      apply Fin.ext
      match a with
      | ⟨0, _⟩ => show 0 + 1 * k.val = k.val; omega
      | ⟨1, _⟩ => rfl
  refine ⟨_, hs ▸ mins_laneMin _ i, ?_⟩
  unfold pointOut
  rw [tileOut_apply, hs]
  congr 1
  · show x3 _ = x3 _
    congr 1
    funext a
    apply Fin.ext
    match a with
    | ⟨0, _⟩ => rfl
    | ⟨1, _⟩ => rfl
  · show x2 _ = x2 _
    congr 1
    funext a
    apply Fin.ext
    match a with
    | ⟨0, _⟩ => rfl
    | ⟨1, _⟩ => show 0 + 1 * e.val = e.val; omega

/-- What grid point `t` writes back lies at the columns `256 t …`. -/
theorem index_4 : ∀ t : Fin cfg0.N, win0_4.index t 0 = 0 ∧ win0_4.index t 1 = t.val := by decide +kernel

/-- Every column of the returned array is one that some grid point leaves. -/
theorem selected_at (c : Dev nD) (i : S128x8704.Idx) : ∃ (t : Fin cfg0.N) (b : Fin 256), (i 1).val = 256 * t.val + b.val ∧
    (selected m c : Vec Ideal S128x8704 .f32) i = (outsAt0 m c t.val t.isLt).1 (ix2 (i 0) b) := by
  refine (dat0 m c).arrAt_forall_of_covers 4 (fun i v => ∃ (t : Fin cfg0.N) (b : Fin 256), ((i : S128x8704.Idx) 1).val = 256 * t.val + b.val ∧
    v = (outsAt0 m c t.val t.isLt).1 (ix2 ((i : S128x8704.Idx) 0) b)) (by decide +kernel) (fun t _ y => ?_) i
  obtain ⟨h0, h1⟩ := index_4 t
  have e0 : (((cfg0.win 4).blk t).view.emb y) 0 = y 0 := by
    apply Fin.ext
    blk_simp [h0]
  have e1 : ((((cfg0.win 4).blk t).view.emb y) 1).val = 256 * t.val + (y 1).val := by
    blk_simp [h1]
    omega
  refine ⟨t, y 1, e1, ?_⟩
  rw [after0_4]
  show (outsAt0 m c t.val t.isLt).1 y = _
  refine congrArg (outsAt0 m c t.val t.isLt).1 ((eq_ix2 (y : S128x256.Idx)).trans ?_)
  exact congrArg (fun a : Fin 128 => (ix2 a (y 1) : S128x256.Idx)) e0.symm

/-- The array the kernel returns at `(e, r)`, off the table. -/
theorem array_eq (c : Dev nD) (e : Fin 128) (r : Fin 8704) : ∃ mm, LaneMin (score (tbl m c) r) mm ∧
    (selected m c : Vec Ideal S128x8704 .f32) (ix2 e r) = kernelEntry (score (tbl m c) r) (fun k => tbl m c (ix2 k e)) (fun k => tbl m c (ix2 k 127)) mm
      ((V m c main_v78 : Vec Ideal S8x128 .f32) (ix2 0 0)) ((V m c main_v77 : Vec Ideal S8x128 .f32) (ix2 0 e)) := by
  obtain ⟨t, b, hr, hs⟩ := selected_at m c (ix2 e r)
  obtain ⟨mm, h1, h2⟩ := point_apply (iblk m c 0 t) (tbl m c) (V m c main_v77) (V m c main_v78) e b r fun l => block_0 m c t _ l r hr
  refine ⟨mm, h1, hs.trans ?_⟩
  rw [point_eq]
  exact h2

end Cert.Knn
-- ==== Proof.Table.lean ====
/-
  The table the kernel reads, entry by entry: the patches in its first 75 columns, their squared lengths in column 126,
  ones in column 127, and below the patches' rows zeros and the far distance 10^30.
-/
module

public import proofs.«01_k».proof.Proof.Sweep

@[expose] public section

set_option maxRecDepth 16384

noncomputable section

namespace Cert.Knn

open Idealize.ShloMosaic Idealize.ShloMosaic.Pipeline Cert.KernelIdeal Cert.KernelIdeal.Gen Idealize.SL.Sem
open Idealize.ShloMosaic.TcCoe Idealize.ShloMosaic.StableHlo

variable (p : FVec Ideal S8464x75 .f32) (sq : FVec Ideal S8464 .f32)

/-- A row's squared length. -/
def squared (r : Fin 8464) : EReal := ∑ e, p (ix2 r e) * p (ix2 r e)

theorem far_eq : Ideal.ofBits .f32 0x7149F2CA#32 = ((1000000015047466219876688855040 : ℝ) : EReal) := by
  simp [Ideal.ofBits, Ideal.ieee, -EReal.coe_mul, -EReal.coe_neg]
  norm_num

theorem squares_apply (r : Fin 8464) :
    Host.reduceAdd (mulf p p) (constant S_ .f32 0x00000000#32) reducesTo_S8464x75_S8464_d1 h_S_ (ix1 r) = squared p r := by
  unfold squared
  pointwise

theorem zero_word : (FloatOps.sitofp .f32 0#32 : Ideal .f32) = 0 := by
  show (((0#32 : BitVec 32).toInt : ℝ) : EReal) = 0
  simp

/-- Column 126: the squared length of a patch, or the far distance. -/
theorem table_far (k : Fin 8704) : table p sq (constantI S_ 32 0#32) (ix2 k 126)
    = if h : k.val < 8464 then sq (ix1 ⟨k.val, h⟩) else ((1000000015047466219876688855040 : ℝ) : EReal) := by
  unfold table
  pointwise
  rw [far_eq]

theorem table_one (k : Fin 8704) : table p sq (constantI S_ 32 0#32) (ix2 k 127) = 1 := by
  unfold table
  pointwise

/-- The first 75 columns: the patches, and zeros below them. -/
theorem table_patch (k : Fin 8704) (l : Fin 128) (hl : l.val < 75) : table p sq (constantI S_ 32 0#32) (ix2 k l)
    = if h : k.val < 8464 then p (ix2 ⟨k.val, h⟩ ⟨l.val, hl⟩) else 0 := by
  unfold table
  pointwise
  simp only [hl, dif_pos, and_true]
  split <;> first | rfl | exact zero_word

/-- The patch weights, zeros beyond the 75th. -/
theorem weights_apply (pw : FVec Ideal S75 .f32) (e : Fin 128) :
    broadcastInDim S8x128 ![0, 1] bcast_S1x128_S8x128_0_1 (broadcastInDim S1x128 ![1] bcast_S128_S1x128_1
      (pad S128 ![0] ![53] ![0] pw zeroWord pads_S75_S128_0530 h_S_)) (ix2 0 e) = if h : e.val < 75 then pw (ix1 ⟨e.val, h⟩) else 0 := by
  pointwise
  split <;> first | rfl | exact zero_word

end Cert.Knn
-- ==== Proof.Sorted.lean ====
/-
  The k greatest entries of each row of a square array, as the host's top-k lists them: the row's entries in the order
  of one sorting permutation, its indices beside them.
-/
module

public import proofs.«01_k».proof.Proof.Table
public import Idealize.ShloMosaic.Lib.SortFacts

@[expose] public section

set_option maxRecDepth 16384

noncomputable section

namespace Cert.Knn

open Idealize.ShloMosaic

abbrev Square : Shape := ⟨2, ![8464, 8464]⟩

abbrev Columns (n : Nat) : Shape := ⟨2, ![8464, n]⟩

variable (x : FVec Ideal Square .f32) (r : Fin 8464)

/-- The permutation that lists row `r` from its greatest entry down. -/
def order : Fin 8464 → Fin 8464 :=
  sortedFrom fun k k' => FloatOps.cmpfTotal .gt (x (ix2 r k)) (x (ix2 r k')) == 1#1

theorem order_surjective : Function.Surjective (order x r) := sortedFrom_surjective _

theorem gt_iff (a b : Ideal .f32) : (FloatOps.cmpfTotal .gt a b == 1#1) = decide (b < a) := by
  show (Ideal.cmpTotal .gt a b == 1#1) = _
  unfold Ideal.cmpTotal
  simp only [Ideal.cmp, CmpDirection.ordered]
  by_cases h : b < a <;> simp [h]

/-- The row's entries go down along the order. -/
theorem order_antitone (i j : Fin 8464) (h : i < j) : x (ix2 r (order x r j)) ≤ x (ix2 r (order x r i)) := by
  have h := sortedFrom_noInversion (fun k k' => FloatOps.cmpfTotal .gt (x (ix2 r k)) (x (ix2 r k')) == 1#1)
    (fun k k' => FloatOps.cmpfTotal .gt (x (ix2 r k)) (x (ix2 r k')) == 1#1)
    (fun a b => by rw [gt_iff, gt_iff, decide_eq_true_eq, decide_eq_false_iff_not, not_lt]; exact le_of_lt)
    (fun _ _ h => h)
    (fun a b c => by
      rw [gt_iff, gt_iff, gt_iff, decide_eq_false_iff_not, decide_eq_false_iff_not, decide_eq_false_iff_not, not_lt, not_lt, not_lt]
      exact fun h1 h2 => h1.trans h2) i j h
  rw [gt_iff, decide_eq_false_iff_not, not_lt] at h
  exact h

theorem along_col (j k : Fin 8464) (h : 1 < Square.rank) : (ix2 r j : Square.Idx).along ⟨1, h⟩ k = ix2 r k := by
  funext a
  match a with
  | ⟨0, _⟩ => rfl
  | ⟨1, _⟩ => rfl

theorem slice_index {n : Nat} (h : Square.Slices (fun _ => 0) (Columns n)) (hn : n ≤ 8464) (j : Fin n) {α : Type} (y : Square.Idx → α) :
    extractStridedSlice (Columns n) (fun _ => 0) y h (ix2 r j) = y (ix2 r (j.castLE hn)) := by
  unfold extractStridedSlice
  congr 1
  funext a
  apply Fin.ext
  fin_cases a
  · show 0 + r.val = r.val
    omega
  · show 0 + j.val = j.val
    omega

/-- The values listed. -/
theorem topK_value {n : Nat} (h : Square.Slices (fun _ => 0) (Columns n)) (hn : n ≤ 8464) (j : Fin n) :
    (Host.topK (Columns n) 1 (FloatOps.cmpfTotal .gt) x h).1 (ix2 r j) = x (ix2 r (order x r (j.castLE hn))) := by
  unfold Host.topK
  dsimp only
  rw [slice_index r h hn]
  unfold Host.sort2
  rw [dif_pos (by decide)]
  refine congrArg x ((along_col r _ _ _).trans (congrArg (ix2 r) ?_))
  refine congrFun (congrArg sortedFrom (funext fun k => funext fun k' => ?_)) (j.castLE hn)
  dsimp only
  rw [along_col, along_col]

/-- The indices listed. -/
theorem topK_index {n : Nat} (h : Square.Slices (fun _ => 0) (Columns n)) (hn : n ≤ 8464) (j : Fin n) :
    (Host.topK (Columns n) 1 (FloatOps.cmpfTotal .gt) x h).2 (ix2 r j) = BitVec.ofNat 32 (order x r (j.castLE hn)).val := by
  unfold Host.topK
  dsimp only
  rw [slice_index r h hn]
  unfold Host.sort2
  rw [dif_pos (by decide)]
  dsimp only
  rw [dif_pos (by decide)]
  refine (congrArg (iotaInDim Square 32 ⟨1, by decide⟩) (along_col r _ _ _)).trans ?_
  refine congrArg (fun a : Fin 8464 => BitVec.ofNat 32 a.val) ?_
  refine congrFun (congrArg sortedFrom (funext fun k => funext fun k' => ?_)) (j.castLE hn)
  rw [along_col, along_col]

end Cert.Knn
-- ==== Proof.Distances.lean ====
/-
  The distances between patches, with the sign turned: as the reference writes them, over one axis of 75 entries, and as
  the precondition writes them, over an axis of channels and one of shifts.  Both are one array.
-/
module

public import proofs.«01_k».proof.Proof.Sorted
public import proofs.«01_k».proof.Pre_separated

@[expose] public section

set_option maxRecDepth 16384

noncomputable section

namespace Cert.Knn

open Idealize.ShloMosaic Idealize.ShloMosaic.Pipeline Cert.KernelIdeal Cert.KernelIdeal.Gen Idealize.SL.Sem
open Idealize.ShloMosaic.TcCoe Idealize.ShloMosaic.StableHlo

/-- The negated distances, from the patches. -/
def minus (p : FVec Ideal S8464x75 .f32) : FVec Ideal Square .f32 :=
  let q : FVec Ideal S8464 .f32 := Host.reduceAdd (mulf p p) (constant S_ .f32 0x00000000#32) Cert.ReferenceIdeal.Gen.reducesTo_S8464x75_S8464_d1 Cert.ReferenceIdeal.Gen.h_S_
  Host.negf (subf
    (addf (broadcastInDim Square ![0, 1] Cert.ReferenceIdeal.Gen.bcast_S8464x1_S8464x8464_0_1 (broadcastInDim (⟨2, ![8464, 1]⟩ : Shape) ![0] Cert.ReferenceIdeal.Gen.bcast_S8464_S8464x1_0 q))
      (broadcastInDim Square ![0, 1] Cert.ReferenceIdeal.Gen.bcast_S1x8464_S8464x8464_0_1 (broadcastInDim (⟨2, ![1, 8464]⟩ : Shape) ![1] Cert.ReferenceIdeal.Gen.bcast_S8464_S1x8464_1 q)))
    (mulf (broadcastInDim Square ![] Cert.ReferenceIdeal.Gen.bcast_S_S8464x8464 (constant S_ .f32 0x40000000#32))
      (Host.dotGeneral Cert.ReferenceIdeal.dot_S8464x75_S75x8464_S8464x8464_1_0_0_1_n_n none p
        (transpose (⟨2, ![75, 8464]⟩ : Shape) [1, 0] p Cert.ReferenceIdeal.Gen.transposes_S8464x75_S75x8464_1_0))))

theorem reference_minus (V : Valuation Cert.ReferenceIdeal.τ Cert.ReferenceIdeal.sig (Elt Ideal)) :
    Cert.ReferenceIdeal.Value.res_main_v102 V = minus (Cert.ReferenceIdeal.Value.res_main_v89 V) := rfl

theorem two_word : Ideal.ofBits .f32 1073741824#32 = ((2 : ℝ) : EReal) := by
  simp [Ideal.ofBits, Ideal.ieee, -EReal.coe_mul, -EReal.coe_neg]
  norm_num

/-- An entry of it: the two squared norms less twice the inner product, negated. -/
theorem minus_apply (p : FVec Ideal S8464x75 .f32) (r k : Fin 8464) :
    minus p (ix2 r k) = -((squared p r + squared p k) - ((2 : ℝ) : EReal) * ∑ e, p (ix2 r e) * p (ix2 k e)) := by
  unfold minus squared
  rw [← two_word]
  pointwise

variable [Cert.Pre_separated.Facts]

/-- The same from patches of two axes. -/
def minusWide (p : FVec Ideal Cert.Pre_separated.S8464x3x25 .f32) : FVec Ideal Square .f32 :=
  let q : FVec Ideal S8464 .f32 := Host.reduceAdd (mulf p p) (constant S_ .f32 0x00000000#32) Cert.Pre_separated.Facts.reducesTo_S8464x3x25_S8464_d1_2 Cert.Pre_separated.Facts.h_S_
  Host.negf (subf
    (addf (broadcastInDim Square ![0, 1] Cert.Pre_separated.Facts.bcast_S8464x1_S8464x8464_0_1 (broadcastInDim (⟨2, ![8464, 1]⟩ : Shape) ![0] Cert.Pre_separated.Facts.bcast_S8464_S8464x1_0 q))
      (broadcastInDim Square ![0, 1] Cert.Pre_separated.Facts.bcast_S1x8464_S8464x8464_0_1 (broadcastInDim (⟨2, ![1, 8464]⟩ : Shape) ![1] Cert.Pre_separated.Facts.bcast_S8464_S1x8464_1 q)))
    (mulf (broadcastInDim Square ![] Cert.Pre_separated.Facts.bcast_S_S8464x8464 (constant S_ .f32 0x40000000#32))
      (Host.dotGeneral Cert.Pre_separated.dot_S8464x3x25_S8464x3x25_S8464x8464_12_12_0_0_n_n none p p)))

theorem minusWide_apply (p : FVec Ideal Cert.Pre_separated.S8464x3x25 .f32) (r k : Fin 8464) :
    minusWide p (ix2 r k) = -((∑ c, ∑ e, p (ix3 r c e) * p (ix3 r c e)) + (∑ c, ∑ e, p (ix3 k c e) * p (ix3 k c e))
      - ((2 : ℝ) : EReal) * ∑ c, ∑ e, p (ix3 r c e) * p (ix3 k c e)) := by
  unfold minusWide
  rw [← two_word]
  pointwise

/-- A sum over the 75 entries of a patch, by channel and shift. -/
theorem sum_patch (f : Fin 75 → EReal) : ∑ c : Fin 3, ∑ e : Fin 25, f ⟨e.val + 25 * c.val, by omega⟩ = ∑ l, f l := by
  rw [← Fintype.sum_prod_type' (f := fun (c : Fin 3) (e : Fin 25) => f ⟨e.val + 25 * c.val, by omega⟩)]
  exact (finProdFinEquiv (m := 3) (n := 25)).sum_comp f

theorem wide_entry (X : FVec Ideal S92x92x3x25 .f32) (r : Fin 8464) (c : Fin 3) (e : Fin 25) :
    shapeCast Cert.Pre_separated.S8464x3x25 X Cert.Pre_separated.Facts.shapeCasts_S92x92x3x25_S8464x3x25 (ix3 r c e)
    = shapeCast S8464x75 X shapeCasts_S92x92x3x25_S8464x75 (ix2 r ⟨e.val + 25 * c.val, by omega⟩) := by
  pointwise

/-- The two arrays of negated distances agree. -/
theorem minusWide_eq (X : FVec Ideal S92x92x3x25 .f32) :
    minusWide (shapeCast Cert.Pre_separated.S8464x3x25 X Cert.Pre_separated.Facts.shapeCasts_S92x92x3x25_S8464x3x25)
    = minus (shapeCast S8464x75 X shapeCasts_S92x92x3x25_S8464x75) := by
  funext i
  obtain ⟨r, k, rfl⟩ : ∃ r k, i = ix2 r k := ⟨i 0, i 1, by funext a; match a with | ⟨0, _⟩ => rfl | ⟨1, _⟩ => rfl⟩
  rw [minusWide_apply, minus_apply]
  unfold squared
  simp only [wide_entry, ← sum_patch]

variable (a : FVec Ideal S1x3x96x96 .f32) (pw : FVec Ideal S75 .f32) (β : FVec Ideal S_ .f32)

/-- The array the precondition sorts is the reference's. -/
theorem pre_strict : (Cert.Pre_separated.fn a pw β).2.2.1
    = cmpf .ogt (extractStridedSlice (Columns 14) ![0, 0] (Host.topK (Columns 15) 1 (FloatOps.cmpfTotal .gt) (minus (patches (image a))) Cert.Pre_separated.Facts.sliceFits_S8464x8464_S8464x15).1 Cert.Pre_separated.Facts.slices_S8464x15_S8464x14_0_0)
      (extractStridedSlice (Columns 14) ![0, 1] (Host.topK (Columns 15) 1 (FloatOps.cmpfTotal .gt) (minus (patches (image a))) Cert.Pre_separated.Facts.sliceFits_S8464x8464_S8464x15).1 Cert.Pre_separated.Facts.slices_S8464x15_S8464x14_0_1) := by
  unfold patches
  rw [← minusWide_eq]
  rfl

theorem pre_lanes : (Cert.Pre_separated.fn a pw β).2.2.2
    = (let j : IVec (Columns 14) 32 := Host.remsi (extractStridedSlice (Columns 14) ![0, 0] (Host.topK (Columns 15) 1 (FloatOps.cmpfTotal .gt) (minus (patches (image a))) Cert.Pre_separated.Facts.sliceFits_S8464x8464_S8464x15).2 Cert.Pre_separated.Facts.slices_S8464x15_S8464x14_0_0)
        (broadcastInDim (Columns 14) ![] Cert.Pre_separated.Facts.bcast_S_S8464x14 (constantI S_ 32 128#32))
      ori (noti (cmpi .slt (iotaInDim Cert.Pre_separated.S8464x14x14 32 1) (iotaInDim Cert.Pre_separated.S8464x14x14 32 2)))
        (cmpi .ne (broadcastInDim Cert.Pre_separated.S8464x14x14 ![0, 1, 2] Cert.Pre_separated.Facts.bcast_S8464x14x1_S8464x14x14_0_1_2 (broadcastInDim Cert.Pre_separated.S8464x14x1 ![0, 1] Cert.Pre_separated.Facts.bcast_S8464x14_S8464x14x1_0_1 j))
          (broadcastInDim Cert.Pre_separated.S8464x14x14 ![0, 1, 2] Cert.Pre_separated.Facts.bcast_S8464x1x14_S8464x14x14_0_1_2 (broadcastInDim Cert.Pre_separated.S8464x1x14 ![0, 2] Cert.Pre_separated.Facts.bcast_S8464x14_S8464x1x14_0_2 j)))) := by
  unfold patches
  rw [← minusWide_eq]
  rfl

end Cert.Knn
-- ==== Proof.Scores.lean ====
/-
  The kernel's scores as real numbers, and the precondition's meaning for them: the first fourteen columns of the sorted
  row are the fourteen the kernel's threshold selects.
-/
module

public import proofs.«01_k».proof.Proof.Distances

@[expose] public section

set_option maxRecDepth 16384

noncomputable section

namespace Cert.Knn

open Idealize.ShloMosaic Idealize.ShloMosaic.Pipeline Cert.KernelIdeal Cert.KernelIdeal.Gen Idealize.SL.Sem
open Idealize.ShloMosaic.TcCoe Idealize.ShloMosaic.StableHlo

/-- The inner product of two rows. -/
def inner (P : Fin 8464 → Fin 75 → ℝ) (r k : Fin 8464) : ℝ := ∑ e, P r e * P k e

/-- A score: the squared distance of row `k` from row `r`, less the squared norm of row `r`. -/
def real (P : Fin 8464 → Fin 75 → ℝ) (r k : Fin 8464) : ℝ := -2 * inner P r k + inner P k k

/-- A sum over 128 places, all but the first 75 of them zero. -/
theorem sum_first (f : Fin 75 → EReal) : (∑ l : Fin 128, if h : l.val < 75 then f ⟨l.val, h⟩ else 0) = ∑ e, f e := by
  show (∑ l : Fin (75 + 53), if h : l.val < 75 then f ⟨l.val, h⟩ else 0) = _
  rw [Fin.sum_univ_add]
  simp

variable {p : FVec Ideal S8464x75 .f32} {P : Fin 8464 → Fin 75 → ℝ} (hP : ∀ r e, p (ix2 r e) = (P r e : ℝ))

include hP

theorem squared_real (r : Fin 8464) : squared p r = (inner P r r : ℝ) := by
  unfold squared inner
  simp only [hP, ← EReal.coe_mul]
  rw [coe_sum]

theorem minus_real (r k : Fin 8464) : minus p (ix2 r k) = ((-(inner P r r + real P r k) : ℝ) : EReal) := by
  rw [minus_apply, squared_real hP, squared_real hP]
  simp only [hP, ← EReal.coe_mul]
  rw [coe_sum, ← EReal.coe_mul, ← EReal.coe_add, ← EReal.coe_sub, ← EReal.coe_neg]
  congr 1
  unfold real inner
  ring

/-- The table's rows. -/
abbrev rows (p : FVec Ideal S8464x75 .f32) (sq : FVec Ideal S8464 .f32) : FVec Ideal (⟨2, ![8704, 128]⟩ : Shape) .f32 := table p sq (constantI S_ 32 0#32)

variable {sq : FVec Ideal S8464 .f32} (hsq : ∀ k, sq (ix1 k) = squared p k)

include hsq

theorem score_near (r k : Fin 8464) :
    score (rows p sq) (r.castLE (by decide)) (k.castLE (by decide)) = (real P r k : ℝ) := by
  unfold score distEntry rows
  rw [table_far, dif_pos (show (k.castLE (by decide) : Fin 8704).val < 8464 from k.isLt), hsq]
  have h : ∀ l : Fin 128, (if l.val < 75 then rows p sq (ix2 (r.castLE (by decide)) l) * ((-2 : ℝ) : EReal) * rows p sq (ix2 (k.castLE (by decide)) l) else 0)
      = if h : l.val < 75 then ((P r ⟨l.val, h⟩ * -2 * P k ⟨l.val, h⟩ : ℝ) : EReal) else 0 := fun l => by
    split
    · next h =>
      unfold rows
      rw [table_patch _ _ _ _ h, table_patch _ _ _ _ h, dif_pos (show (r.castLE (by decide) : Fin 8704).val < 8464 from r.isLt),
        dif_pos (show (k.castLE (by decide) : Fin 8704).val < 8464 from k.isLt)]
      rw [EReal.coe_mul, EReal.coe_mul, ← hP, ← hP]
      rfl
    · rfl
  rw [Finset.sum_congr rfl fun l _ => h l, sum_first fun e => ((P r e * -2 * P k e : ℝ) : EReal), coe_sum]
  refine (congrArg (_ + ·) (squared_real hP k)).trans ?_
  rw [← EReal.coe_add]
  congr 1
  unfold real inner
  rw [Finset.mul_sum]
  congr 1
  exact Finset.sum_congr rfl fun e _ => by ring

theorem score_far (r : Fin 8464) (k : Fin 8704) (hk : 8464 ≤ k.val) :
    score (rows p sq) (r.castLE (by decide)) k = ((1000000015047466219876688855040 : ℝ) : EReal) := by
  unfold score distEntry rows
  rw [table_far, dif_neg (by omega), Finset.sum_eq_zero, zero_add]
  intro l _
  split
  · next h =>
    dsimp only
    rw [table_patch _ _ k l h, dif_neg (by omega), mul_zero]
  · rfl

omit hP hsq

/-- Scores of small rows lie below the padding. -/
theorem real_lt (hb : ∀ r e, |P r e| ≤ 4000002) (r k : Fin 8464) : real P r k < 1000000015047466219876688855040 := by
  have h : ∀ r k, |inner P r k| ≤ 75 * (4000002 * 4000002) := fun r k => by
    refine (Finset.abs_sum_le_sum_abs _ _).trans ?_
    refine (Finset.sum_le_sum (g := fun _ => (4000002 * 4000002 : ℝ)) fun e _ => ?_).trans ?_
    · rw [abs_mul]
      exact mul_le_mul (hb r e) (hb k e) (abs_nonneg _) (by norm_num)
    · simp
  have h1 := abs_le.mp (h r k)
  have h2 := abs_le.mp (h k k)
  unfold real
  linarith [h1.1, h2.2]

/-- Sorted strictly up to the fifteenth entry, the first fourteen in distinct lanes: those are the nearest. -/
theorem nearest_of {x : FVec Ideal Square .f32} {s : Fin 8704 → EReal} {q R : ℝ} {σ : Fin 8464 → ℝ} {r : Fin 8464}
    (hx : ∀ k, x (ix2 r k) = ((-(q + σ k) : ℝ) : EReal)) (hs : ∀ k : Fin 8464, s (k.castLE (by decide)) = σ k)
    (hf : ∀ k : Fin 8704, 8464 ≤ k.val → s k = R) (hR : ∀ k, σ k < R)
    (hd : ∀ k : Fin 14, x (ix2 r (order x r ⟨k.val + 1, by omega⟩)) < x (ix2 r (order x r ⟨k.val, by omega⟩)))
    (hl : ∀ i j : Fin 14, i < j → (order x r ⟨i.val, by omega⟩).val % 128 ≠ (order x r ⟨j.val, by omega⟩).val % 128) :
    Nearest s fun k : Fin 14 => (order x r ⟨k.val, by omega⟩).castLE (by decide) := by
  have hlt : ∀ a b, x (ix2 r a) < x (ix2 r b) → σ b < σ a := fun a b h => by
    rw [hx, hx, EReal.coe_lt_coe_iff] at h
    linarith
  have hle : ∀ i j : Fin 8464, i ≤ j → x (ix2 r (order x r j)) ≤ x (ix2 r (order x r i)) := fun i j h => by
    rcases eq_or_lt_of_le h with h | h
    · rw [h]
    · exact order_antitone x r i j h
  refine ⟨fun i j h => ?_, fun i j h e => ?_, fun c hc => ?_⟩
  · rw [hs, hs, EReal.coe_lt_coe_iff]
    have hj : (⟨i.val + 1, by omega⟩ : Fin 8464) ≤ ⟨j.val, by omega⟩ := Fin.mk_le_mk.mpr (Fin.lt_def.mp h)
    exact hlt _ _ (lt_of_le_of_lt (hle _ _ hj) (hd i))
  · have e' := Fin.ext_iff.mp e
    simp only [lane, Fin.val_castLE] at e'
    exact hl i j h e'
  · rw [hs]
    by_cases h : c.val < 8464
    · obtain ⟨j, hj⟩ := order_surjective x r ⟨c.val, h⟩
      have h14 : 14 ≤ j.val := by
        by_contra hn
        refine hc ⟨j.val, by omega⟩ (Fin.ext ?_)
        simp only [Fin.val_castLE, Fin.eta, hj]
      have : s c = σ ⟨c.val, h⟩ := hs ⟨c.val, h⟩
      rw [this, EReal.coe_lt_coe_iff, ← hj]
      have h13 : x (ix2 r (order x r ⟨14, by omega⟩)) < x (ix2 r (order x r ⟨13, by omega⟩)) := hd ⟨13, by omega⟩
      have hj : (⟨14, by omega⟩ : Fin 8464) ≤ j := Fin.le_def.mpr h14
      exact hlt _ _ (lt_of_le_of_lt (hle _ _ hj) h13)
    · rw [hf c (by omega), EReal.coe_lt_coe_iff]
      exact hR _

end Cert.Knn
-- ==== Proof.Reference.lean ====
/-
  The reference's array, read: an entry of a patch column is the softmax-weighted sum of the nearest patches' entries
  times the patch weight.
-/
module

public import proofs.«01_k».proof.Proof.Scores

@[expose] public section

set_option maxRecDepth 16384

noncomputable section

namespace Cert.Knn

open Idealize.ShloMosaic Idealize.ShloMosaic.Pipeline Cert.ReferenceIdeal Cert.ReferenceIdeal.Gen Idealize.SL.Sem
open Idealize.ShloMosaic.TcCoe Idealize.ShloMosaic.StableHlo

/-- The softmax's numerators, from the fourteen greatest values of each row. -/
def expos (v : FVec Ideal S8464x14 .f32) (b : FVec Ideal S_ .f32) : FVec Ideal S8464x14 .f32 :=
  let d := mulf (broadcastInDim S8464x14 ![] bcast_S_S8464x14 (Host.negf b)) (Host.negf v)
  Host.exp (subf d (broadcastInDim S8464x14 ![0, 1] bcast_S8464x1_S8464x14_0_1 (broadcastInDim S8464x1 ![0] bcast_S8464_S8464x1_0
    (maximumf (broadcastInDim S8464 ![] bcast_S_S8464 (constant S_ .f32 0xFF800000#32))
      (Host.reduce FloatOps.maximumf d (constant S_ .f32 0xFF800000#32) reducesTo_S8464x14_S8464_d1 h_S_)))))

theorem bottom_word : Ideal.ofBits .f32 4286578688#32 = ⊥ := by
  simp [Ideal.ofBits, Ideal.ieee]

theorem expos_apply (v : FVec Ideal S8464x14 .f32) (b : FVec Ideal S_ .f32) (r : Fin 8464) (k : Fin 14) :
    expos v b (ix2 r k) = expo (b ix0) (fun k => v (ix2 r k)) k := by
  unfold expos expo logit
  rw [← bottom_word]
  pointwise

/-- The indices as the gather takes them: negative ones counted from the end. -/
def places (j : IVec S8464x14 32) : IVec S8464x14x1 32 :=
  broadcastInDim S8464x14x1 ![0, 1] bcast_S8464x14_S8464x14x1_0_1
    (select (cmpi .slt j (broadcastInDim S8464x14 ![] bcast_S_S8464x14 (constantI S_ 32 0#32)))
      (addi j (broadcastInDim S8464x14 ![] bcast_S_S8464x14 (constantI S_ 32 8464#32))) j)

theorem range_word (n : Fin 8464) : (BitVec.ofNat 32 n.val).toInt = n.val := by
  have := n.isLt
  rw [BitVec.toInt_eq_toNat_of_lt] <;> rw [BitVec.toNat_ofNat, Nat.mod_eq_of_lt (by omega)]
  omega

/-- An index in range stays. -/
theorem places_apply (j : IVec S8464x14 32) (r : Fin 8464) (k : Fin 14) (n : Fin 8464) (hj : j (ix2 r k) = BitVec.ofNat 32 n.val) (z : Fin 1) :
    places j (ix3 r k z) = BitVec.ofNat 32 n.val := by
  have h : IntOp.cmpi .slt (BitVec.ofNat 32 n.val) 0#32 = 0#1 := by
    simp only [IntOp.cmpi, BitVec.slt_eq_decide, range_word]
    rw [decide_eq_false (by show ¬ ((n.val : Int) < 0); omega)]
    rfl
  unfold places
  pointwise
  rw [hj, h]
  rfl

/-- The rows the indices name, an entry out of range replaced by a filler. -/
def taken (p : FVec Ideal S8464x75 .f32) (j : IVec S8464x14x1 32) : FVec Ideal S8464x14x75 .f32 :=
  select (broadcastInDim S8464x14x75 ![0, 1] bcast_S8464x14_S8464x14x75_0_1
    (Host.reduce IntOp.andi (andi (cmpi .sge j (broadcastInDim S8464x14x1 ![] bcast_S_S8464x14x1 (constantI S_ 32 0#32)))
      (cmpi .sle j (broadcastInDim S8464x14x1 ![0, 1, 2] bcast_S1x1x1_S8464x14x1_0_1_2 (broadcastInDim S1x1x1 ![2] bcast_S1_S1x1x1_2 (constantI S1 32 8463#32)))))
      (constantI S_ 1 1#1) reducesTo_S8464x14x1_S8464x14_d2 h_S_))
    (Host.gather gather_S8464x75_S8464x14x1_S8464x14x75_2_0_n_n_0_2_175 p j)
    (broadcastInDim S8464x14x75 ![] bcast_S_S8464x14x75 (constant S_ .f32 0x7FC00000#32))

theorem gather_apply (p : FVec Ideal S8464x75 .f32) (j : IVec S8464x14x1 32) (r : Fin 8464) (k : Fin 14) (e : Fin 75) (n : Fin 8464)
    (hj : j (ix3 r k 0) = BitVec.ofNat 32 n.val) :
    Host.gather gather_S8464x75_S8464x14x1_S8464x14x75_2_0_n_n_0_2_175 p j (ix3 r k e) = p (ix2 n e) := by
  unfold Host.gather
  refine congrArg p (funext fun a => Fin.ext ?_)
  match a with
  | ⟨0, _⟩ =>
    have hs : (0 : Fin 2) ∈ gather_S8464x75_S8464x14x1_S8464x14x75_2_0_n_n_0_2_175.startIndexMap := List.mem_singleton.mpr rfl
    show GatherDims.start _ (ix3 r k e) j 0 + GatherDims.batchCoord _ (ix3 r k e) 0 + GatherDims.offCoord _ (ix3 r k e) 0 = n.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos hs]
    have hi : gather_S8464x75_S8464x14x1_S8464x14x75_2_0_n_n_0_2_175.siIdx (ix3 r k e)
        ⟨List.idxOf (0 : Fin 2) gather_S8464x75_S8464x14x1_S8464x14x75_2_0_n_n_0_2_175.startIndexMap, List.idxOf_lt_length_iff.2 hs⟩ = ix3 r k 0 := by
      funext b
      refine Fin.ext ?_
      match b with
      | ⟨0, _⟩ => rfl
      | ⟨1, _⟩ => rfl
      | ⟨2, _⟩ => rfl
    rw [hi, hj]
    show min (BitVec.ofNat 32 n.val).toInt.toNat (8464 - 1) + 0 + 0 = n.val
    rw [range_word]
    have := n.isLt
    omega
  | ⟨1, _⟩ =>
    show GatherDims.start _ (ix3 r k e) j 1 + GatherDims.batchCoord _ (ix3 r k e) 1 + GatherDims.offCoord _ (ix3 r k e) 1 = e.val
    rw [GatherDims.batchCoord_eq_zero _ _ _ List.not_mem_nil]
    unfold GatherDims.start GatherDims.offCoord
    rw [dif_neg (by decide), dif_pos (by decide)]
    show 0 + 0 + e.val = e.val
    omega

/-- The row an index in range names. -/
theorem taken_apply (p : FVec Ideal S8464x75 .f32) (j : IVec S8464x14x1 32) (r : Fin 8464) (k : Fin 14) (e : Fin 75) (n : Fin 8464)
    (hj : j (ix3 r k 0) = BitVec.ofNat 32 n.val) : taken p j (ix3 r k e) = p (ix2 n e) := by
  have hn := n.isLt
  have h1 : IntOp.cmpi .sge (BitVec.ofNat 32 n.val) 0#32 = 1#1 := by
    simp only [IntOp.cmpi, BitVec.sle_eq_decide, range_word]
    simp
  have h2 : IntOp.cmpi .sle (BitVec.ofNat 32 n.val) 8463#32 = 1#1 := by
    simp only [IntOp.cmpi, BitVec.sle_eq_decide, range_word]
    have h : ((n.val : Int) ≤ (8463#32).toInt) := by
      show (n.val : Int) ≤ 8463
      omega
    rw [decide_eq_true h]
    rfl
  unfold taken
  pointwise
  simp only [Finset.univ_unique, Finset.fold_singleton]
  rw [show (default : Fin 1) = 0 from rfl, hj, h1, h2, gather_apply p j r k e n hj]
  rfl

/-- The reference's weighted sums of neighbours, times the patch weights. -/
def result (v : FVec Ideal S8464x14 .f32) (x : FVec Ideal S8464x14x75 .f32) (pw : FVec Ideal S75 .f32) (b : FVec Ideal S_ .f32) : FVec Ideal S8464x75 .f32 :=
  mulf (Host.reduceAdd (mulf
    (broadcastInDim S8464x14x75 ![0, 1, 2] bcast_S8464x14x1_S8464x14x75_0_1_2 (broadcastInDim S8464x14x1 ![0, 1] bcast_S8464x14_S8464x14x1_0_1
      (Host.divf (expos v b) (broadcastInDim S8464x14 ![0, 1] bcast_S8464x1_S8464x14_0_1 (broadcastInDim S8464x1 ![0] bcast_S8464_S8464x1_0
        (Host.reduceAdd (expos v b) (constant S_ .f32 0x00000000#32) reducesTo_S8464x14_S8464_d1 h_S_))))))
    x) (constant S_ .f32 0x00000000#32) reducesTo_S8464x14x75_S8464x75_d1 h_S_)
    (broadcastInDim S8464x75 ![0, 1] bcast_S1x75_S8464x75_0_1 (broadcastInDim S1x75 ![1] bcast_S75_S1x75_1 pw))

/-- An entry: the reference's formula. -/
theorem result_apply (v : FVec Ideal S8464x14 .f32) (x : FVec Ideal S8464x14x75 .f32) (pw : FVec Ideal S75 .f32) (b : FVec Ideal S_ .f32)
    (r : Fin 8464) (e : Fin 75) :
    result v x pw b (ix2 r e) = referenceEntry (fun k => v (ix2 r k)) (fun k => x (ix3 r k e)) (b ix0) (pw (ix1 e)) := by
  unfold result referenceEntry
  simp only [← expos_apply]
  generalize expos v b = E
  pointwise

end Cert.Knn
-- ==== Proof.Meaning.lean ====
/-
  What the precondition says: the input is bounded, the temperature real, each row sorted strictly as far as its
  fifteenth entry, the first fourteen in different lanes.
-/
module

public import proofs.«01_k».proof.Proof.Reference
public import Idealize.ShloMosaic.Lib.Affine

@[expose] public section

set_option maxRecDepth 16384

noncomputable section

namespace Cert.Knn

open Idealize.ShloMosaic Idealize.ShloMosaic.Pipeline Cert.KernelIdeal Cert.KernelIdeal.Gen Idealize.SL.Sem
open Idealize.ShloMosaic.TcCoe Idealize.ShloMosaic.StableHlo

variable [Cert.Pre_separated.Facts]
variable (a : FVec Ideal S1x3x96x96 .f32) (pw : FVec Ideal S75 .f32) (β : FVec Ideal S_ .f32)

theorem million_word : Ideal.ofBits .f32 0x49742400#32 = ((1000000 : ℝ) : EReal) := by
  simp [Ideal.ofBits, Ideal.ieee, -EReal.coe_mul, -EReal.coe_neg]
  norm_num

theorem infinity_word : Ideal.ofBits .f32 0x7F800000#32 = ⊤ := by
  simp [Ideal.ofBits, Ideal.ieee]

omit [Cert.Pre_separated.Facts] in
theorem ofBool_one {q : Prop} [Decidable q] : BitVec.ofBool (decide q) = 1#1 ↔ q := by
  by_cases h : q <;> simp [h]

theorem small_of_abs {x : EReal} {K : ℝ} (h : max x (-x) ≤ (K : EReal)) : Small K x := by
  induction x with
  | bot => simp at h
  | top => simp at h
  | coe r =>
    refine ⟨r, rfl, ?_⟩
    rw [← EReal.coe_neg, max_le_iff, EReal.coe_le_coe_iff, EReal.coe_le_coe_iff] at h
    exact abs_le.mpr ⟨by linarith [h.2], h.1⟩

theorem real_of_abs {x : EReal} (h : max x (-x) < ⊤) : ∃ b : ℝ, x = b := by
  induction x with
  | bot => simp at h
  | top => simp at h
  | coe r => exact ⟨r, rfl⟩

/-- Equal lanes leave equal remainders. -/
theorem lane_word (a b : Fin 8464) (h : a.val % 128 = b.val % 128) :
    IntOp.remsi .host (BitVec.ofNat 32 a.val) 128#32 = IntOp.remsi .host (BitVec.ofNat 32 b.val) 128#32 := by
  have hw : ∀ n : Fin 8464, (IntOp.remsi .host (BitVec.ofNat 32 n.val) 128#32).toNat = n.val % 128 := fun n => by
    have hn := n.isLt
    have e : (BitVec.ofNat 32 n.val).toNat = n.val := by
      rw [BitVec.toNat_ofNat]
      exact Nat.mod_eq_of_lt (by omega)
    have := IntOp.toNat_remsi .host (x := BitVec.ofNat 32 n.val) (by rw [e]; omega) 128 (by decide) (by decide)
    rw [e] at this
    exact this
  exact BitVec.eq_of_toNat_eq ((hw a).trans (h.trans (hw b).symm))

theorem pre_range : (Cert.Pre_separated.fn a pw β).1
    = cmpf .ole (Host.absf a) (broadcastInDim S1x3x96x96 ![] Cert.Pre_separated.Facts.bcast_S_S1x3x96x96 (constant S_ .f32 0x49742400#32)) := rfl

theorem pre_beta : (Cert.Pre_separated.fn a pw β).2.1 = cmpf .olt (Host.absf β) (constant S_ .f32 0x7F800000#32) := rfl

theorem small_of (h : (Cert.Pre_separated.fn a pw β).1 = fun _ => 1#1) (i : S1x3x96x96.Idx) : Small 1000000 (a i) := by
  rw [pre_range] at h
  have h := congrFun h i
  revert h
  pointwise
  rw [million_word]
  rw [ofBool_one]
  exact fun h => small_of_abs h

theorem beta_of_pre (h : (Cert.Pre_separated.fn a pw β).2.1 = fun _ => 1#1) : ∃ b : ℝ, β ix0 = (b : EReal) := by
  rw [pre_beta] at h
  have h := congrFun h ix0
  revert h
  pointwise
  rw [infinity_word]
  rw [ofBool_one]
  exact fun h => real_of_abs h

theorem strict_of (h : (Cert.Pre_separated.fn a pw β).2.2.1 = fun _ => 1#1) (r : Fin 8464) (k : Fin 14) :
    minus (patches (image a)) (ix2 r (order (minus (patches (image a))) r ⟨k.val + 1, by omega⟩))
      < minus (patches (image a)) (ix2 r (order (minus (patches (image a))) r ⟨k.val, by omega⟩)) := by
  rw [pre_strict] at h
  have h := congrFun h (ix2 r k)
  revert h
  generalize minus (patches (image a)) = x
  pointwise
  rw [ofBool_one]
  intro h
  rw [topK_value x r _ (by omega), topK_value x r _ (by omega)] at h
  simp only [Fin.castLE_mk, Nat.add_comm 1] at h
  exact h

omit [Cert.Pre_separated.Facts] in
theorem word_lt : ∀ i j : Fin 14, i < j → IntOp.cmpi .slt (BitVec.ofNat 32 i.val) (BitVec.ofNat 32 j.val) = 1#1 := by decide

theorem lanes_of (h : (Cert.Pre_separated.fn a pw β).2.2.2 = fun _ => 1#1) (r : Fin 8464) (i j : Fin 14) (hij : i < j) :
    (order (minus (patches (image a))) r ⟨i.val, by omega⟩).val % 128 ≠ (order (minus (patches (image a))) r ⟨j.val, by omega⟩).val % 128 := by
  rw [pre_lanes] at h
  have h := congrFun h (ix3 r i j)
  revert h
  generalize minus (patches (image a)) = x
  pointwise
  intro h he
  rw [topK_index x r _ (by omega), topK_index x r _ (by omega)] at h
  simp only [Fin.castLE_mk] at h
  rw [lane_word _ _ he] at h
  rw [word_lt i j hij] at h
  simp [IntOp.cmpi, IntOp.ori] at h

end Cert.Knn
-- ==== Proof.Columns.lean ====
/-
  The kernel's array and the reference's agree on the patch columns.
-/
module

public import proofs.«01_k».proof.Proof.Meaning

@[expose] public section

set_option maxRecDepth 16384

noncomputable section

namespace Cert.Knn

open Idealize.ShloMosaic Idealize.ShloMosaic.Pipeline Cert.KernelIdeal Cert.KernelIdeal.Gen Idealize.SL.Sem
open Idealize.ShloMosaic.TcCoe Idealize.ShloMosaic.StableHlo

/-- The squared norms of the patches. -/
def norms (p : FVec Ideal S8464x75 .f32) : FVec Ideal S8464 .f32 :=
  Host.reduceAdd (mulf p p) (constant S_ .f32 0x00000000#32) reducesTo_S8464x75_S8464_d1 h_S_

theorem norms_apply (p : FVec Ideal S8464x75 .f32) (k : Fin 8464) : norms p (ix1 k) = squared p k := squares_apply p k

/-- The reference's weighted sums from the patches. -/
def nearestSum (p : FVec Ideal S8464x75 .f32) (pw : FVec Ideal S75 .f32) (b : FVec Ideal S_ .f32) : FVec Ideal S8464x75 .f32 :=
  result (Host.topK (Columns 14) 1 (FloatOps.cmpfTotal .gt) (minus p) Cert.ReferenceIdeal.Gen.sliceFits_S8464x8464_S8464x14).1
    (taken p (places (Host.topK (Columns 14) 1 (FloatOps.cmpfTotal .gt) (minus p) Cert.ReferenceIdeal.Gen.sliceFits_S8464x8464_S8464x14).2)) pw b

theorem near_lt (k : Fin 8464) (h : 8464 ≤ 8704) : (k.castLE h).val < 8464 := k.isLt

theorem row_near (p : FVec Ideal S8464x75 .f32) (sq : FVec Ideal S8464 .f32) (k : Fin 8464) (e : Fin 128) (h : e.val < 75) :
    rows p sq (ix2 (k.castLE (by decide)) e) = p (ix2 k ⟨e.val, h⟩) :=
  (table_patch _ _ _ _ h).trans (dif_pos (near_lt k _))

/-- One entry: the kernel's formula over the table is the reference's over the patches. -/
theorem entry_agrees {p : FVec Ideal S8464x75 .f32} {P : Fin 8464 → Fin 75 → ℝ} (hP : ∀ r e, p (ix2 r e) = (P r e : ℝ))
    (hb : ∀ r e, |P r e| ≤ 4000002) {b : ℝ} {β : FVec Ideal S_ .f32} (hβ : β ix0 = (b : EReal)) (pw : FVec Ideal S75 .f32) (r : Fin 8704) (hr : r.val < 8464)
    (hd : ∀ k : Fin 14, minus p (ix2 ⟨r.val, hr⟩ (order (minus p) ⟨r.val, hr⟩ ⟨k.val + 1, by omega⟩)) < minus p (ix2 ⟨r.val, hr⟩ (order (minus p) ⟨r.val, hr⟩ ⟨k.val, by omega⟩)))
    (hl : ∀ i j : Fin 14, i < j → (order (minus p) ⟨r.val, hr⟩ ⟨i.val, by omega⟩).val % 128 ≠ (order (minus p) ⟨r.val, hr⟩ ⟨j.val, by omega⟩).val % 128)
    {mm : Fin 128 → EReal} (hm : LaneMin (score (rows p (norms p)) r) mm) (e : Fin 128) (he : e.val < 75) :
    kernelEntry (score (rows p (norms p)) r) (fun k => rows p (norms p) (ix2 k e)) (fun k => rows p (norms p) (ix2 k 127)) mm (β ix0)
      (pw (ix1 ⟨e.val, he⟩))
    = nearestSum p pw β (ix2 ⟨r.val, hr⟩ ⟨e.val, he⟩) := by
  have hn := norms_apply p
  have hs : ∀ k : Fin 8464, score (rows p (norms p)) r (k.castLE (by decide)) = (real P ⟨r.val, hr⟩ k : ℝ) := score_near hP hn ⟨r.val, hr⟩
  have ht : Nearest (score (rows p (norms p)) r) fun k : Fin 14 => (order (minus p) ⟨r.val, hr⟩ ⟨k.val, by omega⟩).castLE (by decide) :=
    nearest_of (minus_real hP ⟨r.val, hr⟩) hs (score_far hP hn ⟨r.val, hr⟩) (real_lt hb ⟨r.val, hr⟩) hd hl
  have ho : ∀ k : Fin 14, rows p (norms p) (ix2 ((order (minus p) ⟨r.val, hr⟩ ⟨k.val, by omega⟩).castLE (by decide)) 127) = 1 := fun k => table_one _ _ _
  rw [hβ]
  unfold nearestSum
  rw [result_apply, hβ]
  refine entry_eq hm ht (σ := fun k => real P ⟨r.val, hr⟩ (order (minus p) ⟨r.val, hr⟩ ⟨k.val, by omega⟩))
    (ξ := fun k => P (order (minus p) ⟨r.val, hr⟩ ⟨k.val, by omega⟩) ⟨e.val, he⟩) (q := inner P ⟨r.val, hr⟩ ⟨r.val, hr⟩)
    (fun k => hs _) (fun k => ?_) ho (fun k => ?_) (fun k => ?_)
  · exact (row_near _ _ _ _ he).trans (hP _ _)
  · rw [topK_value _ _ _ (by omega), minus_real hP]
    rfl
  · rw [taken_apply _ _ _ _ _ (order (minus p) ⟨r.val, hr⟩ ⟨k.val, by omega⟩), hP]
    exact places_apply _ _ _ _ (topK_index _ _ _ (by omega) _) _

variable (m : (ℓ : Loc nD τ sig) → Buf (Elt Ideal) ℓ)

theorem tbl_eq (c : Dev nD) : tbl m c = rows (patches (image (m ((c : Thread nD τ).loc main_arg0)))) (norms (patches (image (m ((c : Thread nD τ).loc main_arg0))))) := by
  refine (V_eq m c main_v74).trans ((table_of _).trans ?_)
  have h := kernel_patches m c
  have hq : atPatches m c (Proc.devRef .tc main_v67) = norms (patches (image (m ((c : Thread nD τ).loc main_arg0)))) :=
    (kernel_squares _).trans (congrArg norms h)
  have hz : atPatches m c (Proc.devRef .tc main_c) = constantI S_ 32 0#32 := kernel_zero _
  rw [h, hq, hz]

theorem weights_eq (c : Dev nD) (e : Fin 128) : (V m c main_v77 : Vec Ideal S8x128 .f32) (ix2 0 e)
    = if h : e.val < 75 then (m ((c : Thread nD τ).loc main_arg1) : FVec Ideal S75 .f32) (ix1 ⟨e.val, h⟩) else (0 : EReal) := by
  refine (congrFun ((V_eq m c main_v77).trans (weights_of _)) (ix2 0 e)).trans ?_
  exact weights_apply (m ((c : Thread nD τ).loc main_arg1)) e

theorem beta_eq (c : Dev nD) : (V m c main_v78 : Vec Ideal S8x128 .f32) (ix2 0 0) = (m ((c : Thread nD τ).loc main_arg2) : FVec Ideal S_ .f32) ix0 := by
  refine (congrFun ((V_eq m c main_v78).trans (beta_of _)) (ix2 0 0)).trans ?_
  show broadcastInDim S8x128 ![] bcast_S_S8x128 (m ((c : Thread nD τ).loc main_arg2) : FVec Ideal S_ .f32) (ix2 0 0) = _
  generalize (m ((c : Thread nD τ).loc main_arg2) : FVec Ideal S_ .f32) = b
  pointwise

variable [Cert.Pre_separated.Facts]

/-- On the patches' own entries the first call's array is the reference's weighted sums, the axes exchanged. -/
theorem columns_agree (c : Dev nD) (h : let f := Cert.Pre_separated.fn (F := Ideal) (m ((c : Thread nD τ).loc main_arg0)) (m ((c : Thread nD τ).loc main_arg1)) (m ((c : Thread nD τ).loc main_arg2))
      f.1 = (fun _ => 1#1) ∧ f.2.1 = (fun _ => 1#1) ∧ f.2.2.1 = (fun _ => 1#1) ∧ f.2.2.2 = (fun _ => 1#1))
    (e : Fin 128) (he : e.val < 75) (r : Fin 8704) (hr : r.val < 8464) :
    (selected m c : Vec Ideal S128x8704 .f32) (ix2 e r) = nearestSum (patches (image (m ((c : Thread nD τ).loc main_arg0)))) (m ((c : Thread nD τ).loc main_arg1)) (m ((c : Thread nD τ).loc main_arg2)) (ix2 ⟨r.val, hr⟩ ⟨e.val, he⟩) := by
  obtain ⟨h1, h2, h3, h4⟩ := h
  have hsm := patches_small (small_of _ _ _ h1)
  choose P hP hb using hsm
  obtain ⟨b, hβ⟩ := beta_of_pre _ _ _ h2
  obtain ⟨mm, hm, hG⟩ := array_eq m c e r
  rw [hG, weights_eq, beta_eq, dif_pos he]
  rw [tbl_eq] at hm ⊢
  exact entry_agrees hP hb hβ _ r hr (strict_of _ _ _ h3 _) (lanes_of _ _ _ h4 _) hm e he

omit [Cert.Pre_separated.Facts] in
/-- What the reference lays back onto the image is this array. -/
theorem reference_eq (V : Valuation Cert.ReferenceIdeal.τ Cert.ReferenceIdeal.sig (Elt Ideal)) : Cert.ReferenceIdeal.Value.res_main_v126 V
    = shapeCast _ (nearestSum (patches (image (V (Proc.devRef .tc Cert.ReferenceIdeal.main_arg0)))) (V (Proc.devRef .tc Cert.ReferenceIdeal.main_arg1))
        (V (Proc.devRef .tc Cert.ReferenceIdeal.main_arg2))) Cert.ReferenceIdeal.Gen.shapeCasts_S8464x75_S92x92x3x5x5 := rfl

end Cert.Knn
-- ==== Proof.FoldSteps.lean ====
/- The overlap-add at one pixel: the tiles that cover it are added one after the other, in the order of the
   offsets. Both programs of the second call are read as this. -/
module

public import Idealize.ShloMosaic.Lib.Pointwise

@[expose] public section

noncomputable section

namespace Cert.Knn

open Idealize.ShloMosaic

/-- The sum at pixel `(y, x)` of channel `c` after the first `k` offsets: offset `k`, that is `(k / 5, k % 5)`,
    adds its tile's entry where the tile laid at that offset covers the pixel. `g e` is the tile of the
    patch place `e = 25 c + k`. -/
def folded (g : Fin 75 → Fin 92 → Fin 92 → EReal) (c : Fin 3) (y x : Nat) : Nat → EReal
  | 0 => 0
  | k + 1 =>
    if h : k < 25 ∧ (k / 5 ≤ y ∧ y < k / 5 + 92) ∧ (k % 5 ≤ x ∧ x < k % 5 + 92) then
      folded g c y x k + g ⟨25 * c.val + k, by omega⟩ ⟨y - k / 5, by omega⟩ ⟨x - k % 5, by omega⟩
    else folded g c y x k

/-- No offset is left after the twenty-five. -/
theorem folded_stays (g : Fin 75 → Fin 92 → Fin 92 → EReal) (c : Fin 3) (y x k : Nat) (hk : 25 ≤ k) :
    folded g c y x k = folded g c y x 25 := by
  induction k, hk using Nat.le_induction with
  | base => rfl
  | succ k hk ih => rw [folded, dif_neg (fun h => by omega), ih]

/-- A covered pixel gains the tile's entry. -/
theorem folded_hit (g : Fin 75 → Fin 92 → Fin 92 → EReal) (c : Fin 3) (y x k : Nat)
    (h : k < 25 ∧ (k / 5 ≤ y ∧ y < k / 5 + 92) ∧ (k % 5 ≤ x ∧ x < k % 5 + 92)) :
    folded g c y x (k + 1)
      = folded g c y x k + g ⟨25 * c.val + k, by omega⟩ ⟨y - k / 5, by omega⟩ ⟨x - k % 5, by omega⟩ := by
  rw [folded, dif_pos h]

/-- A pixel the tile does not cover stays. -/
theorem folded_miss (g : Fin 75 → Fin 92 → Fin 92 → EReal) (c : Fin 3) (y x k : Nat)
    (h : ¬((k / 5 ≤ y ∧ y < k / 5 + 92) ∧ (k % 5 ≤ x ∧ x < k % 5 + 92))) :
    folded g c y x (k + 1) = folded g c y x k := by
  rw [folded, dif_neg fun q => h q.2]

/-- The image at a pixel from the two sums and the mean: the quotient, moved by the mean, halved and moved by a
    half. -/
def pixel (num den mean : EReal) : EReal :=
  (Ideal.div num den + mean) * Ideal.ofBits FTy.f32 0x3F000000#32 + Ideal.ofBits FTy.f32 0x3F000000#32

end Cert.Knn
-- ==== Proof.FoldPoint.lean ====
/- What the one grid point of the second call leaves: the two accumulators after the seventy-five additions, and
   the image made of them. -/
module

public import proofs.«01_k».proof.Proof.FoldSteps
public import proofs.«01_k».proof.Proof.Whole

@[expose] public section

set_option maxRecDepth 16384

noncomputable section

namespace Cert.Knn.Fold

open Idealize.ShloMosaic Idealize.ShloMosaic.Pipeline Cert.KernelIdeal Cert.KernelIdeal.Gen
open Idealize.SL.Sem
open Idealize.ShloMosaic.TcCoe Idealize.ShloMosaic.Tactic

theorem hz3 : (![0, 0, 0] : Fin 3 → Nat) = fun _ => 0 := funext fun a => by fin_cases a <;> rfl

/-- The box of addition `n` lies in the accumulator. -/
theorem inb_box (n : Nat) (h : n + 1 ≤ 75) (a : Fin 3) :
    (![n / 25, n % 25 / 5, n % 5] : Fin 3 → Nat) a + S1x92x92.size a ≤ S3x96x128.size a := by
  fin_cases a
  · show n / 25 + 1 ≤ 3
    omega
  · show n % 25 / 5 + 92 ≤ 96
    omega
  · show n % 5 + 92 ≤ 128
    omega

/-- The box of the accumulator that addition `n` reads and writes: channel `n / 25`, laid at the offset. -/
abbrev box (n : Nat) (h : n + 1 ≤ 75) : Rect S3x96x128 :=
  Rect.unit (s := S3x96x128) ![n / 25, n % 25 / 5, n % 5] S1x92x92.size (inb_box n h)

/-- What is stored over a box: the box as it was, and the tile. -/
def step (v : FVec Ideal S1x92x92 .f32) (t : FVec Ideal S92x92 .f32) : FVec Ideal S1x92x92 .f32 :=
  shapeCast S1x92x92 (addf (shapeCast S92x92 v shapeCasts_S1x92x92_S92x92) t) shapeCasts_S92x92_S1x92x92

theorem step_apply (v : FVec Ideal S1x92x92 .f32) (t : FVec Ideal S92x92 .f32) (y x : Fin 92) :
    step v t (ix3 0 y x) = v (ix3 0 y x) + t (ix2 y x) := by
  unfold step
  pointwise

/-- The stores into an accumulator after `n` additions, the last first. -/
def stored {σ : RefSig} (ms : Memref σ .tc .vmem S3x96x128 .f32) (tile : (n : Nat) → n + 1 ≤ 75 → FVec Ideal S92x92 .f32) :
    (n : Nat) → n ≤ 75 → List (View.Piece (Elt Ideal) S3x96x128 .f32)
  | 0, _ => [⟨Rect.unit (s := S3x96x128) ![0, 0, 0] S3x96x128.size inb_S3x96x128_S3x96x128_0_0_0, k1_pay1 (F := Ideal)⟩]
  | n + 1, h =>
    ⟨box n h, step (ms.view.readCov (stored ms tile n (Nat.le_of_succ_le h)) (box n h).toLoadRect) (tile n h)⟩
      :: stored ms tile n (Nat.le_of_succ_le h)

theorem zero_apply (i : S3x96x128.Idx) : (k1_pay1 : FVec Ideal S3x96x128 .f32) i = 0 := by
  rw [eq_ix3 i]
  unfold k1_pay1
  pointwise

/-- The accumulator after `n` additions, at a pixel. -/
theorem canon_stored {σ : RefSig} (ms : Memref σ .tc .vmem S3x96x128 .f32) (tile : (n : Nat) → n + 1 ≤ 75 → FVec Ideal S92x92 .f32)
    (n : Nat) (h : n ≤ 75) (c : Fin 3) (y : Fin 96) (x : Fin 128) :
    View.canon (stored ms tile n h) (ix3 c y x)
      = folded (fun e p q => tile e.val e.isLt (ix2 p q)) c y x (n - 25 * c.val) := by
  induction n with
  | zero =>
    rw [stored, View.canon_unit_zero hz3, zero_apply, Nat.zero_sub, folded]
  | succ n ih =>
    have hn : n < 75 := h
    by_cases hc : c.val = n / 25
    · have e1 : n + 1 - 25 * c.val = n % 25 + 1 := by omega
      have e0 : n - 25 * c.val = n % 25 := by omega
      by_cases hin : (n % 25 / 5 ≤ y.val ∧ y.val < n % 25 / 5 + 92) ∧ (n % 25 % 5 ≤ x.val ∧ x.val < n % 25 % 5 + 92)
      · have hmod : n % 25 % 5 = n % 5 := by omega
        have e : (ix3 c y x : S3x96x128.Idx) = (box n h).emb
            (ix3 (0 : Fin 1) (⟨y.val - n % 25 / 5, by omega⟩ : Fin 92) (⟨x.val - n % 25 % 5, by omega⟩ : Fin 92)) := by
          funext a
          apply Fin.ext
          rw [Rect.emb_apply]
          fin_cases a
          · show c.val = n / 25 + 1 * 0
            omega
          · show y.val = n % 25 / 5 + 1 * (y.val - n % 25 / 5)
            omega
          · show x.val = n % 5 + 1 * (x.val - n % 25 % 5)
            omega
        rw [e1, folded_hit _ _ _ _ _ ⟨by omega, hin⟩]
        rw [e, stored, View.canon_cons_emb, step_apply, View.readCov_eq_canon']
        refine congrArg₂ (· + ·) ?_ ?_
        · refine (congrArg (View.canon (stored ms tile n (Nat.le_of_succ_le h))) e.symm).trans ?_
          rw [ih, e0]
        · have : (⟨25 * c.val + n % 25, by omega⟩ : Fin 75) = ⟨n, hn⟩ := Fin.ext (by show 25 * c.val + n % 25 = n; omega)
          show _ = tile _ _ _
          congr 1
          simp only [Fin.ext_iff] at this
          exact this.symm
      · rw [e1, folded_miss _ _ _ _ _ hin, ← e0, ← ih, stored, View.canon_cons_of_not_mem _ _ (fun hm => hin ?_)]
        have h1 := (Rect.mem_set_unit (inb := inb_box n h)).mp hm 1
        have h2 := (Rect.mem_set_unit (inb := inb_box n h)).mp hm 2
        have h1' : n % 25 / 5 ≤ y.val ∧ y.val < n % 25 / 5 + 92 := h1
        have h2' : n % 5 ≤ x.val ∧ x.val < n % 5 + 92 := h2
        omega
    · rw [stored, View.canon_cons_of_not_mem _ _ (fun hm => hc ?_), ih]
      · rcases Nat.lt_or_gt_of_ne hc with hlt | hgt
        · rw [folded_stays _ _ _ _ (n - 25 * c.val) (by omega), folded_stays _ _ _ _ (n + 1 - 25 * c.val) (by omega)]
        · congr 1
          omega
      · have h0 := (Rect.mem_set_unit (inb := inb_box n h)).mp hm 0
        have h0' : n / 25 ≤ c.val ∧ c.val < n / 25 + 1 := h0
        omega

theorem inb_patch (n : Nat) (h : n + 1 ≤ 75) (a : Fin 3) : (![n, 0, 0] : Fin 3 → Nat) a + S1x92x92.size a ≤ S75x92x92.size a := by
  fin_cases a
  · show n + 1 ≤ 75
    omega
  · exact le_rfl
  · exact le_rfl

theorem inb_weight (n : Nat) (h : n + 1 ≤ 75) (a : Fin 3) : (![n, 0, 0] : Fin 3 → Nat) a + S1x1x1.size a ≤ S75x8x128.size a := by
  fin_cases a
  · show n + 1 ≤ 75
    omega
  · show 0 + 1 ≤ 8
    omega
  · show 0 + 1 ≤ 128
    omega

/-- The tile addition `n` adds to the numerator: row `n` of the patch operand, as loaded. -/
def patchTile {σ : RefSig} (ms : Memref σ .tc .vmem S75x92x92 .f32) (hms : ms.IsWhole) (x0 : Vec Ideal S75x92x92 .f32) (n : Nat) (h : n + 1 ≤ 75) :
    FVec Ideal S92x92 .f32 :=
  shapeCast S92x92 (show FVec Ideal S1x92x92 .f32 from View.readAt (Elt Ideal) ms.view
    (Rect.unit (s := S75x92x92) ![n, 0, 0] S1x92x92.size (inb_patch n h)).toLoadRect (hms.unread x0)) shapeCasts_S1x92x92_S92x92

/-- The tile addition `n` adds to the denominator: weight `n` everywhere, as loaded. -/
def weightTile {σ : RefSig} (ms : Memref σ .tc .vmem S75x8x128 .f32) (hms : ms.IsWhole) (x1 : Vec Ideal S75x8x128 .f32) (n : Nat) (h : n + 1 ≤ 75) :
    FVec Ideal S92x92 .f32 :=
  broadcastTo S92x92 (shapeCast S1x1 (show FVec Ideal S1x1x1 .f32 from View.readAt (Elt Ideal) ms.view
    (Rect.unit (s := S75x8x128) ![n, 0, 0] S1x1x1.size (inb_weight n h)).toLoadRect (hms.unread x1)) shapeCasts_S1x1x1_S1x1) broadcasts_S1x1_S92x92

/-- The numerator's stores are the recursive list. -/
theorem stores_numerator (c : Dev nD) (arg0 : Memref sig .tc .vmem S75x92x92 .f32) (harg0 : arg0.IsWhole)
    (arg4 : Memref sig .tc .vmem S3x96x128 .f32) (x0 : Vec Ideal S75x92x92 .f32) :
    kernelRun1_A.sl.HS0_76 c arg0 harg0 arg4 x0 = stored arg4 (patchTile arg0 harg0 x0) 75 le_rfl := by
  sl_kernel_rfl

/-- The denominator's stores are the recursive list. -/
theorem stores_denominator (c : Dev nD) (arg1 : Memref sig .tc .vmem S75x8x128 .f32) (harg1 : arg1.IsWhole)
    (arg5 : Memref sig .tc .vmem S3x96x128 .f32) (x1 : Vec Ideal S75x8x128 .f32) :
    kernelRun1_A.sl.HS1_76 c arg1 harg1 arg5 x1 = stored arg5 (weightTile arg1 harg1 x1) 75 le_rfl := by
  sl_kernel_rfl

theorem patchTile_apply {σ : RefSig} (ms : Memref σ .tc .vmem S75x92x92 .f32) (hms : ms.IsWhole) (x0 : Vec Ideal S75x92x92 .f32) (n : Nat) (h : n + 1 ≤ 75)
    (p q : Fin 92) : patchTile ms hms x0 n h (ix2 p q) = x0 (ix3 ⟨n, h⟩ p q) := by
  unfold patchTile
  rw [View.readAt_eq_ld, hms.read_unread]
  pointwise

theorem weightTile_apply {σ : RefSig} (ms : Memref σ .tc .vmem S75x8x128 .f32) (hms : ms.IsWhole) (x1 : Vec Ideal S75x8x128 .f32) (n : Nat) (h : n + 1 ≤ 75)
    (p q : Fin 92) : weightTile ms hms x1 n h (ix2 p q) = x1 (ix3 ⟨n, h⟩ 0 0) := by
  unfold weightTile
  rw [View.readAt_eq_ld, hms.read_unread]
  pointwise

/-- The image at a pixel. -/
theorem image_apply (c : Dev nD) (arg0 : Memref sig .tc .vmem S75x92x92 .f32) (harg0 : arg0.IsWhole)
    (arg1 : Memref sig .tc .vmem S75x8x128 .f32) (harg1 : arg1.IsWhole) (arg2 : Memref sig .tc .vmem S3x8x128 .f32) (harg2 : arg2.IsWhole)
    (arg3 : Memref sig .tc .vmem S3x96x128 .f32) (harg3 : arg3.IsWhole) (arg4 : Memref sig .tc .vmem S3x96x128 .f32) (harg4 : arg4.IsWhole)
    (arg5 : Memref sig .tc .vmem S3x96x128 .f32) (harg5 : arg5.IsWhole)
    (x0 : Vec Ideal S75x92x92 .f32) (x1 : Vec Ideal S75x8x128 .f32) (x2 : Vec Ideal S3x8x128 .f32) (k : Fin 3) (y : Fin 96) (x : Fin 128) :
    out1_A_3 c arg0 harg0 arg1 harg1 arg2 harg2 arg3 harg3 arg4 harg4 arg5 harg5 x0 x1 x2 (ix3 k y x)
      = pixel (folded (fun e p q => x0 (ix3 e p q)) k y x 25) (folded (fun e _ _ => x1 (ix3 e 0 0)) k y x 25) (x2 (ix3 k 0 x)) := by
  unfold out1_A_3
  rw [View.read_writes_eq_canon _ _ _ (cover1_A_3 c arg0 harg0 arg1 harg1 arg2 harg2 arg3 harg3 arg4 harg4 arg5 harg5 x0 x1 x2)]
  unfold kernelRun1_A
  dsimp only
  delta kernelRun1_A.sl.v1283 kernelRun1_A.sl.v1284
  rw [stores_numerator, stores_denominator, View.canon_unit_zero hz3, View.readCov_eq_canon', View.readCov_eq_canon', View.readAt_eq_ld, harg2.read_unread]
  have hn := canon_stored arg4 (patchTile arg0 harg0 x0) 75 le_rfl k y x
  have hd := canon_stored arg5 (weightTile arg1 harg1 x1) 75 le_rfl k y x
  rw [folded_stays _ _ _ _ (75 - 25 * k.val) (by omega)] at hn hd
  simp only [patchTile_apply, weightTile_apply] at hn hd
  generalize View.canon (stored arg4 (patchTile arg0 harg0 x0) 75 le_rfl) = A at *
  generalize View.canon (stored arg5 (weightTile arg1 harg1 x1) 75 le_rfl) = B at *
  unfold k1_pay188
  dsimp only
  pointwise
  rw [hn, hd]
  rfl

end Cert.Knn.Fold
-- ==== Proof.FoldArray.lean ====
/- The array the kernel returns, at a pixel: what the second call's one grid point leaves, from the first call's array. -/
module

public import proofs.«01_k».proof.Proof.FoldPoint
public import Idealize.ShloMosaic.Lib.StableHlo.Run
public import Idealize.ShloMosaic.Lib.Claim
public import Idealize.ShloMosaic.Lib.Pipeline.ValueKit

@[expose] public section

set_option maxRecDepth 16384

noncomputable section

namespace Cert.Knn.Fold

open Idealize.ShloMosaic Idealize.ShloMosaic.Pipeline Cert.KernelIdeal Cert.KernelIdeal.Gen Idealize.SL.Sem
open Idealize.ShloMosaic.TcCoe Idealize.ShloMosaic.StableHlo

variable (m : (ℓ : Loc nD τ sig) → Buf (Elt Ideal) ℓ)

/-- The patch weights. -/
abbrev weights (c : Dev nD) : FVec Ideal S75 .f32 := m ((c.tc : Thread nD τ).loc main_arg1)

/-- The channel means of an image's halved and shifted pixels. -/
def average (a : FVec Ideal S1x3x96x96 .f32) : FVec Ideal S1x3x1x1 .f32 :=
  Host.divf (broadcastInDim S1x3x1x1 ![0, 1] bcast_S1x3_S1x3x1x1_0_1
    (Host.reduceAdd (Host.divf (subf a (broadcastInDim S1x3x96x96 ![] bcast_S_S1x3x96x96 (constant S_ .f32 0x3F000000#32)))
      (broadcastInDim S1x3x96x96 ![] bcast_S_S1x3x96x96 (constant S_ .f32 0x3F000000#32))) (constant S_ .f32 0x00000000#32) reducesTo_S1x3x96x96_S1x3_d2_3 h_S_))
    (broadcastInDim S1x3x1x1 ![] bcast_S_S1x3x1x1 (constant S_ .f32 0x46100000#32))

/-- The channel means. -/
abbrev means (c : Dev nD) : FVec Ideal S1x3x1x1 .f32 := average (m ((c.tc : Thread nD τ).loc main_arg0))

theorem patches_of (U : Valuation τ sig (Elt Ideal)) : after hostOps1 U (Proc.devRef .tc main_v81) = shapeCast S75x92x92
    (extractStridedSlice S75x8464 ![0, 0] (U (Proc.devRef .tc main_v79) : FVec Ideal S128x8704 .f32) slices_S128x8704_S75x8464_0_0) shapeCasts_S75x8464_S75x92x92 := by
  rfl

theorem patch_weights_of (U : Valuation τ sig (Elt Ideal)) : after hostOps1 U (Proc.devRef .tc main_v83) = broadcastInDim S75x8x128 ![0, 1, 2] bcast_S75x1x1_S75x8x128_0_1_2
    (broadcastInDim S75x1x1 ![0] bcast_S75_S75x1x1_0 (U (Proc.devRef .tc main_arg1) : FVec Ideal S75 .f32)) := by
  rfl

theorem means_of (U : Valuation τ sig (Elt Ideal)) : after hostOps1 U (Proc.devRef .tc main_v85) = broadcastInDim S3x8x128 ![0, 1, 2] bcast_S3x1x1_S3x8x128_0_1_2
    (shapeCast S3x1x1 (U (Proc.devRef .tc main_v7) : FVec Ideal S1x3x1x1 .f32) shapeCasts_S1x3x1x1_S3x1x1) := by
  rfl

theorem image_of (U : Valuation τ sig (Elt Ideal)) : after hostOps2 U (Proc.devRef .tc main_v88) = broadcastInDim S1x3x96x96 ![1, 2, 3] bcast_S3x96x96_S1x3x96x96_1_2_3
    (extractStridedSlice S3x96x96 ![0, 0, 0] (U (Proc.devRef .tc main_v86) : FVec Ideal S3x96x128 .f32) slices_S3x96x128_S3x96x96_0_0_0) := by
  rfl

/-- The means the first call's lines leave are the image's. -/
theorem V_average (c : Dev nD) : V7 m c main_v7 = means m c := by
  refine (V7_of m c main_v7 (by decide)).trans <| (V6_of m c main_v7 (by decide)).trans <| (V5_of m c main_v7 (by decide)).trans <|
    (V4_of m c main_v7 (by decide)).trans <| (V3_of m c main_v7 (by decide)).trans <| (V2_of m c main_v7 (by decide)).trans ?_
  rfl

theorem V_patches (c : Dev nD) : U9 m c main_v81 = shapeCast S75x92x92
    (extractStridedSlice S75x8464 ![0, 0] (selected m c : FVec Ideal S128x8704 .f32) slices_S128x8704_S75x8464_0_0) shapeCasts_S75x8464_S75x92x92 := by
  refine (patches_of (W8 m c)).trans ?_
  rw [show W8 m c (Proc.devRef .tc main_v79) = selected m c from W8_result m c]

theorem V_weights (c : Dev nD) : U9 m c main_v83 = broadcastInDim S75x8x128 ![0, 1, 2] bcast_S75x1x1_S75x8x128_0_1_2
    (broadcastInDim S75x1x1 ![0] bcast_S75_S75x1x1_0 (weights m c)) := by
  refine (patch_weights_of (W8 m c)).trans ?_
  rw [show W8 m c (Proc.devRef .tc main_arg1) = weights m c from (W8_of m c main_arg1 (by decide)).trans (V7_kept m c main_arg1 (by decide) (by decide)
    (by decide) (by decide) (by decide) (by decide) (by decide))]

theorem V_means (c : Dev nD) : U9 m c main_v85 = broadcastInDim S3x8x128 ![0, 1, 2] bcast_S3x1x1_S3x8x128_0_1_2
    (shapeCast S3x1x1 (means m c) shapeCasts_S1x3x1x1_S3x1x1) := by
  refine (means_of (W8 m c)).trans ?_
  rw [show W8 m c (Proc.devRef .tc main_v7) = means m c from (W8_of m c main_v7 (by decide)).trans (V_average m c)]

theorem at_0 : ∀ (t : Fin cfg1.N) (a : Fin 3), win1_0.index t a = 0 := by decide
theorem at_1 : ∀ (t : Fin cfg1.N) (a : Fin 3), win1_1.index t a = 0 := by decide
theorem at_2 : ∀ (t : Fin cfg1.N) (a : Fin 3), win1_2.index t a = 0 := by decide

/-- The windows hand the grid point the three operands whole. -/
theorem block_patches (c : Dev nD) (t : Fin cfg1.N) : (iblk1 (U9 m) c 0 t : Vec Ideal S75x92x92 .f32) = U9 m c main_v81 := by
  funext j
  blk_ext [iblk1, at_0 t]

theorem block_weights (c : Dev nD) (t : Fin cfg1.N) : (iblk1 (U9 m) c 1 t : Vec Ideal S75x8x128 .f32) = U9 m c main_v83 := by
  funext j
  blk_ext [iblk1, at_1 t]

theorem block_means (c : Dev nD) (t : Fin cfg1.N) : (iblk1 (U9 m) c 2 t : Vec Ideal S3x8x128 .f32) = U9 m c main_v85 := by
  funext j
  blk_ext [iblk1, at_2 t]

/-- The array the second call returns, at a pixel. -/
theorem array_apply (c : Dev nD) (k : Fin 3) (y : Fin 96) (x : Fin 128) :
    (overlapped m c : Vec Ideal S3x96x128 .f32) (ix3 k y x)
    = pixel (folded (fun e p q => (selected m c : FVec Ideal S128x8704 .f32) (ix2 ⟨e.val, by omega⟩ ⟨p.val * 92 + q.val, by omega⟩)) k y x 25)
        (folded (fun e _ _ => weights m c (ix1 e)) k y x 25) (means m c (ix4 0 k 0 0)) := by
  have h : (overlapped m c : Vec Ideal S3x96x128 .f32) = out1_A_3 c (ms1_0 t1_0) (hs1_0 t1_0) (ms1_1 t1_0) (hs1_1 t1_0) (ms1_2 t1_0) (hs1_2 t1_0)
      (ms1_3 t1_0) (hs1_3 t1_0) scM1_0 (Memref.isWhole_whole _) scM1_1 (Memref.isWhole_whole _) (U9 m c main_v81) (U9 m c main_v83) (U9 m c main_v85) := by
    refine (dat1 (U9 m) c).arrAt_eq_of_after_last 3 t1_0 (by decide +kernel) _ fun j => ?_
    rw [after1_3]
    unfold outsAt1
    rw [block_patches, block_weights, block_means]
    rfl
  rw [h, image_apply, V_patches, V_weights, V_means]
  generalize means m c = M
  generalize selected m c = S
  pointwise

/-- The image the program ends with, at a pixel. -/
theorem final_apply (c : Dev nD) (k : Fin 3) (y x : Fin 96) :
    (W11 m c main_v88 : FVec Ideal S1x3x96x96 .f32) (ix4 0 k y x) = (overlapped m c : Vec Ideal S3x96x128 .f32) (ix3 k y ⟨x.val, by omega⟩) := by
  have h : W11 m c main_v88 = _ := image_of (W10 m c)
  rw [h, show W10 m c (Proc.devRef .tc main_v86) = overlapped m c from W10_result m c]
  generalize overlapped m c = A
  pointwise

end Cert.Knn.Fold
-- ==== Proof.FoldScatter.lean ====
/- The reference's overlap-add: one update of the array at an offset, read at a pixel, and the chain of the
   twenty-five. -/
module

public import proofs.«01_k».proof.Proof.FoldSteps
public import proofs.«01_k».proof.Proof.Gen.ReferenceIdeal.Run
public import Idealize.ShloMosaic.Lib.Routing.OpsPair

@[expose] public section

set_option maxRecDepth 16384

noncomputable section

namespace Cert.Knn.Fold

open Idealize.ShloMosaic Cert.ReferenceIdeal Cert.ReferenceIdeal.Gen
open Idealize.ShloMosaic.TcCoe Idealize.ShloMosaic.Tactic

/-- A fold in which at most one place `n₀` acts is its one action. -/
theorem foldl_one {N : Nat} (L : List (Fin N)) (hL : L.Nodup) (p : Fin N → Prop) [DecidablePred p] (u : Fin N → EReal) (n₀ : Fin N)
    (hp : ∀ n, p n → n = n₀) (h₀ : p n₀) (a : EReal) :
    L.foldl (fun r n => if p n then r + u n else r) a = if n₀ ∈ L then a + u n₀ else a := by
  induction L generalizing a with
  | nil => simp
  | cons n L ih =>
    rw [List.foldl_cons, ih (List.nodup_cons.mp hL).2]
    by_cases hn : n = n₀
    · subst hn
      rw [if_pos h₀, if_neg (List.nodup_cons.mp hL).1, if_pos (List.mem_cons_self ..)]
    · rw [if_neg fun q => hn (hp n q)]
      have : (n₀ ∈ n :: L) ↔ n₀ ∈ L := by
        rw [List.mem_cons]
        exact ⟨fun q => q.resolve_left fun e => hn e.symm, .inr⟩
      simp only [this]

/-- A fold in which no place acts stays. -/
theorem foldl_none {N : Nat} (L : List (Fin N)) (p : Fin N → Prop) [DecidablePred p] (u : Fin N → EReal) (hp : ∀ n, ¬p n) (a : EReal) :
    L.foldl (fun r n => if p n then r + u n else r) a = a := by
  induction L generalizing a with
  | nil => rfl
  | cons n L ih => rw [List.foldl_cons, if_neg (hp n), ih]

/-- The dimension numbers of an update. -/
abbrev dims : ScatterDims S3x96x96 S2 S3x92x92 := scatter_S3x96x96_S2_S3x92x92_012_n_12_0

theorem start_0 (j : S3x92x92.Idx) (idx : IVec S2 32) : dims.start j idx 0 = 0 := by
  unfold ScatterDims.start
  exact dif_neg (show ¬(0 : Fin 3) ∈ [1, 2] by decide)

theorem start_1 (j : S3x92x92.Idx) (idx : IVec S2 32) : dims.start j idx 1 = (idx (ix1 0)).toInt := by
  unfold ScatterDims.start
  refine (dif_pos (show (1 : Fin 3) ∈ [1, 2] by decide)).trans (congrArg (fun k => (idx k).toInt) (funext fun b => ?_))
  match b with
  | ⟨0, _⟩ => rfl

theorem start_2 (j : S3x92x92.Idx) (idx : IVec S2 32) : dims.start j idx 2 = (idx (ix1 1)).toInt := by
  unfold ScatterDims.start
  refine (dif_pos (show (2 : Fin 3) ∈ [1, 2] by decide)).trans (congrArg (fun k => (idx k).toInt) (funext fun b => ?_))
  match b with
  | ⟨0, _⟩ => rfl

theorem window_eq (j : S3x92x92.Idx) (a : Fin 3) : dims.window j a = (j a).val := by
  fin_cases a <;> rfl

/-- One update at a pixel: its entry is added where the update, laid at the offset, covers the pixel. -/
theorem scatter_apply (X : FVec Ideal S3x96x96 .f32) (idx : IVec S2 32) (upd : FVec Ideal S3x92x92 .f32) (i j : Nat)
    (hi : (idx (ix1 0)).toInt = i) (hj : (idx (ix1 1)).toInt = j) (c : Fin 3) (y x : Fin 96) :
    Host.scatter dims (FloatOps.addf (F := Ideal) (φ := .f32)) X idx upd (ix3 c y x)
      = if h : (i ≤ y.val ∧ y.val < i + 92) ∧ (j ≤ x.val ∧ x.val < j + 92) then
          X (ix3 c y x) + upd (ix3 c ⟨y.val - i, by omega⟩ ⟨x.val - j, by omega⟩)
        else X (ix3 c y x) := by
  rw [Routing.scatter_at]
  have lands : ∀ k : S3x92x92.Idx, dims.resultIdx? k idx = some (ix3 c y x)
      ↔ (k 0).val = c.val ∧ i + (k 1).val = y.val ∧ j + (k 2).val = x.val := by
    intro k
    rw [Routing.resultIdx?_eq_some]
    constructor
    · intro h
      have h0 := h 0
      have h1 := h 1
      have h2 := h 2
      rw [start_0, window_eq] at h0
      rw [start_1, window_eq, hi] at h1
      rw [start_2, window_eq, hj] at h2
      have e0 : (0 : Int) + ((k 0).val : Int) = (c.val : Int) := h0
      have e1 : (i : Int) + ((k 1).val : Int) = (y.val : Int) := h1
      have e2 : (j : Int) + ((k 2).val : Int) = (x.val : Int) := h2
      omega
    · rintro ⟨h0, h1, h2⟩ a
      rw [window_eq]
      match a with
      | ⟨0, _⟩ =>
        refine (congrArg (· + _) (start_0 k idx)).trans ?_
        show (0 : Int) + ((k 0).val : Int) = (c.val : Int)
        omega
      | ⟨1, _⟩ =>
        refine (congrArg (· + _) ((start_1 k idx).trans hi)).trans ?_
        show (i : Int) + ((k 1).val : Int) = (y.val : Int)
        omega
      | ⟨2, _⟩ =>
        refine (congrArg (· + _) ((start_2 k idx).trans hj)).trans ?_
        show (j : Int) + ((k 2).val : Int) = (x.val : Int)
        omega
  split
  · next h =>
    have hk := foldl_one (List.finRange S3x92x92.numel) (List.nodup_finRange _)
      (fun n => dims.resultIdx? (S3x92x92.rowMajor.symm n) idx = some (ix3 c y x)) (fun n => upd (S3x92x92.rowMajor.symm n))
      (S3x92x92.rowMajor (ix3 c ⟨y.val - i, by omega⟩ ⟨x.val - j, by omega⟩)) (fun n hn => ?_) ?_ (X (ix3 c y x))
    · rw [if_pos (List.mem_finRange _), Equiv.symm_apply_apply] at hk
      exact hk
    · rw [← Equiv.symm_apply_eq]
      obtain ⟨h0, h1, h2⟩ := (lands _).mp hn
      generalize S3x92x92.rowMajor.symm n = k at *
      funext a
      apply Fin.ext
      match a with
      | ⟨0, _⟩ => exact h0
      | ⟨1, _⟩ => show (k 1).val = y.val - i; omega
      | ⟨2, _⟩ => show (k 2).val = x.val - j; omega
    · show dims.resultIdx? _ idx = _
      rw [Equiv.symm_apply_apply, lands]
      refine ⟨rfl, ?_, ?_⟩
      · show i + (y.val - i) = y.val
        omega
      · show j + (x.val - j) = x.val
        omega
  · next h =>
    refine foldl_none _ (fun n => dims.resultIdx? (S3x92x92.rowMajor.symm n) idx = some (ix3 c y x)) (fun n => upd (S3x92x92.rowMajor.symm n)) (fun n hn => h ?_) _
    obtain ⟨h0, h1, h2⟩ := (lands _).mp hn
    have b1 : ((S3x92x92.rowMajor.symm n) 1).val < 92 := ((S3x92x92.rowMajor.symm n) 1).isLt
    have b2 : ((S3x92x92.rowMajor.symm n) 2).val < 92 := ((S3x92x92.rowMajor.symm n) 2).isLt
    omega

/-- The word of an offset. -/
abbrev word (n : Nat) : IVec S1 32 := broadcastInDim S1 ![] bcast_S_S1 (constantI S_ 32 (BitVec.ofNat 32 n))

theorem slices_at : ∀ k : Fin 25, S92x92x3x5x5.Slices ![0, 0, 0, k.val / 5, k.val % 5] S92x92x3x1x1 := by decide

/-- The updates of offset `k`: the patches' entries at that place of the patch, channel first. -/
def layer (P : FVec Ideal S92x92x3x5x5 .f32) (k : Nat) (h : k < 25) : FVec Ideal S3x92x92 .f32 :=
  transpose S3x92x92 [2, 0, 1] (shapeCast S92x92x3 (extractStridedSlice S92x92x3x1x1 ![0, 0, 0, k / 5, k % 5] P (slices_at ⟨k, h⟩))
    shapeCasts_S92x92x3x1x1_S92x92x3) transposes_S92x92x3_S3x92x92_2_0_1

/-- The array after the first `k` updates. -/
def laid (P : FVec Ideal S92x92x3x5x5 .f32) : (k : Nat) → k ≤ 25 → FVec Ideal S3x96x96 .f32
  | 0, _ => broadcastInDim S3x96x96 ![] bcast_S_S3x96x96 (constant S_ .f32 0x00000000#32)
  | k + 1, h => Host.scatter dims (FloatOps.addf (F := Ideal) (φ := .f32)) (laid P k (Nat.le_of_succ_le h))
      (concatenate S2 0 [⟨S1, word (k / 5)⟩, ⟨S1, word (k % 5)⟩] concatenates_S1_S1_S2_d0) (layer P k h)

theorem layer_apply (P : FVec Ideal S92x92x3x5x5 .f32) (k : Nat) (h : k < 25) (c : Fin 3) (p q : Fin 92) :
    layer P k h (ix3 c p q) = P (ix5 p q c ⟨k / 5, by omega⟩ ⟨k % 5, by omega⟩) := by
  unfold layer
  pointwise

/-- The array after the first `k` updates, at a pixel. -/
theorem laid_apply (P : FVec Ideal S92x92x3x5x5 .f32) (k : Nat) (h : k ≤ 25) (c : Fin 3) (y x : Fin 96) :
    laid P k h (ix3 c y x)
      = folded (fun e p q => P (ix5 p q ⟨e.val / 25, by omega⟩ ⟨e.val % 25 / 5, by omega⟩ ⟨e.val % 5, by omega⟩)) c y x k := by
  induction k with
  | zero =>
    rw [laid, folded]
    pointwise
  | succ k ih =>
    have hw : ∀ n : Nat, n < 5 → (BitVec.ofNat 32 n).toInt = (n : Int) := by decide
    rw [laid, scatter_apply _ _ _ (k / 5) (k % 5) ?_ ?_, ih, folded]
    · have hc : ((k / 5 ≤ y.val ∧ y.val < k / 5 + 92) ∧ (k % 5 ≤ x.val ∧ x.val < k % 5 + 92))
          ↔ (k < 25 ∧ (k / 5 ≤ y.val ∧ y.val < k / 5 + 92) ∧ (k % 5 ≤ x.val ∧ x.val < k % 5 + 92)) :=
        ⟨fun q => ⟨h, q⟩, fun q => q.2⟩
      by_cases hq : (k / 5 ≤ y.val ∧ y.val < k / 5 + 92) ∧ (k % 5 ≤ x.val ∧ x.val < k % 5 + 92)
      · rw [dif_pos hq, dif_pos (hc.mp hq), layer_apply]
        have e1 : (25 * c.val + k) / 25 = c.val := by omega
        have e2 : (25 * c.val + k) % 25 / 5 = k / 5 := by omega
        have e3 : (25 * c.val + k) % 5 = k % 5 := by omega
        simp only [e1, e2, e3]
      · rw [dif_neg hq, dif_neg fun q => hq q.2]
    · pointwise
      exact hw _ (by omega)
    · pointwise
      exact hw _ (by omega)

/-- The reference's quotient is that of the two chains. -/
theorem quotient_eq (V : Valuation τ sig (Elt Ideal)) : Cert.ReferenceIdeal.Value.res_main_v482 V
    = Host.divf (laid (Cert.ReferenceIdeal.Value.res_main_v126 V) 25 le_rfl) (laid (Cert.ReferenceIdeal.Value.res_main_v305 V) 25 le_rfl) := by
  rfl

end Cert.Knn.Fold
-- ==== Proof.FoldReference.lean ====
/- The reference's image of the second call, at a pixel. -/
module

public import proofs.«01_k».proof.Proof.FoldScatter
public import Idealize.ShloMosaic.Lib.Claim

@[expose] public section

set_option maxRecDepth 16384

noncomputable section

namespace Cert.Knn.Fold

open Idealize.ShloMosaic Cert.ReferenceIdeal Cert.ReferenceIdeal.Gen Cert.ReferenceIdeal.Value
open Idealize.ShloMosaic.TcCoe Idealize.ShloMosaic.StableHlo

/-- The reference's last lines: the quotient and the channel means, halved and shifted. -/
def finished (q : FVec Ideal S3x96x96 .f32) (mean : FVec Ideal S1x3x1x1 .f32) : FVec Ideal S1x3x96x96 .f32 :=
  addf (mulf (addf (broadcastInDim S1x3x96x96 ![1, 2, 3] bcast_S3x96x96_S1x3x96x96_1_2_3 q)
    (broadcastInDim S1x3x96x96 ![0, 1, 2, 3] bcast_S1x3x1x1_S1x3x96x96_0_1_2_3 mean)) (broadcastInDim S1x3x96x96 ![] bcast_S_S1x3x96x96 (constant S_ .f32 0x3F000000#32)))
    (broadcastInDim S1x3x96x96 ![] bcast_S_S1x3x96x96 (constant S_ .f32 0x3F000000#32))

/-- A pixel of it: the pixel of the two sums and the mean. -/
theorem finished_apply (a b : FVec Ideal S3x96x96 .f32) (mean : FVec Ideal S1x3x1x1 .f32) (k : Fin 3) (y x : Fin 96) :
    finished (Host.divf a b) mean (ix4 0 k y x) = pixel (a (ix3 k y x)) (b (ix3 k y x)) (mean (ix4 0 k 0 0)) := by
  unfold finished
  pointwise
  rfl

/-- The rows the reference lays, read along the patch. -/
theorem patches_apply (s : FVec Ideal S8464x75 .f32) (p q : Fin 92) (c : Fin 3) (i j : Fin 5) :
    (shapeCast S92x92x3x5x5 s shapeCasts_S8464x75_S92x92x3x5x5) (ix5 p q c i j)
      = s (ix2 ⟨p.val * 92 + q.val, by omega⟩ ⟨c.val * 25 + i.val * 5 + j.val, by omega⟩) := by
  pointwise

/-- The reference's weights are the same at every patch. -/
theorem weights_apply (V : Valuation τ sig (Elt Ideal)) (p q : Fin 92) (c : Fin 3) (i j : Fin 5) :
    (res_main_v305 V : FVec Ideal S92x92x3x5x5 .f32) (ix5 p q c i j)
      = (V main_arg1 : FVec Ideal S75 .f32) (ix1 ⟨c.val * 25 + i.val * 5 + j.val, by omega⟩) := by
  unfold res_main_v305
  generalize (V (Proc.devRef .tc main_arg1)) = W
  pointwise

/-- The reference's image at a pixel, from the rows it lays. -/
theorem reference_apply (V : Valuation τ sig (Elt Ideal)) (s : FVec Ideal S8464x75 .f32) (mean : FVec Ideal S1x3x1x1 .f32)
    (hs : res_main_v126 V = shapeCast S92x92x3x5x5 s shapeCasts_S8464x75_S92x92x3x5x5) (k : Fin 3) (y x : Fin 96) :
    finished (res_main_v482 V) mean (ix4 0 k y x)
    = pixel (folded (fun e p q => s (ix2 ⟨p.val * 92 + q.val, by omega⟩ e)) k y x 25)
        (folded (fun e _ _ => (V main_arg1 : FVec Ideal S75 .f32) (ix1 e)) k y x 25) (mean (ix4 0 k 0 0)) := by
  have he : ∀ e : Fin 75, e.val / 25 * 25 + e.val % 25 / 5 * 5 + e.val % 5 = e.val := fun e => by omega
  rw [quotient_eq, finished_apply, laid_apply, laid_apply, hs]
  simp only [patches_apply, weights_apply, he]

end Cert.Knn.Fold
-- ==== Proof.ImageClaim.lean ====
/- The claim: from the image, the kernel's denoised image and the reference's are equal. -/
module

public import proofs.«01_k».proof.Proof.Columns
public import proofs.«01_k».proof.Proof.FoldArray
public import proofs.«01_k».proof.Proof.FoldReference
public import proofs.«01_k».proof.Defs

@[expose] public section

set_option maxRecDepth 16384

noncomputable section

namespace Cert.Knn

open Idealize.ShloMosaic Idealize.ShloMosaic.Pipeline Idealize.SL.Sem
open Idealize.ShloMosaic.TcCoe Idealize.ShloMosaic.StableHlo

/-- The reference's run, its image written as the quotient of its two folds, finished with the channel means. -/
theorem reference_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v489)
        = Fold.finished (Cert.ReferenceIdeal.Value.res_main_v482 (launchContents m c)) (Fold.average (launchContents m c Cert.ReferenceIdeal.main_arg0))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) := by
  refine (θ_run _ _ _).mono (fun r h c => ⟨(h c).1.trans ?_, (h c).2⟩) (Cert.ReferenceIdeal.Value.run m ρ)
  rfl

/-- The first call's array is all the fold reads of it the reference's weighted sums, so the two programs' images agree. -/
theorem image_claim [Cert.Pre_separated.Facts] :
    Cert.algebraic_KernelIdeal_ReferenceIdeal_pre_separated (hKernelIdeal := Cert.KernelIdeal.Gen.facts) (hReferenceIdeal := Cert.ReferenceIdeal.Gen.facts) := by
  intro m g m' g' hpre hargs
  refine ⟨fun c => Cert.KernelIdeal.Gen.W11 m c Cert.KernelIdeal.main_v88,
    (θ_run _ _ _).mono (fun r h c => h.1 c) (Cert.KernelIdeal.Gen.run_whole m g), ?_⟩
  refine (θ_run _ _ _).mono (fun r h c => ⟨funext fun i => ?_, (h c).2⟩) (reference_run m' g')
  obtain ⟨h0, h1, h2⟩ := hargs c
  obtain ⟨k, y, x, rfl⟩ : ∃ (k : Fin 3) (y x : Fin 96), i = ix4 0 k y x :=
    ⟨i 1, i 2, i 3, by
      funext a
      match a with
      | ⟨0, _⟩ => exact Subsingleton.elim (α := Fin 1) _ _
      | ⟨1, _⟩ => rfl
      | ⟨2, _⟩ => rfl
      | ⟨3, _⟩ => rfl⟩
  have e0 : launchContents m' c Cert.ReferenceIdeal.main_arg0 = m ((c.tc : Thread Cert.KernelIdeal.nD Cert.KernelIdeal.τ).loc Cert.KernelIdeal.main_arg0) := h0
  have e1 : launchContents m' c Cert.ReferenceIdeal.main_arg1 = m ((c.tc : Thread Cert.KernelIdeal.nD Cert.KernelIdeal.τ).loc Cert.KernelIdeal.main_arg1) := h1
  have e2 : launchContents m' c Cert.ReferenceIdeal.main_arg2 = m ((c.tc : Thread Cert.KernelIdeal.nD Cert.KernelIdeal.τ).loc Cert.KernelIdeal.main_arg2) := h2
  have hs := reference_eq (launchContents m' c)
  refine (congrFun (h c).1 (ix4 0 k y x)).trans ((Fold.reference_apply (launchContents m' c) _ _ hs k y x).trans ?_)
  refine Eq.trans ?_ ((Fold.final_apply m c k y x).trans (Fold.array_apply m c k y ⟨x.val, by omega⟩)).symm
  rw [show launchContents m' c (Proc.devRef .tc Cert.ReferenceIdeal.main_arg0) = _ from e0, show launchContents m' c (Proc.devRef .tc Cert.ReferenceIdeal.main_arg1) = _ from e1,
    show launchContents m' c (Proc.devRef .tc Cert.ReferenceIdeal.main_arg2) = _ from e2]
  have hc : ∀ (e : Fin 75) (p q : Fin 92), nearestSum (patches (image (m ((c : Thread Cert.KernelIdeal.nD Cert.KernelIdeal.τ).loc Cert.KernelIdeal.main_arg0))))
        (m ((c : Thread Cert.KernelIdeal.nD Cert.KernelIdeal.τ).loc Cert.KernelIdeal.main_arg1)) (m ((c : Thread Cert.KernelIdeal.nD Cert.KernelIdeal.τ).loc Cert.KernelIdeal.main_arg2))
        (ix2 ⟨p.val * 92 + q.val, by omega⟩ e)
      = (Cert.KernelIdeal.Gen.selected m c : FVec Ideal Cert.KernelIdeal.S128x8704 .f32) (ix2 ⟨e.val, by omega⟩ ⟨p.val * 92 + q.val, by omega⟩) := fun e p q =>
    (columns_agree m c (hpre c) ⟨e.val, by omega⟩ e.isLt ⟨p.val * 92 + q.val, by omega⟩ (by show p.val * 92 + q.val < 8464; omega)).symm
  simp only [hc]

end Cert.Knn
-- ==== Proof.Second.Point.lean ====
/- What the second call alone leaves on its one grid point: the same two accumulators, and the image made of them. -/
module

public import proofs.«01_k».proof.Proof.FoldPoint
public import proofs.«01_k».proof.Proof.Gen.FoldIdeal.Value

@[expose] public section

set_option maxRecDepth 16384

noncomputable section

namespace Cert.Knn.Second

open Idealize.ShloMosaic Idealize.ShloMosaic.Pipeline Cert.FoldIdeal Cert.FoldIdeal.Gen Idealize.SL.Sem
open Cert.Knn.Fold (stored patchTile weightTile patchTile_apply weightTile_apply canon_stored hz3)
open Idealize.ShloMosaic.TcCoe Idealize.ShloMosaic.Tactic

/-- The numerator's stores are the recursive list. -/
theorem stores_numerator (c : Dev nD) (arg0 : Memref sig .tc .vmem S75x92x92 .f32) (harg0 : arg0.IsWhole)
    (arg4 : Memref sig .tc .vmem S3x96x128 .f32) (x0 : Vec Ideal S75x92x92 .f32) :
    kernelRun0_A.sl.HS0_76 c arg0 harg0 arg4 x0 = stored arg4 (patchTile arg0 harg0 x0) 75 le_rfl := by
  sl_kernel_rfl

/-- The denominator's stores are the recursive list. -/
theorem stores_denominator (c : Dev nD) (arg1 : Memref sig .tc .vmem S75x8x128 .f32) (harg1 : arg1.IsWhole)
    (arg5 : Memref sig .tc .vmem S3x96x128 .f32) (x1 : Vec Ideal S75x8x128 .f32) :
    kernelRun0_A.sl.HS1_76 c arg1 harg1 arg5 x1 = stored arg5 (weightTile arg1 harg1 x1) 75 le_rfl := by
  sl_kernel_rfl

/-- The image at a pixel. -/
theorem image_apply (c : Dev nD) (arg0 : Memref sig .tc .vmem S75x92x92 .f32) (harg0 : arg0.IsWhole)
    (arg1 : Memref sig .tc .vmem S75x8x128 .f32) (harg1 : arg1.IsWhole) (arg2 : Memref sig .tc .vmem S3x8x128 .f32) (harg2 : arg2.IsWhole)
    (arg3 : Memref sig .tc .vmem S3x96x128 .f32) (harg3 : arg3.IsWhole) (arg4 : Memref sig .tc .vmem S3x96x128 .f32) (harg4 : arg4.IsWhole)
    (arg5 : Memref sig .tc .vmem S3x96x128 .f32) (harg5 : arg5.IsWhole)
    (x0 : Vec Ideal S75x92x92 .f32) (x1 : Vec Ideal S75x8x128 .f32) (x2 : Vec Ideal S3x8x128 .f32) (k : Fin 3) (y : Fin 96) (x : Fin 128) :
    out0_A_3 c arg0 harg0 arg1 harg1 arg2 harg2 arg3 harg3 arg4 harg4 arg5 harg5 x0 x1 x2 (ix3 k y x)
      = pixel (folded (fun e p q => x0 (ix3 e p q)) k y x 25) (folded (fun e _ _ => x1 (ix3 e 0 0)) k y x 25) (x2 (ix3 k 0 x)) := by
  unfold out0_A_3
  rw [View.read_writes_eq_canon _ _ _ (cover0_A_3 c arg0 harg0 arg1 harg1 arg2 harg2 arg3 harg3 arg4 harg4 arg5 harg5 x0 x1 x2)]
  unfold kernelRun0_A
  dsimp only
  delta kernelRun0_A.sl.v1283 kernelRun0_A.sl.v1284
  rw [stores_numerator, stores_denominator, View.canon_unit_zero hz3, View.readCov_eq_canon', View.readCov_eq_canon', View.readAt_eq_ld, harg2.read_unread]
  have hn := canon_stored arg4 (patchTile arg0 harg0 x0) 75 le_rfl k y x
  have hd := canon_stored arg5 (weightTile arg1 harg1 x1) 75 le_rfl k y x
  rw [folded_stays _ _ _ _ (75 - 25 * k.val) (by omega)] at hn hd
  simp only [patchTile_apply, weightTile_apply] at hn hd
  generalize View.canon (stored arg4 (patchTile arg0 harg0 x0) 75 le_rfl) = A at *
  generalize View.canon (stored arg5 (weightTile arg1 harg1 x1) 75 le_rfl) = B at *
  unfold k0_pay188
  dsimp only
  pointwise
  rw [hn, hd]
  rfl

end Cert.Knn.Second
-- ==== Proof.Second.Array.lean ====
/- The array the second call alone returns, at a pixel: what its one grid point leaves, from what the host lines hand it. -/
module

public import proofs.«01_k».proof.Proof.Second.Point
public import Idealize.ShloMosaic.Lib.StableHlo.Run
public import Idealize.ShloMosaic.Lib.Claim
public import Idealize.ShloMosaic.Lib.Pipeline.ValueKit

@[expose] public section

set_option maxRecDepth 16384

noncomputable section

namespace Cert.Knn.Second

open Idealize.ShloMosaic Idealize.ShloMosaic.Pipeline Cert.FoldIdeal Cert.FoldIdeal.Gen Idealize.SL.Sem
open Idealize.ShloMosaic.TcCoe Idealize.ShloMosaic.StableHlo

variable (m : (ℓ : Loc nD τ sig) → Buf (Elt Ideal) ℓ)

/-- The first call's array, as the second call is given it. -/
abbrev sums (c : Dev nD) : FVec Ideal S128x8704 .f32 := m ((c.tc : Thread nD τ).loc main_arg0)

/-- The patch weights. -/
abbrev weights (c : Dev nD) : FVec Ideal S75 .f32 := m ((c.tc : Thread nD τ).loc main_arg1)

/-- The channel means. -/
abbrev means (c : Dev nD) : FVec Ideal S1x3x1x1 .f32 := m ((c.tc : Thread nD τ).loc main_arg2)

theorem V_patches (c : Dev nD) : V m c main_v1 = shapeCast S75x92x92
    (extractStridedSlice S75x8464 ![0, 0] (sums m c) slices_S128x8704_S75x8464_0_0) shapeCasts_S75x8464_S75x92x92 := by
  rfl

theorem V_weights (c : Dev nD) : V m c main_v3 = broadcastInDim S75x8x128 ![0, 1, 2] bcast_S75x1x1_S75x8x128_0_1_2
    (broadcastInDim S75x1x1 ![0] bcast_S75_S75x1x1_0 (weights m c)) := by
  rfl

theorem V_means (c : Dev nD) : V m c main_v5 = broadcastInDim S3x8x128 ![0, 1, 2] bcast_S3x1x1_S3x8x128_0_1_2
    (shapeCast S3x1x1 (means m c) shapeCasts_S1x3x1x1_S3x1x1) := by
  rfl

theorem at_0 : ∀ (t : Fin cfg0.N) (a : Fin 3), win0_0.index t a = 0 := by decide
theorem at_1 : ∀ (t : Fin cfg0.N) (a : Fin 3), win0_1.index t a = 0 := by decide
theorem at_2 : ∀ (t : Fin cfg0.N) (a : Fin 3), win0_2.index t a = 0 := by decide

/-- The windows hand the grid point the three operands whole. -/
theorem block_patches (c : Dev nD) (t : Fin cfg0.N) : (iblk m c 0 t : Vec Ideal S75x92x92 .f32) = V m c main_v1 := by
  funext j
  blk_ext [iblk, at_0 t]

theorem block_weights (c : Dev nD) (t : Fin cfg0.N) : (iblk m c 1 t : Vec Ideal S75x8x128 .f32) = V m c main_v3 := by
  funext j
  blk_ext [iblk, at_1 t]

theorem block_means (c : Dev nD) (t : Fin cfg0.N) : (iblk m c 2 t : Vec Ideal S3x8x128 .f32) = V m c main_v5 := by
  funext j
  blk_ext [iblk, at_2 t]

/-- The returned array at a pixel. -/
theorem array_apply (c : Dev nD) (k : Fin 3) (y : Fin 96) (x : Fin 128) :
    ((dats m 0 c).arrAt 3 cfg0.N : Vec Ideal S3x96x128 .f32) (ix3 k y x)
    = pixel (folded (fun e p q => sums m c (ix2 ⟨e.val, by omega⟩ ⟨p.val * 92 + q.val, by omega⟩)) k y x 25)
        (folded (fun e _ _ => weights m c (ix1 e)) k y x 25) (means m c (ix4 0 k 0 0)) := by
  have h : ((dats m 0 c).arrAt 3 cfg0.N : Vec Ideal S3x96x128 .f32) = out0_A_3 c (ms0_0 t0_0) (hs0_0 t0_0) (ms0_1 t0_0) (hs0_1 t0_0) (ms0_2 t0_0) (hs0_2 t0_0)
      (ms0_3 t0_0) (hs0_3 t0_0) scM0_0 (Memref.isWhole_whole _) scM0_1 (Memref.isWhole_whole _) (V m c main_v1) (V m c main_v3) (V m c main_v5) := by
    refine (dats m 0 c).arrAt_eq_of_after_last 3 t0_0 (by decide +kernel) _ fun j => ?_
    rw [after0_3]
    unfold outsAt0
    rw [block_patches, block_weights, block_means]
    rfl
  rw [h, image_apply, V_patches, V_weights, V_means]
  pointwise

end Cert.Knn.Second
-- ==== Proof.Second.Reference.lean ====
/- The reference's image of the second call alone, at a pixel. -/
module

public import proofs.«01_k».proof.Proof.FoldReference
public import proofs.«01_k».proof.Proof.Gen.FoldReferenceIdeal.Run
public import Idealize.ShloMosaic.Lib.Claim

@[expose] public section

set_option maxRecDepth 16384

noncomputable section

namespace Cert.Knn.Second

open Idealize.ShloMosaic Cert.FoldReferenceIdeal Cert.FoldReferenceIdeal.Gen Cert.FoldReferenceIdeal.Value
open Cert.Knn.Fold (laid laid_apply)
open Idealize.ShloMosaic.TcCoe Idealize.ShloMosaic.StableHlo

/-- The reference's image, from its quotient and the means: the whole reference's, padded to 128 lanes. -/
def finished (q : FVec Ideal S3x96x96 .f32) (mean : FVec Ideal S1x3x1x1 .f32) : FVec Ideal S3x96x128 .f32 :=
  pad S3x96x128 ![0, 0, 0] ![0, 0, 32] ![0, 0, 0] (shapeCast _ (Cert.Knn.Fold.finished q mean) shapeCasts_S1x3x96x96_S3x96x96)
    (sitofp .f32 (constantI S_ 32 0#32)) pads_S3x96x96_S3x96x128_000_000_0320 h_S_

/-- On the image's own lanes it is the pixel of the two sums and the mean. -/
theorem finished_apply (a b : FVec Ideal S3x96x96 .f32) (mean : FVec Ideal S1x3x1x1 .f32) (k : Fin 3) (y : Fin 96) (x : Fin 128) (hx : x.val < 96) :
    finished (Host.divf a b) mean (ix3 k y x) = pixel (a (ix3 k y ⟨x.val, hx⟩)) (b (ix3 k y ⟨x.val, hx⟩)) (mean (ix4 0 k 0 0)) := by
  unfold finished Cert.Knn.Fold.finished
  pointwise
  rw [dif_pos hx]
  rfl

/-- The reference's patches are the first call's columns, read along the patch. -/
theorem patches_apply (V : Valuation τ sig (Elt Ideal)) (p q : Fin 92) (c : Fin 3) (i j : Fin 5) :
    (res_main_v2 V : FVec Ideal S92x92x3x5x5 .f32) (ix5 p q c i j)
      = (V main_arg0 : FVec Ideal S128x8704 .f32) (ix2 ⟨c.val * 25 + i.val * 5 + j.val, by omega⟩ ⟨p.val * 92 + q.val, by omega⟩) := by
  unfold res_main_v2
  generalize (V (Proc.devRef .tc main_arg0)) = W
  pointwise

/-- The reference's weights are the same at every patch. -/
theorem weights_apply (V : Valuation τ sig (Elt Ideal)) (p q : Fin 92) (c : Fin 3) (i j : Fin 5) :
    (res_main_v181 V : FVec Ideal S92x92x3x5x5 .f32) (ix5 p q c i j)
      = (V main_arg1 : FVec Ideal S75 .f32) (ix1 ⟨c.val * 25 + i.val * 5 + j.val, by omega⟩) := by
  unfold res_main_v181
  generalize (V (Proc.devRef .tc main_arg1)) = W
  pointwise

/-- The reference's quotient: the two arrays laid as the whole reference lays its own. -/
theorem quotient_eq (V : Valuation τ sig (Elt Ideal)) : res_main_v358 V = Host.divf (laid (res_main_v2 V) 25 le_rfl) (laid (res_main_v181 V) 25 le_rfl) := by
  rfl

/-- The reference's image at a pixel. -/
theorem reference_apply (V : Valuation τ sig (Elt Ideal)) (k : Fin 3) (y : Fin 96) (x : Fin 128) (hx : x.val < 96) :
    finished (res_main_v358 V) (V main_arg2) (ix3 k y x)
    = pixel (folded (fun e p q => (V main_arg0 : FVec Ideal S128x8704 .f32) (ix2 ⟨e.val, by omega⟩ ⟨p.val * 92 + q.val, by omega⟩)) k y x 25)
        (folded (fun e _ _ => (V main_arg1 : FVec Ideal S75 .f32) (ix1 e)) k y x 25) ((V main_arg2 : FVec Ideal S1x3x1x1 .f32) (ix4 0 k 0 0)) := by
  have he : ∀ e : Fin 75, e.val / 25 * 25 + e.val % 25 / 5 * 5 + e.val % 5 = e.val := fun e => by omega
  rw [quotient_eq, finished_apply _ _ _ _ _ _ hx, laid_apply, laid_apply]
  simp only [patches_apply, weights_apply, he]

end Cert.Knn.Second
-- ==== Proof.Second.Claim.lean ====
/- The second call's claim, whatever array and means it is given: its image and its reference's are equal on the image's lanes. -/
module

public import proofs.«01_k».proof.Proof.Second.Array
public import proofs.«01_k».proof.Proof.Second.Reference
public import proofs.«01_k».proof.Defs

@[expose] public section

set_option maxRecDepth 16384

noncomputable section

namespace Cert.Knn.Second

open Idealize.ShloMosaic Idealize.ShloMosaic.Pipeline Idealize.SL.Sem
open Idealize.ShloMosaic.TcCoe Idealize.ShloMosaic.StableHlo

theorem lane_word : ∀ n : Fin 128, IntOp.cmpi .slt (BitVec.ofNat 32 n.val) 96#32 = 1#1 → n.val < 96 := by decide

/-- The mask is set on the image's lanes alone. -/
theorem lane_of_mask [Cert.On_image_lanes.Facts] (a : FVec Ideal Cert.On_image_lanes.S128x8704 .f32) (pw : FVec Ideal Cert.On_image_lanes.S75 .f32)
    (mean : FVec Ideal Cert.On_image_lanes.S1x3x1x1 .f32) (k : Fin 3) (y : Fin 96) (x : Fin 128) (h : Cert.On_image_lanes.fn a pw mean (ix3 k y x) = 1#1) :
    x.val < 96 := by
  revert h
  unfold Cert.On_image_lanes.fn
  pointwise
  exact lane_word x

/-- The reference's run, its image at a pixel. -/
theorem reference_run (m : (ℓ : Loc Cert.FoldReferenceIdeal.nD Cert.FoldReferenceIdeal.τ Cert.FoldReferenceIdeal.sig) → Buf (Elt Ideal) ℓ)
    (ρ : Dev Cert.FoldReferenceIdeal.nD → PrngReg) :
    θ_run (Cert.FoldReferenceIdeal.defs (F := Ideal)) (onTc (τ := Cert.FoldReferenceIdeal.τ) (Cert.FoldReferenceIdeal.main (F := Ideal))) ⟨m, fun _ => 0, ρ⟩ fun r =>
      ∀ c : Dev Cert.FoldReferenceIdeal.nD,
      r.2.mem ((c.tc : Thread Cert.FoldReferenceIdeal.nD Cert.FoldReferenceIdeal.τ).loc Cert.FoldReferenceIdeal.main_v367)
        = finished (Cert.FoldReferenceIdeal.Value.res_main_v358 (launchContents m c)) (launchContents m c Cert.FoldReferenceIdeal.main_arg2)
      ∧ r.2.mem ((c.tc : Thread Cert.FoldReferenceIdeal.nD Cert.FoldReferenceIdeal.τ).loc Cert.FoldReferenceIdeal.main_arg0) = m ((c.tc : Thread Cert.FoldReferenceIdeal.nD Cert.FoldReferenceIdeal.τ).loc Cert.FoldReferenceIdeal.main_arg0)
      ∧ r.2.mem ((c.tc : Thread Cert.FoldReferenceIdeal.nD Cert.FoldReferenceIdeal.τ).loc Cert.FoldReferenceIdeal.main_arg1) = m ((c.tc : Thread Cert.FoldReferenceIdeal.nD Cert.FoldReferenceIdeal.τ).loc Cert.FoldReferenceIdeal.main_arg1)
      ∧ r.2.mem ((c.tc : Thread Cert.FoldReferenceIdeal.nD Cert.FoldReferenceIdeal.τ).loc Cert.FoldReferenceIdeal.main_arg2) = m ((c.tc : Thread Cert.FoldReferenceIdeal.nD Cert.FoldReferenceIdeal.τ).loc Cert.FoldReferenceIdeal.main_arg2) := by
  refine (θ_run _ _ _).mono (fun r h c => ⟨(h c).1.trans ?_, (h c).2⟩) (Cert.FoldReferenceIdeal.Value.run m ρ)
  rfl

/-- The claim of the second call alone. -/
theorem lanes_claim [Cert.On_image_lanes.Facts] :
    Cert.algebraic_FoldIdeal_FoldReferenceIdeal_on_image_lanes (hFoldIdeal := Cert.FoldIdeal.Gen.facts)
      (hFoldReferenceIdeal := Cert.FoldReferenceIdeal.Gen.facts) := by
  intro m g m' g' _ hargs
  refine ⟨fun c => (Cert.FoldIdeal.Gen.dats m 0 c).arrAt 3 Cert.FoldIdeal.cfg0.N,
    (θ_run _ _ _).mono (fun r h c => ⟨fun i _ => congrFun (h c).1 i, (h c).2⟩) (Cert.FoldIdeal.Value.run_blocks m g), ?_⟩
  refine (θ_run _ _ _).mono (fun r h c => ⟨fun i hi => ?_, (h c).2⟩) (reference_run m' g')
  obtain ⟨h0, h1, h2⟩ := hargs c
  obtain ⟨k, y, x, rfl⟩ : ∃ (k : Fin 3) (y : Fin 96) (x : Fin 128), i = ix3 k y x :=
    ⟨i 0, i 1, i 2, by funext a; match a with | ⟨0, _⟩ => rfl | ⟨1, _⟩ => rfl | ⟨2, _⟩ => rfl⟩
  have hx := lane_of_mask _ _ _ k y x hi
  refine (congrFun (h c).1 (ix3 k y x)).trans ((reference_apply (launchContents m' c) k y x hx).trans (Eq.trans ?_ (array_apply m c k y x).symm))
  have e0 : launchContents m' c Cert.FoldReferenceIdeal.main_arg0 = sums m c := h0
  have e1 : launchContents m' c Cert.FoldReferenceIdeal.main_arg1 = weights m c := h1
  have e2 : launchContents m' c Cert.FoldReferenceIdeal.main_arg2 = means m c := h2
  rw [e0, e1, e2]

end Cert.Knn.Second
-- ==== Proof.lean ====
module

public import proofs.«01_k».proof.Proof.Gen.KernelIdeal.Regions
public import proofs.«01_k».proof.Proof.Gen.Kernel.Regions
public import proofs.«01_k».proof.Defs
public import proofs.«01_k».proof.Proof.Words.Whole
public import proofs.«01_k».proof.Proof.ImageClaim
public import proofs.«01_k».proof.Proof.Second.Claim
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.FoldIdeal.Value
public import proofs.«01_k».proof.Proof.Gen.FoldReferenceIdeal.Run
public import proofs.«01_k».proof.Proof.Gen.Fold
public import proofs.«01_k».proof.Proof.Gen.Fold.Skeleton
public import proofs.«01_k».proof.Proof.Gen.Fold.Launch
public import proofs.«01_k».proof.Proof.Gen.Fold.Points
public import proofs.«01_k».proof.Proof.Gen.Fold.Frame
public import proofs.«01_k».proof.Proof.Gen.FoldIdeal
public import proofs.«01_k».proof.Proof.Gen.FoldIdeal.Skeleton
public import proofs.«01_k».proof.Proof.Gen.FoldIdeal.Launch
public import proofs.«01_k».proof.Proof.Gen.FoldIdeal.Points
public import proofs.«01_k».proof.Proof.Gen.FoldIdeal.Frame
public import proofs.«01_k».proof.Proof.Gen.FoldReferenceIdeal
public import Idealize.ShloMosaic.Adequacy
public import Idealize.ShloMosaic.Init

@[expose] public section

noncomputable section

namespace Cert.Proof

open Idealize.ShloMosaic Idealize.SL.Sem Cert.Kernel

/-- The shape facts the precondition's operations take. -/
theorem facts_separated : Cert.Pre_separated.Facts := by
  constructor <;> decide

/-- The shape facts the mask of image lanes takes. -/
theorem facts_image_lanes : Cert.On_image_lanes.Facts := by
  constructor <;> decide

/-- The reference runs, keeps its arguments and, having no semaphore, ends with none raised. -/
theorem frame_reference : Cert.quiescent_ReferenceIdeal (hReferenceIdeal := Cert.ReferenceIdeal.Gen.facts) := fun m ρ _ =>
  (θ_run _ _ _).mono (fun r h => And.intro (fun c => (h c).2) (sem_eq_zero_of_no_sems rfl r.2)) (Cert.ReferenceIdeal.Value.run m ρ)

/-- The second call's reference likewise. -/
theorem frame_fold_reference : Cert.quiescent_FoldReferenceIdeal (hFoldReferenceIdeal := Cert.FoldReferenceIdeal.Gen.facts) := fun m ρ _ =>
  (θ_run _ _ _).mono (fun r h => And.intro (fun c => (h c).2) (sem_eq_zero_of_no_sems rfl r.2)) (Cert.FoldReferenceIdeal.Value.run m ρ)

/-- Every claim: the kernel's frames are those of its run as it stands and over the extended reals, the second call's are
    the generated ones, the readings over the extended reals rewrite nothing, and the two value claims are
    `Cert.Knn.image_claim` and `Cert.Knn.Second.lanes_claim`. -/
theorem claim : Cert.Claim :=
  have := facts_separated
  have := facts_image_lanes
  ⟨Cert.Kernel.Gen.facts, Cert.KernelIdeal.Gen.facts, Cert.ReferenceIdeal.Gen.facts, Cert.Fold.Gen.facts, Cert.FoldIdeal.Gen.facts,
    Cert.FoldReferenceIdeal.Gen.facts, facts_separated, facts_image_lanes,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Fold.Gen.frame m ρ, fun m ρ _ => Cert.FoldIdeal.Gen.frame m ρ, frame_fold_reference,
    trivial, Cert.Knn.image_claim, trivial, Cert.Knn.Second.lanes_claim⟩

end Cert.Proof

end
